-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attn [hPre_topi_range : Cert.Pre_topi_range.Facts] (m : (ℓ : Loc Cert.Attn.nD Cert.Attn.τ Cert.Attn.sig) → Buf (Elt Bits) ℓ) : Prop :=
  ∀ c : Dev Cert.Attn.nD,
    (Cert.Pre_topi_range.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5)) (m ((c.tc : Thread Cert.Attn.nD Cert.Attn.τ).loc Cert.Attn.main_arg6))) = (fun _ => 1#1)

def Pre_AttnIdeal [hPre_topi_range : Cert.Pre_topi_range.Facts] (m : (ℓ : Loc Cert.AttnIdeal.nD Cert.AttnIdeal.τ Cert.AttnIdeal.sig) → Buf (Elt Ideal) ℓ) : Prop :=
  ∀ c : Dev Cert.AttnIdeal.nD,
    (Cert.Pre_topi_range.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal [hPre_topi_range : Cert.Pre_topi_range.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_topi_range.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Attn [hAttn : Cert.Attn.Facts] [hPre_topi_range : Cert.Pre_topi_range.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] [hPre_topi_range : Cert.Pre_topi_range.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] [hPre_topi_range : Cert.Pre_topi_range.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9))
      ∧ r.2.sem = fun _ => 0)

def preserves_Kernel_KernelIdeal : Prop :=
  True

def preserves_Attn_AttnIdeal : Prop :=
  True

def algebraic_AttnIdeal_AttnRefIdeal [hAttnIdeal : Cert.AttnIdeal.Facts] [hAttnRefIdeal : Cert.AttnRefIdeal.Facts] [hPre_topi_range : Cert.Pre_topi_range.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v170) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v13_0)) (v1 : (c : Dev Cert.ProjIdeal.nD) → Buf (Elt Ideal) ((c.tc : Thread Cert.ProjIdeal.nD Cert.ProjIdeal.τ).loc Cert.ProjIdeal.main_v13_1)) (v2 : (c : Dev Cert.ProjIdeal.nD) → Buf (Elt Ideal) ((c.tc : Thread Cert.ProjIdeal.nD Cert.ProjIdeal.τ).loc Cert.ProjIdeal.main_v13_2)) (v3 : (c : Dev Cert.ProjIdeal.nD) → Buf (Elt Ideal) ((c.tc : Thread Cert.ProjIdeal.nD Cert.ProjIdeal.τ).loc Cert.ProjIdeal.main_v13_3)) (v4 : (c : Dev Cert.ProjIdeal.nD) → Buf (Elt Ideal) ((c.tc : Thread Cert.ProjIdeal.nD Cert.ProjIdeal.τ).loc Cert.ProjIdeal.main_v13_4)) (v5 : (c : Dev Cert.ProjIdeal.nD) → Buf (Elt Ideal) ((c.tc : Thread Cert.ProjIdeal.nD Cert.ProjIdeal.τ).loc Cert.ProjIdeal.main_v13_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13_0) = v0 c
          ∧ r.2.mem ((c.tc : Thread Cert.ProjIdeal.nD Cert.ProjIdeal.τ).loc Cert.ProjIdeal.main_v13_1) = v1 c
          ∧ r.2.mem ((c.tc : Thread Cert.ProjIdeal.nD Cert.ProjIdeal.τ).loc Cert.ProjIdeal.main_v13_2) = v2 c
          ∧ r.2.mem ((c.tc : Thread Cert.ProjIdeal.nD Cert.ProjIdeal.τ).loc Cert.ProjIdeal.main_v13_3) = v3 c
          ∧ r.2.mem ((c.tc : Thread Cert.ProjIdeal.nD Cert.ProjIdeal.τ).loc Cert.ProjIdeal.main_v13_4) = v4 c
          ∧ r.2.mem ((c.tc : Thread Cert.ProjIdeal.nD Cert.ProjIdeal.τ).loc Cert.ProjIdeal.main_v13_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_v20) = v1 c
          ∧ r.2.mem ((c.tc : Thread Cert.ProjRefIdeal.nD Cert.ProjRefIdeal.τ).loc Cert.ProjRefIdeal.main_v21) = v2 c
          ∧ r.2.mem ((c.tc : Thread Cert.ProjRefIdeal.nD Cert.ProjRefIdeal.τ).loc Cert.ProjRefIdeal.main_v22) = v3 c
          ∧ r.2.mem ((c.tc : Thread Cert.ProjRefIdeal.nD Cert.ProjRefIdeal.τ).loc Cert.ProjRefIdeal.main_v23) = v4 c
          ∧ r.2.mem ((c.tc : Thread Cert.ProjRefIdeal.nD Cert.ProjRefIdeal.τ).loc Cert.ProjRefIdeal.main_v24) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hPre_topi_range : Cert.Pre_topi_range.Facts),
    quiescent_Kernel (hKernel := hKernel)
    ∧ quiescent_KernelIdeal (hKernelIdeal := hKernelIdeal)
    ∧ quiescent_ReferenceIdeal (hReferenceIdeal := hReferenceIdeal)
    ∧ quiescent_Attn (hAttn := hAttn) (hPre_topi_range := hPre_topi_range)
    ∧ quiescent_AttnIdeal (hAttnIdeal := hAttnIdeal) (hPre_topi_range := hPre_topi_range)
    ∧ quiescent_AttnRefIdeal (hAttnRefIdeal := hAttnRefIdeal) (hPre_topi_range := hPre_topi_range)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ preserves_Attn_AttnIdeal
    ∧ algebraic_AttnIdeal_AttnRefIdeal (hAttnIdeal := hAttnIdeal) (hAttnRefIdeal := hAttnRefIdeal) (hPre_topi_range := hPre_topi_range)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
-- ==== Pre_topi_range.lean ====
abbrev S2x16x64x4 : Shape := ⟨4, ![2, 16, 64, 4]⟩
abbrev S2x16x2048x64 : Shape := ⟨4, ![2, 16, 2048, 64]⟩
abbrev S2x16x64x64 : Shape := ⟨4, ![2, 16, 64, 64]⟩
abbrev S2x16x2048x3 : Shape := ⟨4, ![2, 16, 2048, 3]⟩
abbrev S_ : Shape := ⟨0, ![]⟩

class Facts : Prop where
  bcast_S_S2x16x64x4 : S_.BroadcastsInDim S2x16x64x4 (![] : Fin 0 → Fin S2x16x64x4.rank)
  reducesTo_S2x16x64x4_S_d0_1_2_3 : S2x16x64x4.ReducesTo [0, 1, 2, 3] S_
  h_S_ : 0 < S_.numel

variable [Facts]

def fn {F : FTy → Type} [FloatOps F] (main_arg0 : IVec S2x16x64x4 32) (main_arg1 : FVec F S2x16x2048x64 .f32) (main_arg2 : FVec F S2x16x2048x64 .f32) (main_arg3 : FVec F S2x16x2048x64 .f32) (main_arg4 : FVec F S2x16x64x64 .f32) (main_arg5 : FVec F S2x16x64x64 .f32) (main_arg6 : FVec F S2x16x2048x3 .f32) : IVec S_ 1 :=
  let main_c : IVec S_ 32 := constantI S_ 32 4294967295#32
  let main_v0 : IVec S2x16x64x4 32 := broadcastInDim S2x16x64x4 ![] bcast_S_S2x16x64x4 main_c
  let main_v1 : IVec S2x16x64x4 1 := cmpi .sge main_arg0 main_v0
  let main_c_0 : IVec S_ 32 := constantI S_ 32 64#32
  let main_v2 : IVec S2x16x64x4 32 := broadcastInDim S2x16x64x4 ![] bcast_S_S2x16x64x4 main_c_0
  let main_v3 : IVec S2x16x64x4 1 := cmpi .slt main_arg0 main_v2
  let main_v4 : IVec S2x16x64x4 1 := andi main_v1 main_v3
  let main_c_1 : IVec S_ 1 := constantI S_ 1 1#1
  let main_v5 : IVec S_ 1 := (fun x v => Host.reduce IntOp.andi x v reducesTo_S2x16x64x4_S_d0_1_2_3 h_S_) main_v4 main_c_1
  main_v5
-- ==== Kernel.lean ====
abbrev S2x2048x1024 : Shape := ⟨3, ![2, 2048, 1024]⟩
abbrev S2x2048x3 : Shape := ⟨3, ![2, 2048, 3]⟩
abbrev S3x1024 : Shape := ⟨2, ![3, 1024]⟩
abbrev S1024 : Shape := ⟨1, ![1024]⟩
abbrev S1024x1024 : Shape := ⟨2, ![1024, 1024]⟩
abbrev S1024x48 : Shape := ⟨2, ![1024, 48]⟩
abbrev S32 : Shape := ⟨1, ![32]⟩
abbrev S4096x1024 : Shape := ⟨2, ![4096, 1024]⟩
abbrev S4096x3 : Shape := ⟨2, ![4096, 3]⟩
abbrev S1x1024 : Shape := ⟨2, ![1, 1024]⟩
abbrev S8x8 : Shape := ⟨2, ![8, 8]⟩
abbrev S_ : Shape := ⟨0, ![]⟩
abbrev S1x32 : Shape := ⟨2, ![1, 32]⟩
abbrev S8x1x8x1 : Shape := ⟨4, ![8, 1, 8, 1]⟩
abbrev S1x1x1x32 : Shape := ⟨4, ![1, 1, 1, 32]⟩
abbrev S8x1x8x32 : Shape := ⟨4, ![8, 1, 8, 32]⟩
abbrev S8x256 : Shape := ⟨2, ![8, 256]⟩
abbrev S4096x48 : Shape := ⟨2, ![4096, 48]⟩
abbrev S128x1024 : Shape := ⟨2, ![128, 1024]⟩
abbrev S256x1024 : Shape := ⟨2, ![256, 1024]⟩
abbrev S256x3 : Shape := ⟨2, ![256, 3]⟩
abbrev S256x48 : Shape := ⟨2, ![256, 48]⟩
abbrev S8x1024 : Shape := ⟨2, ![8, 1024]⟩
abbrev S2x2048x16x64 : Shape := ⟨4, ![2, 2048, 16, 64]⟩
abbrev S2x16x2048x64 : Shape := ⟨4, ![2, 16, 2048, 64]⟩
abbrev S2x64x16x64 : Shape := ⟨4, ![2, 64, 16, 64]⟩
abbrev S2x16x64x64 : Shape := ⟨4, ![2, 16, 64, 64]⟩
abbrev S2x2048x16x3 : Shape := ⟨4, ![2, 2048, 16, 3]⟩
abbrev S2x16x2048x3 : Shape := ⟨4, ![2, 16, 2048, 3]⟩
abbrev S1x1x1024 : Shape := ⟨3, ![1, 1, 1024]⟩
abbrev S2x16x64x32x64 : Shape := ⟨5, ![2, 16, 64, 32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S2048x64 : Shape := ⟨2, ![2048, 64]⟩
abbrev S1x1x2048x64 : Shape := ⟨4, ![1, 1, 2048, 64]⟩
abbrev S2x16x2048 : Shape := ⟨3, ![2, 16, 2048]⟩
abbrev S2x16x2048x1 : Shape := ⟨4, ![2, 16, 2048, 1]⟩
abbrev S64x1 : Shape := ⟨2, ![64, 1]⟩
abbrev S64x64 : Shape := ⟨2, ![64, 64]⟩
abbrev S1x1x64x64 : Shape := ⟨4, ![1, 1, 64, 64]⟩
abbrev S2x16x64x4 : Shape := ⟨4, ![2, 16, 64, 4]⟩
abbrev S1x1x64x4 : Shape := ⟨4, ![1, 1, 64, 4]⟩
abbrev S1x1x2048x3 : Shape := ⟨4, ![1, 1, 2048, 3]⟩
abbrev S32x160 : Shape := ⟨2, ![32, 160]⟩
abbrev S32x128 : Shape := ⟨2, ![32, 128]⟩
abbrev S1x1x32x64 : Shape := ⟨4, ![1, 1, 32, 64]⟩
abbrev S32x64 : Shape := ⟨2, ![32, 64]⟩
abbrev S1x1x1x1 : Shape := ⟨4, ![1, 1, 1, 1]⟩
abbrev S160x64 : Shape := ⟨2, ![160, 64]⟩
abbrev S64x160 : Shape := ⟨2, ![64, 160]⟩
abbrev S32x1 : Shape := ⟨2, ![32, 1]⟩
abbrev S1x1x128x64 : Shape := ⟨4, ![1, 1, 128, 64]⟩
abbrev S128x64 : Shape := ⟨2, ![128, 64]⟩
abbrev S64x128 : Shape := ⟨2, ![64, 128]⟩
abbrev S1x1x32x3 : Shape := ⟨4, ![1, 1, 32, 3]⟩
abbrev S32x3 : Shape := ⟨2, ![32, 3]⟩

abbrev nBuf : Space → Nat
  | .hbm => 152
  | .vmem => 44
  | .smem => 2
  | _ => 0

abbrev hbmTy0_0 (i : Nat) : BufTy := match i % 128 with
  | 0 => ⟨S2x2048x1024, .f32⟩
  | 1 => ⟨S2x2048x3, .f32⟩
  | 2 => ⟨S3x1024, .f32⟩
  | 3 => ⟨S1024, .f32⟩
  | 4 => ⟨S1024x1024, .f32⟩
  | 5 => ⟨S1024x1024, .f32⟩
  | 6 => ⟨S1024x1024, .f32⟩
  | 7 => ⟨S1024x1024, .f32⟩
  | 8 => ⟨S1024x48, .f32⟩
  | 9 => ⟨S32, .f32⟩
  | 10 => ⟨S32, .f32⟩
  | 11 => ⟨S4096x1024, .f32⟩
  | 12 => ⟨S4096x3, .f32⟩
  | 13 => ⟨S1x1024, .f32⟩
  | 14 => ⟨S8x8, .i32⟩
  | 15 => ⟨S8x8, .i32⟩
  | 16 => ⟨S_, .i32⟩
  | 17 => ⟨S8x8, .i32⟩
  | 18 => ⟨S8x8, .i32⟩
  | 19 => ⟨S8x8, .i1⟩
  | 20 => ⟨S8x8, .f32⟩
  | 21 => ⟨S1x32, .f32⟩
  | 22 => ⟨S8x1x8x1, .f32⟩
  | 23 => ⟨S1x1x1x32, .f32⟩
  | 24 => ⟨S8x1x8x32, .f32⟩
  | 25 => ⟨S8x1x8x32, .f32⟩
  | 26 => ⟨S8x1x8x32, .f32⟩
  | 27 => ⟨S8x256, .f32⟩
  | 28 => ⟨S1x32, .f32⟩
  | 29 => ⟨S8x1x8x1, .f32⟩
  | 30 => ⟨S1x1x1x32, .f32⟩
  | 31 => ⟨S8x1x8x32, .f32⟩
  | 32 => ⟨S8x1x8x32, .f32⟩
  | 33 => ⟨S8x1x8x32, .f32⟩
  | 34 => ⟨S8x256, .f32⟩
  | 35 => ⟨S4096x1024, .f32⟩
  | 36 => ⟨S4096x1024, .f32⟩
  | 37 => ⟨S4096x1024, .f32⟩
  | 38 => ⟨S4096x48, .f32⟩
  | 39 => ⟨S128x1024, .f32⟩
  | 40 => ⟨S128x1024, .f32⟩
  | 41 => ⟨S2x2048x16x64, .f32⟩
  | 42 => ⟨S2x16x2048x64, .f32⟩
  | 43 => ⟨S2x2048x16x64, .f32⟩
  | 44 => ⟨S2x16x2048x64, .f32⟩
  | 45 => ⟨S2x2048x16x64, .f32⟩
  | 46 => ⟨S2x16x2048x64, .f32⟩
  | 47 => ⟨S2x64x16x64, .f32⟩
  | 48 => ⟨S2x16x64x64, .f32⟩
  | 49 => ⟨S2x64x16x64, .f32⟩
  | 50 => ⟨S2x16x64x64, .f32⟩
  | 51 => ⟨S2x2048x16x3, .f32⟩
  | 52 => ⟨S2x16x2048x3, .f32⟩
  | 53 => ⟨S2x2048x1024, .f32⟩
  | 54 => ⟨S2x2048x1024, .f32⟩
  | 55 => ⟨S1x1x1024, .f32⟩
  | 56 => ⟨S2x2048x1024, .f32⟩
  | 57 => ⟨S2x2048x1024, .f32⟩
  | 58 => ⟨S2x2048x1024, .f32⟩
  | 59 => ⟨S2x2048x16x64, .f32⟩
  | 60 => ⟨S2x16x2048x64, .f32⟩
  | 61 => ⟨S2x2048x1024, .f32⟩
  | 62 => ⟨S2x2048x16x64, .f32⟩
  | 63 => ⟨S2x16x2048x64, .f32⟩
  | 64 => ⟨S2x16x64x32x64, .f32⟩
  | 65 => ⟨S2x16x64x64, .f32⟩
  | 66 => ⟨S2x16x2048x64, .f32⟩
  | 67 => ⟨S_, .f32⟩
  | 68 => ⟨S2x16x2048x64, .f32⟩
  | 69 => ⟨S2x16x2048x64, .f32⟩
  | 70 => ⟨S2048, .i32⟩
  | 71 => ⟨S64, .i32⟩
  | 72 => ⟨S_, .i32⟩
  | 73 => ⟨S64, .i32⟩
  | 74 => ⟨S64, .i32⟩
  | 75 => ⟨S_, .i32⟩
  | 76 => ⟨S64, .i32⟩
  | 77 => ⟨S64, .i32⟩
  | 78 => ⟨S_, .i32⟩
  | 79 => ⟨S64, .i32⟩
  | 80 => ⟨S64, .i32⟩
  | 81 => ⟨S1x64, .i32⟩
  | 82 => ⟨S2048x1, .i32⟩
  | 83 => ⟨S2048x64, .i32⟩
  | 84 => ⟨S2048x64, .i32⟩
  | 85 => ⟨S2048x64, .i1⟩
  | 86 => ⟨S1x1x2048x64, .i1⟩
  | 87 => ⟨S_, .f32⟩
  | 88 => ⟨S_, .f32⟩
  | 89 => ⟨S2x16x2048x64, .i1⟩
  | 90 => ⟨S2x16x2048x64, .f32⟩
  | 91 => ⟨S2x16x2048x64, .f32⟩
  | 92 => ⟨S_, .f32⟩
  | 93 => ⟨S2x16x2048, .f32⟩
  | 94 => ⟨S_, .f32⟩
  | 95 => ⟨S2x16x2048, .f32⟩
  | 96 => ⟨S2x16x2048, .f32⟩
  | 97 => ⟨S2x16x2048x1, .f32⟩
  | 98 => ⟨S2x16x2048x64, .f32⟩
  | 99 => ⟨S2x16x2048x64, .f32⟩
  | 100 => ⟨S2x16x2048x64, .f32⟩
  | 101 => ⟨S_, .f32⟩
  | 102 => ⟨S2x16x2048, .f32⟩
  | 103 => ⟨S2x16x2048x1, .f32⟩
  | 104 => ⟨S2x16x2048x64, .f32⟩
  | 105 => ⟨S2x16x2048x64, .f32⟩
  | 106 => ⟨S_, .f32⟩
  | 107 => ⟨S_, .f32⟩
  | 108 => ⟨S2x16x2048x64, .i1⟩
  | 109 => ⟨S2x16x2048x64, .f32⟩
  | 110 => ⟨S2x16x2048x64, .f32⟩
  | 111 => ⟨S_, .f32⟩
  | 112 => ⟨S2x16x2048, .f32⟩
  | 113 => ⟨S2x16x2048x1, .f32⟩
  | 114 => ⟨S_, .f32⟩
  | 115 => ⟨S2x16x2048x1, .f32⟩
  | 116 => ⟨S2x16x2048x1, .f32⟩
  | 117 => ⟨S2x16x2048x64, .f32⟩
  | 118 => ⟨S2x16x2048x64, .f32⟩
  | 119 => ⟨S2x16x64x32x64, .f32⟩
  | 120 => ⟨S_, .f32⟩
  | 121 => ⟨S2x16x64x64, .f32⟩
  | 122 => ⟨S_, .f32⟩
  | 123 => ⟨S2x16x64x64, .f32⟩
  | 124 => ⟨S2x16x64x64, .f32⟩
  | 125 => ⟨S64, .i32⟩
  | 126 => ⟨S1x64, .i32⟩
  | 127 => ⟨S64, .i32⟩
  | _ => ⟨S2x2048x1024, .f32⟩

abbrev hbmTy0_1 (i : Nat) : BufTy := match i % 128 with
  | 0 => ⟨S64x1, .i32⟩
  | 1 => ⟨S64x64, .i32⟩
  | 2 => ⟨S64x64, .i32⟩
  | 3 => ⟨S64x64, .i1⟩
  | 4 => ⟨S1x1x64x64, .i1⟩
  | 5 => ⟨S_, .f32⟩
  | 6 => ⟨S_, .f32⟩
  | 7 => ⟨S2x16x64x64, .i1⟩
  | 8 => ⟨S2x16x64x64, .f32⟩
  | 9 => ⟨S2x16x64x64, .f32⟩
  | 10 => ⟨S2x16x64x4, .f32⟩
  | 11 => ⟨S2x16x64x4, .i32⟩
  | 12 => ⟨S_, .f32⟩
  | 13 => ⟨S2x16x64x4, .f32⟩
  | 14 => ⟨S2x16x64x4, .i1⟩
  | 15 => ⟨S_, .i32⟩
  | 16 => ⟨S_, .i32⟩
  | 17 => ⟨S2x16x64x4, .i32⟩
  | 18 => ⟨S2x16x64x4, .i32⟩
  | 19 => ⟨S2x16x2048x64, .f32⟩
  | 20 => ⟨S2x2048x16x64, .f32⟩
  | 21 => ⟨S4096x1024, .f32⟩
  | 22 => ⟨S4096x1024, .f32⟩
  | 23 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x3, .f32⟩
  | .local _ .vmem, ⟨3, _⟩ => ⟨S256x3, .f32⟩
  | .local _ .vmem, ⟨4, _⟩ => ⟨S3x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x48, .f32⟩
  | .local _ .vmem, ⟨10, _⟩ => ⟨S8x256, .f32⟩
  | .local _ .vmem, ⟨11, _⟩ => ⟨S8x256, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x48, .f32⟩
  | .local _ .vmem, ⟨19, _⟩ => ⟨S256x48, .f32⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | .local _ .vmem, ⟨24, _⟩ => ⟨S1x1x2048x64, .f32⟩
  | .local _ .vmem, ⟨25, _⟩ => ⟨S1x1x2048x64, .f32⟩
  | .local _ .vmem, ⟨26, _⟩ => ⟨S1x1x2048x64, .f32⟩
  | .local _ .vmem, ⟨27, _⟩ => ⟨S1x1x2048x64, .f32⟩
  | .local _ .vmem, ⟨28, _⟩ => ⟨S1x1x2048x64, .f32⟩
  | .local _ .vmem, ⟨29, _⟩ => ⟨S1x1x2048x64, .f32⟩
  | .local _ .vmem, ⟨30, _⟩ => ⟨S1x1x64x64, .f32⟩
  | .local _ .vmem, ⟨31, _⟩ => ⟨S1x1x64x64, .f32⟩
  | .local _ .vmem, ⟨32, _⟩ => ⟨S1x1x64x64, .f32⟩
  | .local _ .vmem, ⟨33, _⟩ => ⟨S1x1x64x64, .f32⟩
  | .local _ .vmem, ⟨34, _⟩ => ⟨S1x1x2048x3, .f32⟩
  | .local _ .vmem, ⟨35, _⟩ => ⟨S1x1x2048x3, .f32⟩
  | .local _ .vmem, ⟨36, _⟩ => ⟨S1x1x2048x64, .f32⟩
  | .local _ .vmem, ⟨37, _⟩ => ⟨S1x1x2048x64, .f32⟩
  | .local _ .vmem, ⟨38, _⟩ => ⟨S2048x64, .f32⟩
  | .local _ .vmem, ⟨39, _⟩ => ⟨S256x1024, .f32⟩
  | .local _ .vmem, ⟨40, _⟩ => ⟨S256x1024, .f32⟩
  | .local _ .vmem, ⟨41, _⟩ => ⟨S1024x1024, .f32⟩
  | .local _ .vmem, ⟨42, _⟩ => ⟨S256x1024, .f32⟩
  | .local _ .vmem, ⟨43, _⟩ => ⟨S256x1024, .f32⟩
  | .local _ .smem, ⟨0, _⟩ => ⟨S1x1x64x4, .i32⟩
  | .local _ .smem, ⟨1, _⟩ => ⟨S1x1x64x4, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v12 : Ref sig .tc := ⟨.hbm, 34, rfl⟩
abbrev main_v13_0 : Ref sig .tc := ⟨.hbm, 35, rfl⟩
abbrev main_v13_1 : Ref sig .tc := ⟨.hbm, 36, rfl⟩
abbrev main_v13_2 : Ref sig .tc := ⟨.hbm, 37, rfl⟩
abbrev main_v13_3 : Ref sig .tc := ⟨.hbm, 38, rfl⟩
abbrev main_v13_4 : Ref sig .tc := ⟨.hbm, 39, rfl⟩
abbrev main_v13_5 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_0 : Ref sig .tc := ⟨.hbm, 72, rfl⟩
abbrev main_v44 : Ref sig .tc := ⟨.hbm, 73, rfl⟩
abbrev main_v45 : Ref sig .tc := ⟨.hbm, 74, rfl⟩
abbrev main_c_1 : Ref sig .tc := ⟨.hbm, 75, rfl⟩
abbrev main_v46 : Ref sig .tc := ⟨.hbm, 76, rfl⟩
abbrev main_v47 : Ref sig .tc := ⟨.hbm, 77, rfl⟩
abbrev main_c_2 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_3 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v56 : Ref sig .tc := ⟨.hbm, 91, rfl⟩
abbrev main_cst_4 : Ref sig .tc := ⟨.hbm, 92, rfl⟩
abbrev main_v57 : Ref sig .tc := ⟨.hbm, 93, rfl⟩
abbrev main_cst_5 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_6 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_7 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v68 : Ref sig .tc := ⟨.hbm, 110, rfl⟩
abbrev main_cst_8 : Ref sig .tc := ⟨.hbm, 111, rfl⟩
abbrev main_v69 : Ref sig .tc := ⟨.hbm, 112, rfl⟩
abbrev main_v70 : Ref sig .tc := ⟨.hbm, 113, rfl⟩
abbrev main_cst_9 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_10 : Ref sig .tc := ⟨.hbm, 120, rfl⟩
abbrev main_v76 : Ref sig .tc := ⟨.hbm, 121, rfl⟩
abbrev main_cst_11 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_12 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_v87 : Ref sig .tc := ⟨.hbm, 137, rfl⟩
abbrev main_values : Ref sig .tc := ⟨.hbm, 138, rfl⟩
abbrev main_indices : Ref sig .tc := ⟨.hbm, 139, rfl⟩
abbrev main_cst_13 : Ref sig .tc := ⟨.hbm, 140, rfl⟩
abbrev main_v88 : Ref sig .tc := ⟨.hbm, 141, rfl⟩
abbrev main_v89 : Ref sig .tc := ⟨.hbm, 142, rfl⟩
abbrev main_c_14 : Ref sig .tc := ⟨.hbm, 143, rfl⟩
abbrev main_call5_v0 : Ref sig .tc := ⟨.hbm, 144, rfl⟩
abbrev main_call5_v1 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_scratch0 : Ref sig .tc := ⟨.vmem, 38, rfl⟩
abbrev cc2_stg0_0 : Ref sig .tc := ⟨.vmem, 39, rfl⟩
abbrev cc2_stg0_1 : Ref sig .tc := ⟨.vmem, 40, rfl⟩
abbrev cc2_stg1_0 : Ref sig .tc := ⟨.vmem, 41, rfl⟩
abbrev cc2_stg2_0 : Ref sig .tc := ⟨.vmem, 42, rfl⟩
abbrev cc2_stg2_1 : Ref sig .tc := ⟨.vmem, 43, rfl⟩
abbrev cc1_stg0_0 : Ref sig .tc := ⟨.smem, 0, rfl⟩
abbrev cc1_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37
abbrev cc1_sem7_0 : DmaSem sig := 38
abbrev cc1_sem7_1 : DmaSem sig := 39
abbrev cc2_sem0_0 : DmaSem sig := 40
abbrev cc2_sem0_1 : DmaSem sig := 41
abbrev cc2_sem1_0 : DmaSem sig := 42
abbrev cc2_sem2_0 : DmaSem sig := 43
abbrev cc2_sem2_1 : DmaSem sig := 44

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x48 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨2, ![2, 16], ![false, false]⟩

@[reducible] def k1_t1_loop : Scf.Loop 32 :=
  let c0_i32 : BitVec 32 := 0#32
  let c64_i32 : BitVec 32 := 64#32
  let v50 : BitVec 32 := Scalar.addi c0_i32 c64_i32
  let c1_i32 : BitVec 32 := 1#32
  ⟨c0_i32, v50, c1_i32⟩
def k1_off1 (k1_t1 : Fin k1_t1_loop.trips) : Fin 4 → Nat :=
  let c0_25 : Index := 0#32
  let c0_26 : Index := 0#32
  let c0_i32 : BitVec 32 := 0#32
  let c1_i32 : BitVec 32 := 1#32
  let arg11 : BitVec 32 := Scf.iv c0_i32 c1_i32 k1_t1
  let c32_i32_24 : BitVec 32 := 32#32
  let v51 : BitVec 32 := Scalar.muli arg11 c32_i32_24
  let v52 : Index := Scalar.indexCast v51
  let c0_27 : Index := 0#32
  ![0, 0, v52.toNat, 0]
def k1_off2 (k1_t1 : Fin k1_t1_loop.trips) : Fin 4 → Nat :=
  let c0_36 : Index := 0#32
  let c0_37 : Index := 0#32
  let c0_i32 : BitVec 32 := 0#32
  let c1_i32 : BitVec 32 := 1#32
  let arg11 : BitVec 32 := Scf.iv c0_i32 c1_i32 k1_t1
  let v63 : Index := Scalar.indexCast arg11
  let c0_38 : Index := 0#32
  ![0, 0, v63.toNat, 0]
def k1_off3 (v64 : BitVec 32) : Fin 4 → Nat :=
  let c0_41 : Index := 0#32
  let c0_42 : Index := 0#32
  let c0_i32_39 : BitVec 32 := 0#32
  let v65 : BitVec 32 := Scalar.maxsi v64 c0_i32_39
  let c32_i32_40 : BitVec 32 := 32#32
  let v66 : BitVec 32 := Scalar.muli v65 c32_i32_40
  let v67 : Index := Scalar.indexCast v66
  let c0_43 : Index := 0#32
  ![0, 0, v67.toNat, 0]

def k1_chk1 (v64 : BitVec 32) : Prop :=
  (∀ a, (k1_off3 v64) a + S1x1x32x64.size a ≤ S1x1x2048x64.size a)
theorem k1_off3_inb : ∀ (v64 : BitVec 32) (k1_hw1 : k1_chk1 v64), ∀ a, (k1_off3 v64) a + S1x1x32x64.size a ≤ S1x1x2048x64.size a := fun v64 k1_hw1 => k1_hw1

def k1_off4 (k1_t1 : Fin k1_t1_loop.trips) : Fin 4 → Nat :=
  let c0_51 : Index := 0#32
  let c0_52 : Index := 0#32
  let c0_i32 : BitVec 32 := 0#32
  let c1_i32 : BitVec 32 := 1#32
  let arg11 : BitVec 32 := Scf.iv c0_i32 c1_i32 k1_t1
  let v83 : Index := Scalar.indexCast arg11
  let c1 : Index := 1#32
  ![0, 0, v83.toNat, 1]
def k1_off5 (v84 : BitVec 32) : Fin 4 → Nat :=
  let c0_55 : Index := 0#32
  let c0_56 : Index := 0#32
  let c0_i32_53 : BitVec 32 := 0#32
  let v85 : BitVec 32 := Scalar.maxsi v84 c0_i32_53
  let c32_i32_54 : BitVec 32 := 32#32
  let v86 : BitVec 32 := Scalar.muli v85 c32_i32_54
  let v87 : Index := Scalar.indexCast v86
  let c0_57 : Index := 0#32
  ![0, 0, v87.toNat, 0]

def k1_chk2 (v84 : BitVec 32) : Prop :=
  (∀ a, (k1_off5 v84) a + S1x1x32x64.size a ≤ S1x1x2048x64.size a)
theorem k1_off5_inb : ∀ (v84 : BitVec 32) (k1_hw2 : k1_chk2 v84), ∀ a, (k1_off5 v84) a + S1x1x32x64.size a ≤ S1x1x2048x64.size a := fun v84 k1_hw2 => k1_hw2

def k1_off6 (k1_t1 : Fin k1_t1_loop.trips) : Fin 4 → Nat :=
  let c0_64 : Index := 0#32
  let c0_65 : Index := 0#32
  let c0_i32 : BitVec 32 := 0#32
  let c1_i32 : BitVec 32 := 1#32
  let arg11 : BitVec 32 := Scf.iv c0_i32 c1_i32 k1_t1
  let v103 : Index := Scalar.indexCast arg11
  let c2 : Index := 2#32
  ![0, 0, v103.toNat, 2]
def k1_off7 (v104 : BitVec 32) : Fin 4 → Nat :=
  let c0_68 : Index := 0#32
  let c0_69 : Index := 0#32
  let c0_i32_66 : BitVec 32 := 0#32
  let v105 : BitVec 32 := Scalar.maxsi v104 c0_i32_66
  let c32_i32_67 : BitVec 32 := 32#32
  let v106 : BitVec 32 := Scalar.muli v105 c32_i32_67
  let v107 : Index := Scalar.indexCast v106
  let c0_70 : Index := 0#32
  ![0, 0, v107.toNat, 0]

def k1_chk3 (v104 : BitVec 32) : Prop :=
  (∀ a, (k1_off7 v104) a + S1x1x32x64.size a ≤ S1x1x2048x64.size a)
theorem k1_off7_inb : ∀ (v104 : BitVec 32) (k1_hw3 : k1_chk3 v104), ∀ a, (k1_off7 v104) a + S1x1x32x64.size a ≤ S1x1x2048x64.size a := fun v104 k1_hw3 => k1_hw3

def k1_off8 (k1_t1 : Fin k1_t1_loop.trips) : Fin 4 → Nat :=
  let c0_77 : Index := 0#32
  let c0_78 : Index := 0#32
  let c0_i32 : BitVec 32 := 0#32
  let c1_i32 : BitVec 32 := 1#32
  let arg11 : BitVec 32 := Scf.iv c0_i32 c1_i32 k1_t1
  let v123 : Index := Scalar.indexCast arg11
  let c3 : Index := 3#32
  ![0, 0, v123.toNat, 3]
def k1_off9 (v124 : BitVec 32) : Fin 4 → Nat :=
  let c0_81 : Index := 0#32
  let c0_82 : Index := 0#32
  let c0_i32_79 : BitVec 32 := 0#32
  let v125 : BitVec 32 := Scalar.maxsi v124 c0_i32_79
  let c32_i32_80 : BitVec 32 := 32#32
  let v126 : BitVec 32 := Scalar.muli v125 c32_i32_80
  let v127 : Index := Scalar.indexCast v126
  let c0_83 : Index := 0#32
  ![0, 0, v127.toNat, 0]

def k1_chk4 (v124 : BitVec 32) : Prop :=
  (∀ a, (k1_off9 v124) a + S1x1x32x64.size a ≤ S1x1x2048x64.size a)
theorem k1_off9_inb : ∀ (v124 : BitVec 32) (k1_hw4 : k1_chk4 v124), ∀ a, (k1_off9 v124) a + S1x1x32x64.size a ≤ S1x1x2048x64.size a := fun v124 k1_hw4 => k1_hw4

def k1_off10 (k1_t1 : Fin k1_t1_loop.trips) : Fin 4 → Nat :=
  let c0_109 : Index := 0#32
  let c0_110 : Index := 0#32
  let c0_i32 : BitVec 32 := 0#32
  let c1_i32 : BitVec 32 := 1#32
  let arg11 : BitVec 32 := Scf.iv c0_i32 c1_i32 k1_t1
  let c0_i32_100 : BitVec 32 := 0#32
  let v172 : BitVec 1 := Scalar.cmpi .sgt arg11 c0_i32_100
  let v173 : BitVec 32 := Scalar.extui v172
  let c0_i32_101 : BitVec 32 := 0#32
  let v174 : BitVec 1 := Scalar.cmpi .slt arg11 c0_i32_101
  let v175 : BitVec 32 := Scalar.extui v174
  let v176 : BitVec 32 := Scalar.subi v173 v175
  let c2_i32 : BitVec 32 := 2#32
  let c0_i32_102 : BitVec 32 := 0#32
  let v177 : BitVec 1 := Scalar.cmpi .sgt c2_i32 c0_i32_102
  let v178 : BitVec 32 := Scalar.extui v177
  let c0_i32_103 : BitVec 32 := 0#32
  let v179 : BitVec 1 := Scalar.cmpi .slt c2_i32 c0_i32_103
  let v180 : BitVec 32 := Scalar.extui v179
  let v181 : BitVec 32 := Scalar.subi v178 v180
  let v182 : BitVec 1 := Scalar.cmpi .ne v176 v181
  let v183 : BitVec 32 := Scalar.remsi arg11 c2_i32
  let c0_i32_104 : BitVec 32 := 0#32
  let v184 : BitVec 1 := Scalar.cmpi .ne v183 c0_i32_104
  let v185 : BitVec 1 := Scalar.andi v182 v184
  let v171 : BitVec 32 := Scalar.divsi arg11 c2_i32
  let c1_i32_105 : BitVec 32 := 1#32
  let v186 : BitVec 32 := Scalar.subi v171 c1_i32_105
  let v187 : BitVec 32 := Scalar.select v185 v186 v171
  let c64_i32_106 : BitVec 32 := 64#32
  let v188 : BitVec 32 := Scalar.muli v187 c64_i32_106
  let c64_i32_107 : BitVec 32 := 64#32
  let v189 : BitVec 32 := Scalar.subi v188 c64_i32_107
  let c0_i32_108 : BitVec 32 := 0#32
  let v190 : BitVec 32 := Scalar.maxsi v189 c0_i32_108
  let v191 : Index := Scalar.indexCast v190
  let c0_111 : Index := 0#32
  ![0, 0, v191.toNat, 0]
def k1_off11 (k1_t1 : Fin k1_t1_loop.trips) : Fin 4 → Nat :=
  let c0_128 : Index := 0#32
  let c0_129 : Index := 0#32
  let c0_i32 : BitVec 32 := 0#32
  let c1_i32 : BitVec 32 := 1#32
  let arg11 : BitVec 32 := Scf.iv c0_i32 c1_i32 k1_t1
  let c32_i32_127 : BitVec 32 := 32#32
  let v233 : BitVec 32 := Scalar.muli arg11 c32_i32_127
  let v234 : Index := Scalar.indexCast v233
  let c0_130 : Index := 0#32
  ![0, 0, v234.toNat, 0]
def k1_off12 (k1_t1 : Fin k1_t1_loop.trips) : Fin 2 → Nat :=
  let c0_i32 : BitVec 32 := 0#32
  let c1_i32 : BitVec 32 := 1#32
  let arg11 : BitVec 32 := Scf.iv c0_i32 c1_i32 k1_t1
  let c32_i32_131 : BitVec 32 := 32#32
  let v237 : BitVec 32 := Scalar.muli arg11 c32_i32_131
  let v238 : Index := Scalar.indexCast v237
  let c0_132 : Index := 0#32
  ![v238.toNat, 0]
def k1_off13 (k1_t1 : Fin k1_t1_loop.trips) : Fin 4 → Nat :=
  let c0_134 : Index := 0#32
  let c0_135 : Index := 0#32
  let c0_i32 : BitVec 32 := 0#32
  let c1_i32 : BitVec 32 := 1#32
  let arg11 : BitVec 32 := Scf.iv c0_i32 c1_i32 k1_t1
  let c32_i32_133 : BitVec 32 := 32#32
  let v251 : BitVec 32 := Scalar.muli arg11 c32_i32_133
  let v252 : Index := Scalar.indexCast v251
  let c0_136 : Index := 0#32
  ![0, 0, v252.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .smem S1x1x64x4 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x2048x3 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x2048x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S2x2048x1024 : Shape := ⟨3, ![2, 2048, 1024]⟩
abbrev S2x2048x3 : Shape := ⟨3, ![2, 2048, 3]⟩
abbrev S3x1024 : Shape := ⟨2, ![3, 1024]⟩
abbrev S1024 : Shape := ⟨1, ![1024]⟩
abbrev S1024x1024 : Shape := ⟨2, ![1024, 1024]⟩
abbrev S1024x48 : Shape := ⟨2, ![1024, 48]⟩
abbrev S32 : Shape := ⟨1, ![32]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x64x32x64 : Shape := ⟨5, ![2, 16, 64, 32, 64]⟩
abbrev S2x16x64x64 : Shape := ⟨4, ![2, 16, 64, 64]⟩
abbrev S_ : Shape := ⟨0, ![]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S2048x64 : Shape := ⟨2, ![2048, 64]⟩
abbrev S1x1x2048x64 : Shape := ⟨4, ![1, 1, 2048, 64]⟩
abbrev S2x16x2048 : Shape := ⟨3, ![2, 16, 2048]⟩
abbrev S2x16x2048x1 : Shape := ⟨4, ![2, 16, 2048, 1]⟩
abbrev S64x1 : Shape := ⟨2, ![64, 1]⟩
abbrev S64x64 : Shape := ⟨2, ![64, 64]⟩
abbrev S1x1x64x64 : Shape := ⟨4, ![1, 1, 64, 64]⟩
abbrev S2x16x64x4 : Shape := ⟨4, ![2, 16, 64, 4]⟩
abbrev S2 : Shape := ⟨1, ![2]⟩
abbrev S2x1x1x1 : Shape := ⟨4, ![2, 1, 1, 1]⟩
abbrev S16 : Shape := ⟨1, ![16]⟩
abbrev S1x16x1x1 : Shape := ⟨4, ![1, 16, 1, 1]⟩
abbrev S2x16x64x4x1 : Shape := ⟨5, ![2, 16, 64, 4, 1]⟩
abbrev S2x16x64x4x3 : Shape := ⟨5, ![2, 16, 64, 4, 3]⟩
abbrev S2x16x64x4x32x64 : Shape := ⟨6, ![2, 16, 64, 4, 32, 64]⟩
abbrev S2x16x64x1x32x64 : Shape := ⟨6, ![2, 16, 64, 1, 32, 64]⟩
abbrev S2x16x64x5x32x64 : Shape := ⟨6, ![2, 16, 64, 5, 32, 64]⟩
abbrev S2x16x64x32x5x32 : Shape := ⟨6, ![2, 16, 64, 32, 5, 32]⟩
abbrev S32x32 : Shape := ⟨2, ![32, 32]⟩
abbrev S1x1x1x32x1x32 : Shape := ⟨6, ![1, 1, 1, 32, 1, 32]⟩
abbrev S2x16x64x32x1x32 : Shape := ⟨6, ![2, 16, 64, 32, 1, 32]⟩
abbrev S2x16x64x1x4x1 : Shape := ⟨6, ![2, 16, 64, 1, 4, 1]⟩
abbrev S2x16x64x32x4x32 : Shape := ⟨6, ![2, 16, 64, 32, 4, 32]⟩
abbrev S2x16x64x32x160 : Shape := ⟨5, ![2, 16, 64, 32, 160]⟩
abbrev S2x16x64x32 : Shape := ⟨4, ![2, 16, 64, 32]⟩
abbrev S2x16x64x32x1 : Shape := ⟨5, ![2, 16, 64, 32, 1]⟩
abbrev S2x16x64x160x64 : Shape := ⟨5, ![2, 16, 64, 160, 64]⟩
abbrev S2x16x32x64x64 : Shape := ⟨5, ![2, 16, 32, 64, 64]⟩
abbrev S2x16x1x64x64 : Shape := ⟨5, ![2, 16, 1, 64, 64]⟩
abbrev S2x16x31x64x64 : Shape := ⟨5, ![2, 16, 31, 64, 64]⟩
abbrev S2x16x32x128x64 : Shape := ⟨5, ![2, 16, 32, 128, 64]⟩
abbrev S2x16x32x64x128 : Shape := ⟨5, ![2, 16, 32, 64, 128]⟩
abbrev S128 : Shape := ⟨1, ![128]⟩
abbrev S1x128 : Shape := ⟨2, ![1, 128]⟩
abbrev S64x128 : Shape := ⟨2, ![64, 128]⟩
abbrev S32x1x1 : Shape := ⟨3, ![32, 1, 1]⟩
abbrev S1x64x128 : Shape := ⟨3, ![1, 64, 128]⟩
abbrev S1x1x128 : Shape := ⟨3, ![1, 1, 128]⟩
abbrev S32x64x128 : Shape := ⟨3, ![32, 64, 128]⟩
abbrev S1x1x32x64x128 : Shape := ⟨5, ![1, 1, 32, 64, 128]⟩
abbrev S2x16x32x64 : Shape := ⟨4, ![2, 16, 32, 64]⟩
abbrev S2x16x32x64x1 : Shape := ⟨5, ![2, 16, 32, 64, 1]⟩
abbrev S2x2048x48 : Shape := ⟨3, ![2, 2048, 48]⟩
abbrev S2x2048x16x3 : Shape := ⟨4, ![2, 2048, 16, 3]⟩
abbrev S2x16x2048x3 : Shape := ⟨4, ![2, 16, 2048, 3]⟩

abbrev nBuf : Space → Nat
  | .hbm => 344
  | .vmem => 0
  | .smem => 0
  | _ => 0

abbrev hbmTy0_0 (i : Nat) : BufTy := match i % 128 with
  | 0 => ⟨S2x2048x1024, .f32⟩
  | 1 => ⟨S2x2048x3, .f32⟩
  | 2 => ⟨S3x1024, .f32⟩
  | 3 => ⟨S1024, .f32⟩
  | 4 => ⟨S1024x1024, .f32⟩
  | 5 => ⟨S1024x1024, .f32⟩
  | 6 => ⟨S1024x1024, .f32⟩
  | 7 => ⟨S1024x1024, .f32⟩
  | 8 => ⟨S1024x48, .f32⟩
  | 9 => ⟨S32, .f32⟩
  | 10 => ⟨S32, .f32⟩
  | 11 => ⟨S2x2048x1024, .f32⟩
  | 12 => ⟨S2x2048x1024, .f32⟩
  | 13 => ⟨S1x1x1024, .f32⟩
  | 14 => ⟨S2x2048x1024, .f32⟩
  | 15 => ⟨S2x2048x1024, .f32⟩
  | 16 => ⟨S2x2048x1024, .f32⟩
  | 17 => ⟨S2x2048x16x64, .f32⟩
  | 18 => ⟨S2x16x2048x64, .f32⟩
  | 19 => ⟨S2x2048x1024, .f32⟩
  | 20 => ⟨S2x2048x16x64, .f32⟩
  | 21 => ⟨S2x16x2048x64, .f32⟩
  | 22 => ⟨S2x2048x1024, .f32⟩
  | 23 => ⟨S2x2048x16x64, .f32⟩
  | 24 => ⟨S2x16x2048x64, .f32⟩
  | 25 => ⟨S2x16x64x32x64, .f32⟩
  | 26 => ⟨S2x16x64x32x64, .f32⟩
  | 27 => ⟨S2x16x64x64, .f32⟩
  | 28 => ⟨S2x16x64x64, .f32⟩
  | 29 => ⟨S2x16x2048x64, .f32⟩
  | 30 => ⟨S_, .f32⟩
  | 31 => ⟨S2x16x2048x64, .f32⟩
  | 32 => ⟨S2x16x2048x64, .f32⟩
  | 33 => ⟨S2048, .i32⟩
  | 34 => ⟨S64, .i32⟩
  | 35 => ⟨S_, .i32⟩
  | 36 => ⟨S64, .i32⟩
  | 37 => ⟨S64, .i32⟩
  | 38 => ⟨S_, .i32⟩
  | 39 => ⟨S64, .i32⟩
  | 40 => ⟨S64, .i32⟩
  | 41 => ⟨S_, .i32⟩
  | 42 => ⟨S64, .i32⟩
  | 43 => ⟨S64, .i32⟩
  | 44 => ⟨S1x64, .i32⟩
  | 45 => ⟨S2048x1, .i32⟩
  | 46 => ⟨S2048x64, .i32⟩
  | 47 => ⟨S2048x64, .i32⟩
  | 48 => ⟨S2048x64, .i1⟩
  | 49 => ⟨S1x1x2048x64, .i1⟩
  | 50 => ⟨S_, .f32⟩
  | 51 => ⟨S_, .f32⟩
  | 52 => ⟨S2x16x2048x64, .i1⟩
  | 53 => ⟨S2x16x2048x64, .f32⟩
  | 54 => ⟨S2x16x2048x64, .f32⟩
  | 55 => ⟨S_, .f32⟩
  | 56 => ⟨S2x16x2048, .f32⟩
  | 57 => ⟨S_, .f32⟩
  | 58 => ⟨S2x16x2048, .f32⟩
  | 59 => ⟨S2x16x2048, .f32⟩
  | 60 => ⟨S2x16x2048x1, .f32⟩
  | 61 => ⟨S2x16x2048x64, .f32⟩
  | 62 => ⟨S2x16x2048x64, .f32⟩
  | 63 => ⟨S2x16x2048x64, .f32⟩
  | 64 => ⟨S_, .f32⟩
  | 65 => ⟨S2x16x2048, .f32⟩
  | 66 => ⟨S2x16x2048x1, .f32⟩
  | 67 => ⟨S2x16x2048x64, .f32⟩
  | 68 => ⟨S2x16x2048x64, .f32⟩
  | 69 => ⟨S_, .f32⟩
  | 70 => ⟨S_, .f32⟩
  | 71 => ⟨S2x16x2048x64, .i1⟩
  | 72 => ⟨S2x16x2048x64, .f32⟩
  | 73 => ⟨S2x16x2048x64, .f32⟩
  | 74 => ⟨S_, .f32⟩
  | 75 => ⟨S2x16x2048, .f32⟩
  | 76 => ⟨S2x16x2048x1, .f32⟩
  | 77 => ⟨S_, .f32⟩
  | 78 => ⟨S2x16x2048x1, .f32⟩
  | 79 => ⟨S2x16x2048x1, .f32⟩
  | 80 => ⟨S2x16x2048x64, .f32⟩
  | 81 => ⟨S2x16x2048x64, .f32⟩
  | 82 => ⟨S2x16x2048x64, .f32⟩
  | 83 => ⟨S2x16x64x32x64, .f32⟩
  | 84 => ⟨S_, .f32⟩
  | 85 => ⟨S2x16x64x64, .f32⟩
  | 86 => ⟨S_, .f32⟩
  | 87 => ⟨S2x16x64x64, .f32⟩
  | 88 => ⟨S2x16x64x64, .f32⟩
  | 89 => ⟨S64, .i32⟩
  | 90 => ⟨S1x64, .i32⟩
  | 91 => ⟨S64, .i32⟩
  | 92 => ⟨S64x1, .i32⟩
  | 93 => ⟨S64x64, .i32⟩
  | 94 => ⟨S64x64, .i32⟩
  | 95 => ⟨S64x64, .i1⟩
  | 96 => ⟨S1x1x64x64, .i1⟩
  | 97 => ⟨S_, .f32⟩
  | 98 => ⟨S_, .f32⟩
  | 99 => ⟨S2x16x64x64, .i1⟩
  | 100 => ⟨S2x16x64x64, .f32⟩
  | 101 => ⟨S2x16x64x64, .f32⟩
  | 102 => ⟨S2x16x64x4, .f32⟩
  | 103 => ⟨S2x16x64x4, .i32⟩
  | 104 => ⟨S_, .f32⟩
  | 105 => ⟨S2x16x64x4, .f32⟩
  | 106 => ⟨S2x16x64x4, .i1⟩
  | 107 => ⟨S_, .i32⟩
  | 108 => ⟨S_, .i32⟩
  | 109 => ⟨S2x16x64x4, .i32⟩
  | 110 => ⟨S2x16x64x4, .i32⟩
  | 111 => ⟨S2, .i32⟩
  | 112 => ⟨S2x1x1x1, .i32⟩
  | 113 => ⟨S16, .i32⟩
  | 114 => ⟨S1x16x1x1, .i32⟩
  | 115 => ⟨S_, .i32⟩
  | 116 => ⟨S2x1x1x1, .i32⟩
  | 117 => ⟨S2x1x1x1, .i1⟩
  | 118 => ⟨S_, .i32⟩
  | 119 => ⟨S2x1x1x1, .i32⟩
  | 120 => ⟨S2x1x1x1, .i32⟩
  | 121 => ⟨S2x1x1x1, .i32⟩
  | 122 => ⟨S_, .i32⟩
  | 123 => ⟨S1x16x1x1, .i32⟩
  | 124 => ⟨S1x16x1x1, .i1⟩
  | 125 => ⟨S_, .i32⟩
  | 126 => ⟨S1x16x1x1, .i32⟩
  | 127 => ⟨S1x16x1x1, .i32⟩
  | _ => ⟨S2x2048x1024, .f32⟩

abbrev hbmTy0_1 (i : Nat) : BufTy := match i % 128 with
  | 0 => ⟨S1x16x1x1, .i32⟩
  | 1 => ⟨S_, .i32⟩
  | 2 => ⟨S2x16x64x4, .i32⟩
  | 3 => ⟨S2x16x64x4, .i1⟩
  | 4 => ⟨S_, .i32⟩
  | 5 => ⟨S2x16x64x4, .i32⟩
  | 6 => ⟨S2x16x64x4, .i32⟩
  | 7 => ⟨S2x16x64x4, .i32⟩
  | 8 => ⟨S2x16x64x4, .i32⟩
  | 9 => ⟨S2x16x64x4, .i32⟩
  | 10 => ⟨S2x16x64x4x1, .i32⟩
  | 11 => ⟨S2x16x64x4x1, .i32⟩
  | 12 => ⟨S2x16x64x4x1, .i32⟩
  | 13 => ⟨S2x16x64x4x3, .i32⟩
  | 14 => ⟨S2x16x64x4x32x64, .f32⟩
  | 15 => ⟨S_, .i32⟩
  | 16 => ⟨S2x1x1x1, .i32⟩
  | 17 => ⟨S2x1x1x1, .i1⟩
  | 18 => ⟨S_, .i32⟩
  | 19 => ⟨S2x1x1x1, .i32⟩
  | 20 => ⟨S2x1x1x1, .i32⟩
  | 21 => ⟨S2x1x1x1, .i32⟩
  | 22 => ⟨S_, .i32⟩
  | 23 => ⟨S1x16x1x1, .i32⟩
  | 24 => ⟨S1x16x1x1, .i1⟩
  | 25 => ⟨S_, .i32⟩
  | 26 => ⟨S1x16x1x1, .i32⟩
  | 27 => ⟨S1x16x1x1, .i32⟩
  | 28 => ⟨S1x16x1x1, .i32⟩
  | 29 => ⟨S_, .i32⟩
  | 30 => ⟨S2x16x64x4, .i32⟩
  | 31 => ⟨S2x16x64x4, .i1⟩
  | 32 => ⟨S_, .i32⟩
  | 33 => ⟨S2x16x64x4, .i32⟩
  | 34 => ⟨S2x16x64x4, .i32⟩
  | 35 => ⟨S2x16x64x4, .i32⟩
  | 36 => ⟨S2x16x64x4, .i32⟩
  | 37 => ⟨S2x16x64x4, .i32⟩
  | 38 => ⟨S2x16x64x4x1, .i32⟩
  | 39 => ⟨S2x16x64x4x1, .i32⟩
  | 40 => ⟨S2x16x64x4x1, .i32⟩
  | 41 => ⟨S2x16x64x4x3, .i32⟩
  | 42 => ⟨S2x16x64x4x32x64, .f32⟩
  | 43 => ⟨S2x16x64x1x32x64, .f32⟩
  | 44 => ⟨S2x16x64x5x32x64, .f32⟩
  | 45 => ⟨S2x16x64x1x32x64, .f32⟩
  | 46 => ⟨S2x16x64x5x32x64, .f32⟩
  | 47 => ⟨S2x16x64x32x64, .f32⟩
  | 48 => ⟨S2x16x64x32x5x32, .f32⟩
  | 49 => ⟨S_, .f32⟩
  | 50 => ⟨S2x16x64x32x5x32, .f32⟩
  | 51 => ⟨S2x16x64x32x5x32, .f32⟩
  | 52 => ⟨S_, .i1⟩
  | 53 => ⟨S32x32, .i1⟩
  | 54 => ⟨S32x32, .i32⟩
  | 55 => ⟨S_, .i32⟩
  | 56 => ⟨S32x32, .i32⟩
  | 57 => ⟨S32x32, .i32⟩
  | 58 => ⟨S32x32, .i32⟩
  | 59 => ⟨S32x32, .i1⟩
  | 60 => ⟨S_, .i1⟩
  | 61 => ⟨S32x32, .i1⟩
  | 62 => ⟨S32x32, .i1⟩
  | 63 => ⟨S1x1x1x32x1x32, .i1⟩
  | 64 => ⟨S2x16x64x32x1x32, .i1⟩
  | 65 => ⟨S2x16x64x1x4x1, .i1⟩
  | 66 => ⟨S2x16x64x32x4x32, .i1⟩
  | 67 => ⟨S2x16x64x32x5x32, .i1⟩
  | 68 => ⟨S2x16x64x32x160, .f32⟩
  | 69 => ⟨S2x16x64x32x160, .i1⟩
  | 70 => ⟨S_, .f32⟩
  | 71 => ⟨S_, .f32⟩
  | 72 => ⟨S2x16x64x32x160, .f32⟩
  | 73 => ⟨S2x16x64x32x160, .f32⟩
  | 74 => ⟨S_, .f32⟩
  | 75 => ⟨S2x16x64x32, .f32⟩
  | 76 => ⟨S_, .f32⟩
  | 77 => ⟨S2x16x64x32, .f32⟩
  | 78 => ⟨S2x16x64x32, .f32⟩
  | 79 => ⟨S2x16x64x32x1, .f32⟩
  | 80 => ⟨S2x16x64x32x160, .f32⟩
  | 81 => ⟨S2x16x64x32x160, .f32⟩
  | 82 => ⟨S2x16x64x32x160, .f32⟩
  | 83 => ⟨S_, .f32⟩
  | 84 => ⟨S2x16x64x32, .f32⟩
  | 85 => ⟨S2x16x64x32x1, .f32⟩
  | 86 => ⟨S2x16x64x32x160, .f32⟩
  | 87 => ⟨S2x16x64x32x160, .f32⟩
  | 88 => ⟨S_, .f32⟩
  | 89 => ⟨S_, .f32⟩
  | 90 => ⟨S2x16x64x32x160, .f32⟩
  | 91 => ⟨S2x16x64x32x160, .f32⟩
  | 92 => ⟨S_, .f32⟩
  | 93 => ⟨S2x16x64x32, .f32⟩
  | 94 => ⟨S2x16x64x32x1, .f32⟩
  | 95 => ⟨S_, .f32⟩
  | 96 => ⟨S2x16x64x32x1, .f32⟩
  | 97 => ⟨S2x16x64x32x1, .f32⟩
  | 98 => ⟨S2x16x64x32x160, .f32⟩
  | 99 => ⟨S2x16x64x32x160, .f32⟩
  | 100 => ⟨S2x16x64x160x64, .f32⟩
  | 101 => ⟨S2x16x64x32x64, .f32⟩
  | 102 => ⟨S2x16x2048x64, .f32⟩
  | 103 => ⟨S2x16x32x64x64, .f32⟩
  | 104 => ⟨S2x16x32x64x64, .f32⟩
  | 105 => ⟨S2x16x32x64x64, .f32⟩
  | 106 => ⟨S2x16x1x64x64, .f32⟩
  | 107 => ⟨S_, .f32⟩
  | 108 => ⟨S2x16x1x64x64, .f32⟩
  | 109 => ⟨S2x16x31x64x64, .f32⟩
  | 110 => ⟨S2x16x32x64x64, .f32⟩
  | 111 => ⟨S2x16x1x64x64, .f32⟩
  | 112 => ⟨S_, .f32⟩
  | 113 => ⟨S2x16x1x64x64, .f32⟩
  | 114 => ⟨S2x16x31x64x64, .f32⟩
  | 115 => ⟨S2x16x32x64x64, .f32⟩
  | 116 => ⟨S2x16x32x128x64, .f32⟩
  | 117 => ⟨S2x16x32x128x64, .f32⟩
  | 118 => ⟨S2x16x32x64x128, .f32⟩
  | 119 => ⟨S_, .f32⟩
  | 120 => ⟨S2x16x32x64x128, .f32⟩
  | 121 => ⟨S2x16x32x64x128, .f32⟩
  | 122 => ⟨S64, .i32⟩
  | 123 => ⟨S64x1, .i32⟩
  | 124 => ⟨S128, .i32⟩
  | 125 => ⟨S1x128, .i32⟩
  | 126 => ⟨S64x128, .i32⟩
  | 127 => ⟨S64x128, .i32⟩
  | _ => ⟨S2x2048x1024, .f32⟩

abbrev hbmTy0_2 (i : Nat) : BufTy := match i % 128 with
  | 0 => ⟨S64x128, .i32⟩
  | 1 => ⟨S_, .i32⟩
  | 2 => ⟨S64x128, .i32⟩
  | 3 => ⟨S64x128, .i32⟩
  | 4 => ⟨S_, .i32⟩
  | 5 => ⟨S64x128, .i32⟩
  | 6 => ⟨S64x128, .i1⟩
  | 7 => ⟨S_, .i32⟩
  | 8 => ⟨S64x128, .i32⟩
  | 9 => ⟨S64x128, .i1⟩
  | 10 => ⟨S64x128, .i1⟩
  | 11 => ⟨S32, .i32⟩
  | 12 => ⟨S_, .i32⟩
  | 13 => ⟨S32, .i32⟩
  | 14 => ⟨S32, .i1⟩
  | 15 => ⟨S32x1x1, .i1⟩
  | 16 => ⟨S1x64x128, .i1⟩
  | 17 => ⟨S1x1x128, .i32⟩
  | 18 => ⟨S_, .i32⟩
  | 19 => ⟨S1x1x128, .i32⟩
  | 20 => ⟨S1x1x128, .i1⟩
  | 21 => ⟨S1x64x128, .i1⟩
  | 22 => ⟨S1x64x128, .i1⟩
  | 23 => ⟨S1x64x128, .i1⟩
  | 24 => ⟨S32x64x128, .i1⟩
  | 25 => ⟨S32x64x128, .i1⟩
  | 26 => ⟨S32x64x128, .i1⟩
  | 27 => ⟨S32x64x128, .i1⟩
  | 28 => ⟨S1x1x32x64x128, .i1⟩
  | 29 => ⟨S_, .f32⟩
  | 30 => ⟨S_, .f32⟩
  | 31 => ⟨S2x16x32x64x128, .i1⟩
  | 32 => ⟨S2x16x32x64x128, .f32⟩
  | 33 => ⟨S2x16x32x64x128, .f32⟩
  | 34 => ⟨S_, .f32⟩
  | 35 => ⟨S2x16x32x64, .f32⟩
  | 36 => ⟨S_, .f32⟩
  | 37 => ⟨S2x16x32x64, .f32⟩
  | 38 => ⟨S2x16x32x64, .f32⟩
  | 39 => ⟨S2x16x32x64x1, .f32⟩
  | 40 => ⟨S2x16x32x64x128, .f32⟩
  | 41 => ⟨S2x16x32x64x128, .f32⟩
  | 42 => ⟨S2x16x32x64x128, .f32⟩
  | 43 => ⟨S_, .f32⟩
  | 44 => ⟨S2x16x32x64, .f32⟩
  | 45 => ⟨S2x16x32x64x1, .f32⟩
  | 46 => ⟨S2x16x32x64x128, .f32⟩
  | 47 => ⟨S2x16x32x64x128, .f32⟩
  | 48 => ⟨S_, .f32⟩
  | 49 => ⟨S_, .f32⟩
  | 50 => ⟨S2x16x32x64x128, .i1⟩
  | 51 => ⟨S2x16x32x64x128, .f32⟩
  | 52 => ⟨S2x16x32x64x128, .f32⟩
  | 53 => ⟨S_, .f32⟩
  | 54 => ⟨S2x16x32x64, .f32⟩
  | 55 => ⟨S2x16x32x64x1, .f32⟩
  | 56 => ⟨S_, .f32⟩
  | 57 => ⟨S2x16x32x64x1, .f32⟩
  | 58 => ⟨S2x16x32x64x1, .f32⟩
  | 59 => ⟨S2x16x32x64x128, .f32⟩
  | 60 => ⟨S2x16x32x64x128, .f32⟩
  | 61 => ⟨S2x16x32x64x64, .f32⟩
  | 62 => ⟨S2x16x2048x64, .f32⟩
  | 63 => ⟨S2x2048x48, .f32⟩
  | 64 => ⟨S2x2048x16x3, .f32⟩
  | 65 => ⟨S2x2048x16x3, .f32⟩
  | 66 => ⟨S2x2048x16x3, .f32⟩
  | 67 => ⟨S_, .f32⟩
  | 68 => ⟨S2x2048x16x3, .f32⟩
  | 69 => ⟨S2x2048x16x3, .f32⟩
  | 70 => ⟨S_, .f32⟩
  | 71 => ⟨S2x2048x16x3, .f32⟩
  | 72 => ⟨S2x2048x16x3, .f32⟩
  | 73 => ⟨S2x16x2048x3, .f32⟩
  | 74 => ⟨S2x16x2048x1, .f32⟩
  | 75 => ⟨S2x16x2048x64, .f32⟩
  | 76 => ⟨S2x16x2048x64, .f32⟩
  | 77 => ⟨S2x16x2048x1, .f32⟩
  | 78 => ⟨S2x16x2048x64, .f32⟩
  | 79 => ⟨S2x16x2048x64, .f32⟩
  | 80 => ⟨S2x16x2048x64, .f32⟩
  | 81 => ⟨S2x16x2048x1, .f32⟩
  | 82 => ⟨S2x16x2048x64, .f32⟩
  | 83 => ⟨S2x16x2048x64, .f32⟩
  | 84 => ⟨S2x16x2048x64, .f32⟩
  | 85 => ⟨S2x2048x16x64, .f32⟩
  | 86 => ⟨S2x2048x1024, .f32⟩
  | 87 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_0 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_11 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v67 : Ref sig .tc := ⟨.hbm, 101, rfl⟩
abbrev main_values : Ref sig .tc := ⟨.hbm, 102, rfl⟩
abbrev main_indices : Ref sig .tc := ⟨.hbm, 103, rfl⟩
abbrev main_cst_12 : Ref sig .tc := ⟨.hbm, 104, rfl⟩
abbrev main_v68 : Ref sig .tc := ⟨.hbm, 105, rfl⟩
abbrev main_v69 : Ref sig .tc := ⟨.hbm, 106, rfl⟩
abbrev main_c_13 : Ref sig .tc := ⟨.hbm, 107, rfl⟩
abbrev main_call3_v0 : Ref sig .tc := ⟨.hbm, 108, rfl⟩
abbrev main_call3_v1 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_14 : Ref sig .tc := ⟨.hbm, 115, rfl⟩
abbrev main_v75 : Ref sig .tc := ⟨.hbm, 116, rfl⟩
abbrev main_v76 : Ref sig .tc := ⟨.hbm, 117, rfl⟩
abbrev main_c_15 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_c_16 : Ref sig .tc := ⟨.hbm, 122, rfl⟩
abbrev main_v80 : Ref sig .tc := ⟨.hbm, 123, rfl⟩
abbrev main_v81 : Ref sig .tc := ⟨.hbm, 124, rfl⟩
abbrev main_c_17 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_18 : Ref sig .tc := ⟨.hbm, 129, rfl⟩
abbrev main_v85 : Ref sig .tc := ⟨.hbm, 130, rfl⟩
abbrev main_v86 : Ref sig .tc := ⟨.hbm, 131, rfl⟩
abbrev main_c_19 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_20 : Ref sig .tc := ⟨.hbm, 143, rfl⟩
abbrev main_v97 : Ref sig .tc := ⟨.hbm, 144, rfl⟩
abbrev main_v98 : Ref sig .tc := ⟨.hbm, 145, rfl⟩
abbrev main_c_21 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_22 : Ref sig .tc := ⟨.hbm, 150, rfl⟩
abbrev main_v102 : Ref sig .tc := ⟨.hbm, 151, rfl⟩
abbrev main_v103 : Ref sig .tc := ⟨.hbm, 152, rfl⟩
abbrev main_c_23 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_24 : Ref sig .tc := ⟨.hbm, 157, rfl⟩
abbrev main_v107 : Ref sig .tc := ⟨.hbm, 158, rfl⟩
abbrev main_v108 : Ref sig .tc := ⟨.hbm, 159, rfl⟩
abbrev main_c_25 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_26 : Ref sig .tc := ⟨.hbm, 177, rfl⟩
abbrev main_v125 : Ref sig .tc := ⟨.hbm, 178, rfl⟩
abbrev main_v126 : Ref sig .tc := ⟨.hbm, 179, rfl⟩
abbrev main_c_27 : Ref sig .tc := ⟨.hbm, 180, rfl⟩
abbrev main_v127 : Ref sig .tc := ⟨.hbm, 181, rfl⟩
abbrev main_call4_v0 : Ref sig .tc := ⟨.hbm, 182, rfl⟩
abbrev main_call4_c : Ref sig .tc := ⟨.hbm, 183, rfl⟩
abbrev main_call4_v1 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_c_0 : Ref sig .tc := ⟨.hbm, 188, rfl⟩
abbrev main_call4_v5 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_cst_28 : Ref sig .tc := ⟨.hbm, 198, rfl⟩
abbrev main_call5_v0 : Ref sig .tc := ⟨.hbm, 199, rfl⟩
abbrev main_call5_v1 : Ref sig .tc := ⟨.hbm, 200, rfl⟩
abbrev main_v136 : Ref sig .tc := ⟨.hbm, 201, rfl⟩
abbrev main_cst_29 : Ref sig .tc := ⟨.hbm, 202, rfl⟩
abbrev main_v137 : Ref sig .tc := ⟨.hbm, 203, rfl⟩
abbrev main_cst_30 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_cst_31 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_cst_32 : Ref sig .tc := ⟨.hbm, 216, rfl⟩
abbrev main_call6_v0 : Ref sig .tc := ⟨.hbm, 217, rfl⟩
abbrev main_call6_v1 : Ref sig .tc := ⟨.hbm, 218, rfl⟩
abbrev main_v148 : Ref sig .tc := ⟨.hbm, 219, rfl⟩
abbrev main_cst_33 : Ref sig .tc := ⟨.hbm, 220, rfl⟩
abbrev main_v149 : Ref sig .tc := ⟨.hbm, 221, rfl⟩
abbrev main_v150 : Ref sig .tc := ⟨.hbm, 222, rfl⟩
abbrev main_cst_34 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_cst_35 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_cst_36 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_cst_37 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_c_38 : Ref sig .tc := ⟨.hbm, 257, rfl⟩
abbrev main_v181 : Ref sig .tc := ⟨.hbm, 258, rfl⟩
abbrev main_v182 : Ref sig .tc := ⟨.hbm, 259, rfl⟩
abbrev main_c_39 : Ref sig .tc := ⟨.hbm, 260, rfl⟩
abbrev main_v183 : Ref sig .tc := ⟨.hbm, 261, rfl⟩
abbrev main_v184 : Ref sig .tc := ⟨.hbm, 262, rfl⟩
abbrev main_c_40 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_c_41 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_c_42 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_call7_v0 : Ref sig .tc := ⟨.hbm, 280, rfl⟩
abbrev main_call7_v1 : Ref sig .tc := ⟨.hbm, 281, rfl⟩
abbrev main_call7_v2 : Ref sig .tc := ⟨.hbm, 282, rfl⟩
abbrev main_v199 : Ref sig .tc := ⟨.hbm, 283, rfl⟩
abbrev main_v200 : Ref sig .tc := ⟨.hbm, 284, rfl⟩
abbrev main_cst_43 : Ref sig .tc := ⟨.hbm, 285, rfl⟩
abbrev main_call8_v0 : Ref sig .tc := ⟨.hbm, 286, rfl⟩
abbrev main_call8_v1 : Ref sig .tc := ⟨.hbm, 287, rfl⟩
abbrev main_call8_v2 : Ref sig .tc := ⟨.hbm, 288, rfl⟩
abbrev main_v201 : Ref sig .tc := ⟨.hbm, 289, rfl⟩
abbrev main_cst_44 : Ref sig .tc := ⟨.hbm, 290, rfl⟩
abbrev main_v202 : Ref sig .tc := ⟨.hbm, 291, rfl⟩
abbrev main_cst_45 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_cst_46 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_cst_47 : Ref sig .tc := ⟨.hbm, 304, rfl⟩
abbrev main_call9_v0 : Ref sig .tc := ⟨.hbm, 305, rfl⟩
abbrev main_call9_v1 : Ref sig .tc := ⟨.hbm, 306, rfl⟩
abbrev main_call9_v2 : Ref sig .tc := ⟨.hbm, 307, rfl⟩
abbrev main_v213 : Ref sig .tc := ⟨.hbm, 308, rfl⟩
abbrev main_cst_48 : Ref sig .tc := ⟨.hbm, 309, rfl⟩
abbrev main_v214 : Ref sig .tc := ⟨.hbm, 310, rfl⟩
abbrev main_v215 : Ref sig .tc := ⟨.hbm, 311, rfl⟩
abbrev main_cst_49 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_cst_50 : Ref sig .tc := ⟨.hbm, 323, rfl⟩
abbrev main_v226 : Ref sig .tc := ⟨.hbm, 324, rfl⟩
abbrev main_v227 : Ref sig .tc := ⟨.hbm, 325, rfl⟩
abbrev main_cst_51 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩

abbrev nD : Nat := 1
abbrev τ : Topo := Topo.v7x

variable {F : FTy → Type} [FloatOps F]
-- ==== Attn.lean ====
abbrev S2x16x64x4 : Shape := ⟨4, ![2, 16, 64, 4]⟩
abbrev S2x16x2048x64 : Shape := ⟨4, ![2, 16, 2048, 64]⟩
abbrev S2x16x64x64 : Shape := ⟨4, ![2, 16, 64, 64]⟩
abbrev S2x16x2048x3 : Shape := ⟨4, ![2, 16, 2048, 3]⟩
abbrev S1x1x64x4 : Shape := ⟨4, ![1, 1, 64, 4]⟩
abbrev S1x1x2048x64 : Shape := ⟨4, ![1, 1, 2048, 64]⟩
abbrev S1x1x64x64 : Shape := ⟨4, ![1, 1, 64, 64]⟩
abbrev S1x1x2048x3 : Shape := ⟨4, ![1, 1, 2048, 3]⟩
abbrev S2048x64 : Shape := ⟨2, ![2048, 64]⟩
abbrev S64x64 : Shape := ⟨2, ![64, 64]⟩
abbrev S2048 : Shape := ⟨1, ![2048]⟩
abbrev S2048x1 : Shape := ⟨2, ![2048, 1]⟩
abbrev S32x160 : Shape := ⟨2, ![32, 160]⟩
abbrev S32x128 : Shape := ⟨2, ![32, 128]⟩
abbrev S1x1x32x64 : Shape := ⟨4, ![1, 1, 32, 64]⟩
abbrev S32x64 : Shape := ⟨2, ![32, 64]⟩
abbrev S1x1x1x1 : Shape := ⟨4, ![1, 1, 1, 1]⟩
abbrev S160x64 : Shape := ⟨2, ![160, 64]⟩
abbrev S64x160 : Shape := ⟨2, ![64, 160]⟩
abbrev S32 : Shape := ⟨1, ![32]⟩
abbrev S32x1 : Shape := ⟨2, ![32, 1]⟩
abbrev S1x1x128x64 : Shape := ⟨4, ![1, 1, 128, 64]⟩
abbrev S128x64 : Shape := ⟨2, ![128, 64]⟩
abbrev S64x128 : Shape := ⟨2, ![64, 128]⟩
abbrev S1x1x32x3 : Shape := ⟨4, ![1, 1, 32, 3]⟩
abbrev S32x3 : Shape := ⟨2, ![32, 3]⟩

abbrev nBuf : Space → Nat
  | .hbm => 8
  | .vmem => 15
  | .smem => 2
  | _ => 0

abbrev bufTy : (tb : Table) → Fin (tcTables nBuf tb) → BufTy
  | .hbm, ⟨0, _⟩ => ⟨S2x16x64x4, .i32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .hbm, ⟨4, _⟩ => ⟨S2x16x64x64, .f32⟩
  | .hbm, ⟨5, _⟩ => ⟨S2x16x64x64, .f32⟩
  | .hbm, ⟨6, _⟩ => ⟨S2x16x2048x3, .f32⟩
  | .hbm, ⟨7, _⟩ => ⟨S2x16x2048x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x64x64, .f32⟩
  | .local _ .vmem, ⟨7, _⟩ => ⟨S1x1x64x64, .f32⟩
  | .local _ .vmem, ⟨8, _⟩ => ⟨S1x1x64x64, .f32⟩
  | .local _ .vmem, ⟨9, _⟩ => ⟨S1x1x64x64, .f32⟩
  | .local _ .vmem, ⟨10, _⟩ => ⟨S1x1x2048x3, .f32⟩
  | .local _ .vmem, ⟨11, _⟩ => ⟨S1x1x2048x3, .f32⟩
  | .local _ .vmem, ⟨12, _⟩ => ⟨S1x1x2048x64, .f32⟩
  | .local _ .vmem, ⟨13, _⟩ => ⟨S1x1x2048x64, .f32⟩
  | .local _ .vmem, ⟨14, _⟩ => ⟨S2048x64, .f32⟩
  | .local _ .smem, ⟨0, _⟩ => ⟨S1x1x64x4, .i32⟩
  | .local _ .smem, ⟨1, _⟩ => ⟨S1x1x64x4, .i32⟩
  | _, _ => ⟨S2x16x64x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c64_i32 : BitVec 32 := 64#32
  let v50 : BitVec 32 := Scalar.addi c0_i32 c64_i32
  let c1_i32 : BitVec 32 := 1#32
  ⟨c0_i32, v50, c1_i32⟩
def k0_off1 (k0_t1 : Fin k0_t1_loop.trips) : Fin 4 → Nat :=
  let c0_25 : Index := 0#32
  let c0_26 : Index := 0#32
  let c0_i32 : BitVec 32 := 0#32
  let c1_i32 : BitVec 32 := 1#32
  let arg11 : BitVec 32 := Scf.iv c0_i32 c1_i32 k0_t1
  let c32_i32_24 : BitVec 32 := 32#32
  let v51 : BitVec 32 := Scalar.muli arg11 c32_i32_24
  let v52 : Index := Scalar.indexCast v51
  let c0_27 : Index := 0#32
  ![0, 0, v52.toNat, 0]
def k0_off2 (k0_t1 : Fin k0_t1_loop.trips) : Fin 4 → Nat :=
  let c0_36 : Index := 0#32
  let c0_37 : Index := 0#32
  let c0_i32 : BitVec 32 := 0#32
  let c1_i32 : BitVec 32 := 1#32
  let arg11 : BitVec 32 := Scf.iv c0_i32 c1_i32 k0_t1
  let v63 : Index := Scalar.indexCast arg11
  let c0_38 : Index := 0#32
  ![0, 0, v63.toNat, 0]
def k0_off3 (v64 : BitVec 32) : Fin 4 → Nat :=
  let c0_41 : Index := 0#32
  let c0_42 : Index := 0#32
  let c0_i32_39 : BitVec 32 := 0#32
  let v65 : BitVec 32 := Scalar.maxsi v64 c0_i32_39
  let c32_i32_40 : BitVec 32 := 32#32
  let v66 : BitVec 32 := Scalar.muli v65 c32_i32_40
  let v67 : Index := Scalar.indexCast v66
  let c0_43 : Index := 0#32
  ![0, 0, v67.toNat, 0]

def k0_chk1 (v64 : BitVec 32) : Prop :=
  (∀ a, (k0_off3 v64) a + S1x1x32x64.size a ≤ S1x1x2048x64.size a)
theorem k0_off3_inb : ∀ (v64 : BitVec 32) (k0_hw1 : k0_chk1 v64), ∀ a, (k0_off3 v64) a + S1x1x32x64.size a ≤ S1x1x2048x64.size a := fun v64 k0_hw1 => k0_hw1

def k0_off4 (k0_t1 : Fin k0_t1_loop.trips) : Fin 4 → Nat :=
  let c0_51 : Index := 0#32
  let c0_52 : Index := 0#32
  let c0_i32 : BitVec 32 := 0#32
  let c1_i32 : BitVec 32 := 1#32
  let arg11 : BitVec 32 := Scf.iv c0_i32 c1_i32 k0_t1
  let v83 : Index := Scalar.indexCast arg11
  let c1 : Index := 1#32
  ![0, 0, v83.toNat, 1]
def k0_off5 (v84 : BitVec 32) : Fin 4 → Nat :=
  let c0_55 : Index := 0#32
  let c0_56 : Index := 0#32
  let c0_i32_53 : BitVec 32 := 0#32
  let v85 : BitVec 32 := Scalar.maxsi v84 c0_i32_53
  let c32_i32_54 : BitVec 32 := 32#32
  let v86 : BitVec 32 := Scalar.muli v85 c32_i32_54
  let v87 : Index := Scalar.indexCast v86
  let c0_57 : Index := 0#32
  ![0, 0, v87.toNat, 0]

def k0_chk2 (v84 : BitVec 32) : Prop :=
  (∀ a, (k0_off5 v84) a + S1x1x32x64.size a ≤ S1x1x2048x64.size a)
theorem k0_off5_inb : ∀ (v84 : BitVec 32) (k0_hw2 : k0_chk2 v84), ∀ a, (k0_off5 v84) a + S1x1x32x64.size a ≤ S1x1x2048x64.size a := fun v84 k0_hw2 => k0_hw2

def k0_off6 (k0_t1 : Fin k0_t1_loop.trips) : Fin 4 → Nat :=
  let c0_64 : Index := 0#32
  let c0_65 : Index := 0#32
  let c0_i32 : BitVec 32 := 0#32
  let c1_i32 : BitVec 32 := 1#32
  let arg11 : BitVec 32 := Scf.iv c0_i32 c1_i32 k0_t1
  let v103 : Index := Scalar.indexCast arg11
  let c2 : Index := 2#32
  ![0, 0, v103.toNat, 2]
def k0_off7 (v104 : BitVec 32) : Fin 4 → Nat :=
  let c0_68 : Index := 0#32
  let c0_69 : Index := 0#32
  let c0_i32_66 : BitVec 32 := 0#32
  let v105 : BitVec 32 := Scalar.maxsi v104 c0_i32_66
  let c32_i32_67 : BitVec 32 := 32#32
  let v106 : BitVec 32 := Scalar.muli v105 c32_i32_67
  let v107 : Index := Scalar.indexCast v106
  let c0_70 : Index := 0#32
  ![0, 0, v107.toNat, 0]

def k0_chk3 (v104 : BitVec 32) : Prop :=
  (∀ a, (k0_off7 v104) a + S1x1x32x64.size a ≤ S1x1x2048x64.size a)
theorem k0_off7_inb : ∀ (v104 : BitVec 32) (k0_hw3 : k0_chk3 v104), ∀ a, (k0_off7 v104) a + S1x1x32x64.size a ≤ S1x1x2048x64.size a := fun v104 k0_hw3 => k0_hw3

def k0_off8 (k0_t1 : Fin k0_t1_loop.trips) : Fin 4 → Nat :=
  let c0_77 : Index := 0#32
  let c0_78 : Index := 0#32
  let c0_i32 : BitVec 32 := 0#32
  let c1_i32 : BitVec 32 := 1#32
  let arg11 : BitVec 32 := Scf.iv c0_i32 c1_i32 k0_t1
  let v123 : Index := Scalar.indexCast arg11
  let c3 : Index := 3#32
  ![0, 0, v123.toNat, 3]
def k0_off9 (v124 : BitVec 32) : Fin 4 → Nat :=
  let c0_81 : Index := 0#32
  let c0_82 : Index := 0#32
  let c0_i32_79 : BitVec 32 := 0#32
  let v125 : BitVec 32 := Scalar.maxsi v124 c0_i32_79
  let c32_i32_80 : BitVec 32 := 32#32
  let v126 : BitVec 32 := Scalar.muli v125 c32_i32_80
  let v127 : Index := Scalar.indexCast v126
  let c0_83 : Index := 0#32
  ![0, 0, v127.toNat, 0]

def k0_chk4 (v124 : BitVec 32) : Prop :=
  (∀ a, (k0_off9 v124) a + S1x1x32x64.size a ≤ S1x1x2048x64.size a)
theorem k0_off9_inb : ∀ (v124 : BitVec 32) (k0_hw4 : k0_chk4 v124), ∀ a, (k0_off9 v124) a + S1x1x32x64.size a ≤ S1x1x2048x64.size a := fun v124 k0_hw4 => k0_hw4

def k0_off10 (k0_t1 : Fin k0_t1_loop.trips) : Fin 4 → Nat :=
  let c0_109 : Index := 0#32
  let c0_110 : Index := 0#32
  let c0_i32 : BitVec 32 := 0#32
  let c1_i32 : BitVec 32 := 1#32
  let arg11 : BitVec 32 := Scf.iv c0_i32 c1_i32 k0_t1
  let c0_i32_100 : BitVec 32 := 0#32
  let v172 : BitVec 1 := Scalar.cmpi .sgt arg11 c0_i32_100
  let v173 : BitVec 32 := Scalar.extui v172
  let c0_i32_101 : BitVec 32 := 0#32
  let v174 : BitVec 1 := Scalar.cmpi .slt arg11 c0_i32_101
  let v175 : BitVec 32 := Scalar.extui v174
  let v176 : BitVec 32 := Scalar.subi v173 v175
  let c2_i32 : BitVec 32 := 2#32
  let c0_i32_102 : BitVec 32 := 0#32
  let v177 : BitVec 1 := Scalar.cmpi .sgt c2_i32 c0_i32_102
  let v178 : BitVec 32 := Scalar.extui v177
  let c0_i32_103 : BitVec 32 := 0#32
  let v179 : BitVec 1 := Scalar.cmpi .slt c2_i32 c0_i32_103
  let v180 : BitVec 32 := Scalar.extui v179
  let v181 : BitVec 32 := Scalar.subi v178 v180
  let v182 : BitVec 1 := Scalar.cmpi .ne v176 v181
  let v183 : BitVec 32 := Scalar.remsi arg11 c2_i32
  let c0_i32_104 : BitVec 32 := 0#32
  let v184 : BitVec 1 := Scalar.cmpi .ne v183 c0_i32_104
  let v185 : BitVec 1 := Scalar.andi v182 v184
  let v171 : BitVec 32 := Scalar.divsi arg11 c2_i32
  let c1_i32_105 : BitVec 32 := 1#32
  let v186 : BitVec 32 := Scalar.subi v171 c1_i32_105
  let v187 : BitVec 32 := Scalar.select v185 v186 v171
  let c64_i32_106 : BitVec 32 := 64#32
  let v188 : BitVec 32 := Scalar.muli v187 c64_i32_106
  let c64_i32_107 : BitVec 32 := 64#32
  let v189 : BitVec 32 := Scalar.subi v188 c64_i32_107
  let c0_i32_108 : BitVec 32 := 0#32
  let v190 : BitVec 32 := Scalar.maxsi v189 c0_i32_108
  let v191 : Index := Scalar.indexCast v190
  let c0_111 : Index := 0#32
  ![0, 0, v191.toNat, 0]
def k0_off11 (k0_t1 : Fin k0_t1_loop.trips) : Fin 4 → Nat :=
  let c0_128 : Index := 0#32
  let c0_129 : Index := 0#32
  let c0_i32 : BitVec 32 := 0#32
  let c1_i32 : BitVec 32 := 1#32
  let arg11 : BitVec 32 := Scf.iv c0_i32 c1_i32 k0_t1
  let c32_i32_127 : BitVec 32 := 32#32
  let v233 : BitVec 32 := Scalar.muli arg11 c32_i32_127
  let v234 : Index := Scalar.indexCast v233
  let c0_130 : Index := 0#32
  ![0, 0, v234.toNat, 0]
def k0_off12 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32_131 : BitVec 32 := 32#32
  let v237 : BitVec 32 := Scalar.muli arg11 c32_i32_131
  let v238 : Index := Scalar.indexCast v237
  let c0_132 : Index := 0#32
  ![v238.toNat, 0]
def k0_off13 (k0_t1 : Fin k0_t1_loop.trips) : Fin 4 → Nat :=
  let c0_134 : Index := 0#32
  let c0_135 : Index := 0#32
  let c0_i32 : BitVec 32 := 0#32
  let c1_i32 : BitVec 32 := 1#32
  let arg11 : BitVec 32 := Scf.iv c0_i32 c1_i32 k0_t1
  let c32_i32_133 : BitVec 32 := 32#32
  let v251 : BitVec 32 := Scalar.muli arg11 c32_i32_133
  let v252 : Index := Scalar.indexCast v251
  let c0_136 : Index := 0#32
  ![0, 0, v252.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .smem S1x1x64x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S2x16x64x4 : Shape := ⟨4, ![2, 16, 64, 4]⟩
abbrev S2x16x2048x64 : Shape := ⟨4, ![2, 16, 2048, 64]⟩
abbrev S2x16x64x64 : Shape := ⟨4, ![2, 16, 64, 64]⟩
abbrev S2x16x2048x3 : Shape := ⟨4, ![2, 16, 2048, 3]⟩
abbrev S_ : Shape := ⟨0, ![]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S2048x64 : Shape := ⟨2, ![2048, 64]⟩
abbrev S1x1x2048x64 : Shape := ⟨4, ![1, 1, 2048, 64]⟩
abbrev S2x16x2048 : Shape := ⟨3, ![2, 16, 2048]⟩
abbrev S2x16x2048x1 : Shape := ⟨4, ![2, 16, 2048, 1]⟩
abbrev S2x16x64x32x64 : Shape := ⟨5, ![2, 16, 64, 32, 64]⟩
abbrev S2x16x64x4x1 : Shape := ⟨5, ![2, 16, 64, 4, 1]⟩
abbrev S1x1x1x1x64 : Shape := ⟨5, ![1, 1, 1, 1, 64]⟩
abbrev S2x16x64x4x64 : Shape := ⟨5, ![2, 16, 64, 4, 64]⟩
abbrev S2x16x64x2048 : Shape := ⟨4, ![2, 16, 64, 2048]⟩
abbrev S2x16x64x4x2048 : Shape := ⟨5, ![2, 16, 64, 4, 2048]⟩
abbrev S2x16x64x128x64 : Shape := ⟨5, ![2, 16, 64, 128, 64]⟩
abbrev S2x16x64x160x64 : Shape := ⟨5, ![2, 16, 64, 160, 64]⟩
abbrev S2x16x64x32x160 : Shape := ⟨5, ![2, 16, 64, 32, 160]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S1x1x1x32x32 : Shape := ⟨5, ![1, 1, 1, 32, 32]⟩
abbrev S2x16x64x32x32 : Shape := ⟨5, ![2, 16, 64, 32, 32]⟩
abbrev S2x16x64x4x32 : Shape := ⟨5, ![2, 16, 64, 4, 32]⟩
abbrev S2x16x64x1x128 : Shape := ⟨5, ![2, 16, 64, 1, 128]⟩
abbrev S2x16x64x32x128 : Shape := ⟨5, ![2, 16, 64, 32, 128]⟩
abbrev S2x16x64x32 : Shape := ⟨4, ![2, 16, 64, 32]⟩
abbrev S2x16x64x32x1 : Shape := ⟨5, ![2, 16, 64, 32, 1]⟩
abbrev S2x16x32x64x64 : Shape := ⟨5, ![2, 16, 32, 64, 64]⟩
abbrev S2x16x1x64x64 : Shape := ⟨5, ![2, 16, 1, 64, 64]⟩
abbrev S2x16x31x64x64 : Shape := ⟨5, ![2, 16, 31, 64, 64]⟩
abbrev S2x16x32x128x64 : Shape := ⟨5, ![2, 16, 32, 128, 64]⟩
abbrev S2x16x32x64x128 : Shape := ⟨5, ![2, 16, 32, 64, 128]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S32x1x1 : Shape := ⟨3, ![32, 1, 1]⟩
abbrev S1x64x128 : Shape := ⟨3, ![1, 64, 128]⟩
abbrev S1x1x128 : Shape := ⟨3, ![1, 1, 128]⟩
abbrev S32x64x128 : Shape := ⟨3, ![32, 64, 128]⟩
abbrev S1x1x32x64x128 : Shape := ⟨5, ![1, 1, 32, 64, 128]⟩
abbrev S2x16x32x64 : Shape := ⟨4, ![2, 16, 32, 64]⟩
abbrev S2x16x32x64x1 : Shape := ⟨5, ![2, 16, 32, 64, 1]⟩

abbrev nBuf : Space → Nat
  | .hbm => 235
  | .vmem => 0
  | .smem => 0
  | _ => 0

abbrev hbmTy0_0 (i : Nat) : BufTy := match i % 128 with
  | 0 => ⟨S2x16x64x4, .i32⟩
  | 1 => ⟨S2x16x2048x64, .f32⟩
  | 2 => ⟨S2x16x2048x64, .f32⟩
  | 3 => ⟨S2x16x2048x64, .f32⟩
  | 4 => ⟨S2x16x64x64, .f32⟩
  | 5 => ⟨S2x16x64x64, .f32⟩
  | 6 => ⟨S2x16x2048x3, .f32⟩
  | 7 => ⟨S2x16x2048x64, .f32⟩
  | 8 => ⟨S_, .f32⟩
  | 9 => ⟨S2x16x2048x64, .f32⟩
  | 10 => ⟨S2x16x2048x64, .f32⟩
  | 11 => ⟨S2048, .i32⟩
  | 12 => ⟨S64, .i32⟩
  | 13 => ⟨S_, .i32⟩
  | 14 => ⟨S64, .i32⟩
  | 15 => ⟨S64, .i32⟩
  | 16 => ⟨S_, .i32⟩
  | 17 => ⟨S64, .i32⟩
  | 18 => ⟨S64, .i32⟩
  | 19 => ⟨S_, .i32⟩
  | 20 => ⟨S64, .i32⟩
  | 21 => ⟨S64, .i32⟩
  | 22 => ⟨S1x64, .i32⟩
  | 23 => ⟨S2048x1, .i32⟩
  | 24 => ⟨S2048x64, .i32⟩
  | 25 => ⟨S2048x64, .i32⟩
  | 26 => ⟨S2048x64, .i1⟩
  | 27 => ⟨S1x1x2048x64, .i1⟩
  | 28 => ⟨S_, .f32⟩
  | 29 => ⟨S_, .f32⟩
  | 30 => ⟨S2x16x2048x64, .i1⟩
  | 31 => ⟨S2x16x2048x64, .f32⟩
  | 32 => ⟨S2x16x2048x64, .f32⟩
  | 33 => ⟨S_, .f32⟩
  | 34 => ⟨S2x16x2048, .f32⟩
  | 35 => ⟨S_, .f32⟩
  | 36 => ⟨S2x16x2048, .f32⟩
  | 37 => ⟨S2x16x2048, .f32⟩
  | 38 => ⟨S2x16x2048x1, .f32⟩
  | 39 => ⟨S2x16x2048x64, .f32⟩
  | 40 => ⟨S2x16x2048x64, .f32⟩
  | 41 => ⟨S2x16x2048x64, .f32⟩
  | 42 => ⟨S_, .f32⟩
  | 43 => ⟨S2x16x2048, .f32⟩
  | 44 => ⟨S2x16x2048x1, .f32⟩
  | 45 => ⟨S2x16x2048x64, .f32⟩
  | 46 => ⟨S2x16x2048x64, .f32⟩
  | 47 => ⟨S_, .f32⟩
  | 48 => ⟨S_, .f32⟩
  | 49 => ⟨S2x16x2048x64, .i1⟩
  | 50 => ⟨S2x16x2048x64, .f32⟩
  | 51 => ⟨S2x16x2048x64, .f32⟩
  | 52 => ⟨S_, .f32⟩
  | 53 => ⟨S2x16x2048, .f32⟩
  | 54 => ⟨S2x16x2048x1, .f32⟩
  | 55 => ⟨S_, .f32⟩
  | 56 => ⟨S2x16x2048x1, .f32⟩
  | 57 => ⟨S2x16x2048x1, .f32⟩
  | 58 => ⟨S2x16x2048x64, .f32⟩
  | 59 => ⟨S2x16x2048x64, .f32⟩
  | 60 => ⟨S2x16x2048x64, .f32⟩
  | 61 => ⟨S_, .i32⟩
  | 62 => ⟨S2x16x64x4, .i32⟩
  | 63 => ⟨S2x16x64x4, .i1⟩
  | 64 => ⟨S_, .i32⟩
  | 65 => ⟨S_, .i32⟩
  | 66 => ⟨S2x16x64x4, .i32⟩
  | 67 => ⟨S2x16x64x4, .i32⟩
  | 68 => ⟨S2x16x64x32x64, .f32⟩
  | 69 => ⟨S2x16x64x32x64, .f32⟩
  | 70 => ⟨S2x16x64x4x1, .i32⟩
  | 71 => ⟨S64, .i32⟩
  | 72 => ⟨S1x1x1x1x64, .i32⟩
  | 73 => ⟨S2x16x64x4x64, .i32⟩
  | 74 => ⟨S2x16x64x4x64, .i32⟩
  | 75 => ⟨S2x16x64x4x64, .i1⟩
  | 76 => ⟨S2x16x64x4x64, .f32⟩
  | 77 => ⟨S2x16x64x2048, .f32⟩
  | 78 => ⟨S2x16x64x4x2048, .f32⟩
  | 79 => ⟨S2x16x64x128x64, .f32⟩
  | 80 => ⟨S2x16x64x2048, .f32⟩
  | 81 => ⟨S2x16x64x4x2048, .f32⟩
  | 82 => ⟨S2x16x64x128x64, .f32⟩
  | 83 => ⟨S2x16x64x160x64, .f32⟩
  | 84 => ⟨S2x16x64x160x64, .f32⟩
  | 85 => ⟨S2x16x64x32x64, .f32⟩
  | 86 => ⟨S2x16x64x32x160, .f32⟩
  | 87 => ⟨S_, .f32⟩
  | 88 => ⟨S2x16x64x32x160, .f32⟩
  | 89 => ⟨S2x16x64x32x160, .f32⟩
  | 90 => ⟨S32, .i32⟩
  | 91 => ⟨S1x32, .i32⟩
  | 92 => ⟨S32, .i32⟩
  | 93 => ⟨S32x1, .i32⟩
  | 94 => ⟨S32x32, .i32⟩
  | 95 => ⟨S32x32, .i32⟩
  | 96 => ⟨S32x32, .i1⟩
  | 97 => ⟨S1x1x1x32x32, .i1⟩
  | 98 => ⟨S2x16x64x32x32, .i1⟩
  | 99 => ⟨S2x16x64x4x1, .i1⟩
  | 100 => ⟨S2x16x64x4x32, .i1⟩
  | 101 => ⟨S2x16x64x1x128, .i1⟩
  | 102 => ⟨S2x16x64x32x128, .i1⟩
  | 103 => ⟨S2x16x64x32x160, .i1⟩
  | 104 => ⟨S_, .f32⟩
  | 105 => ⟨S_, .f32⟩
  | 106 => ⟨S2x16x64x32x160, .f32⟩
  | 107 => ⟨S2x16x64x32x160, .f32⟩
  | 108 => ⟨S_, .f32⟩
  | 109 => ⟨S2x16x64x32, .f32⟩
  | 110 => ⟨S_, .f32⟩
  | 111 => ⟨S2x16x64x32, .f32⟩
  | 112 => ⟨S2x16x64x32, .f32⟩
  | 113 => ⟨S2x16x64x32x1, .f32⟩
  | 114 => ⟨S2x16x64x32x160, .f32⟩
  | 115 => ⟨S2x16x64x32x160, .f32⟩
  | 116 => ⟨S2x16x64x32x160, .f32⟩
  | 117 => ⟨S_, .f32⟩
  | 118 => ⟨S2x16x64x32, .f32⟩
  | 119 => ⟨S2x16x64x32x1, .f32⟩
  | 120 => ⟨S2x16x64x32x160, .f32⟩
  | 121 => ⟨S2x16x64x32x160, .f32⟩
  | 122 => ⟨S_, .f32⟩
  | 123 => ⟨S_, .f32⟩
  | 124 => ⟨S2x16x64x32x160, .f32⟩
  | 125 => ⟨S2x16x64x32x160, .f32⟩
  | 126 => ⟨S_, .f32⟩
  | 127 => ⟨S2x16x64x32, .f32⟩
  | _ => ⟨S2x16x64x4, .i32⟩

abbrev hbmTy0_1 (i : Nat) : BufTy := match i % 128 with
  | 0 => ⟨S2x16x64x32x1, .f32⟩
  | 1 => ⟨S_, .f32⟩
  | 2 => ⟨S2x16x64x32x1, .f32⟩
  | 3 => ⟨S2x16x64x32x1, .f32⟩
  | 4 => ⟨S2x16x64x32x160, .f32⟩
  | 5 => ⟨S2x16x64x32x160, .f32⟩
  | 6 => ⟨S2x16x64x32x64, .f32⟩
  | 7 => ⟨S2x16x2048x64, .f32⟩
  | 8 => ⟨S2x16x32x64x64, .f32⟩
  | 9 => ⟨S2x16x32x64x64, .f32⟩
  | 10 => ⟨S2x16x32x64x64, .f32⟩
  | 11 => ⟨S2x16x1x64x64, .f32⟩
  | 12 => ⟨S_, .f32⟩
  | 13 => ⟨S2x16x1x64x64, .f32⟩
  | 14 => ⟨S2x16x31x64x64, .f32⟩
  | 15 => ⟨S2x16x32x64x64, .f32⟩
  | 16 => ⟨S2x16x1x64x64, .f32⟩
  | 17 => ⟨S_, .f32⟩
  | 18 => ⟨S2x16x1x64x64, .f32⟩
  | 19 => ⟨S2x16x31x64x64, .f32⟩
  | 20 => ⟨S2x16x32x64x64, .f32⟩
  | 21 => ⟨S2x16x32x128x64, .f32⟩
  | 22 => ⟨S2x16x32x128x64, .f32⟩
  | 23 => ⟨S2x16x32x64x128, .f32⟩
  | 24 => ⟨S_, .f32⟩
  | 25 => ⟨S2x16x32x64x128, .f32⟩
  | 26 => ⟨S2x16x32x64x128, .f32⟩
  | 27 => ⟨S64, .i32⟩
  | 28 => ⟨S64x1, .i32⟩
  | 29 => ⟨S128, .i32⟩
  | 30 => ⟨S1x128, .i32⟩
  | 31 => ⟨S64x128, .i32⟩
  | 32 => ⟨S64x128, .i32⟩
  | 33 => ⟨S64x128, .i32⟩
  | 34 => ⟨S_, .i32⟩
  | 35 => ⟨S64x128, .i32⟩
  | 36 => ⟨S64x128, .i32⟩
  | 37 => ⟨S_, .i32⟩
  | 38 => ⟨S64x128, .i32⟩
  | 39 => ⟨S64x128, .i1⟩
  | 40 => ⟨S_, .i32⟩
  | 41 => ⟨S64x128, .i32⟩
  | 42 => ⟨S64x128, .i1⟩
  | 43 => ⟨S64x128, .i1⟩
  | 44 => ⟨S32, .i32⟩
  | 45 => ⟨S_, .i32⟩
  | 46 => ⟨S32, .i32⟩
  | 47 => ⟨S32, .i1⟩
  | 48 => ⟨S32x1x1, .i1⟩
  | 49 => ⟨S1x64x128, .i1⟩
  | 50 => ⟨S1x1x128, .i32⟩
  | 51 => ⟨S_, .i32⟩
  | 52 => ⟨S1x1x128, .i32⟩
  | 53 => ⟨S1x1x128, .i1⟩
  | 54 => ⟨S1x64x128, .i1⟩
  | 55 => ⟨S1x64x128, .i1⟩
  | 56 => ⟨S1x64x128, .i1⟩
  | 57 => ⟨S32x64x128, .i1⟩
  | 58 => ⟨S32x64x128, .i1⟩
  | 59 => ⟨S32x64x128, .i1⟩
  | 60 => ⟨S32x64x128, .i1⟩
  | 61 => ⟨S1x1x32x64x128, .i1⟩
  | 62 => ⟨S_, .f32⟩
  | 63 => ⟨S_, .f32⟩
  | 64 => ⟨S2x16x32x64x128, .i1⟩
  | 65 => ⟨S2x16x32x64x128, .f32⟩
  | 66 => ⟨S2x16x32x64x128, .f32⟩
  | 67 => ⟨S_, .f32⟩
  | 68 => ⟨S2x16x32x64, .f32⟩
  | 69 => ⟨S_, .f32⟩
  | 70 => ⟨S2x16x32x64, .f32⟩
  | 71 => ⟨S2x16x32x64, .f32⟩
  | 72 => ⟨S2x16x32x64x1, .f32⟩
  | 73 => ⟨S2x16x32x64x128, .f32⟩
  | 74 => ⟨S2x16x32x64x128, .f32⟩
  | 75 => ⟨S2x16x32x64x128, .f32⟩
  | 76 => ⟨S_, .f32⟩
  | 77 => ⟨S2x16x32x64, .f32⟩
  | 78 => ⟨S2x16x32x64x1, .f32⟩
  | 79 => ⟨S2x16x32x64x128, .f32⟩
  | 80 => ⟨S2x16x32x64x128, .f32⟩
  | 81 => ⟨S_, .f32⟩
  | 82 => ⟨S_, .f32⟩
  | 83 => ⟨S2x16x32x64x128, .i1⟩
  | 84 => ⟨S2x16x32x64x128, .f32⟩
  | 85 => ⟨S2x16x32x64x128, .f32⟩
  | 86 => ⟨S_, .f32⟩
  | 87 => ⟨S2x16x32x64, .f32⟩
  | 88 => ⟨S2x16x32x64x1, .f32⟩
  | 89 => ⟨S_, .f32⟩
  | 90 => ⟨S2x16x32x64x1, .f32⟩
  | 91 => ⟨S2x16x32x64x1, .f32⟩
  | 92 => ⟨S2x16x32x64x128, .f32⟩
  | 93 => ⟨S2x16x32x64x128, .f32⟩
  | 94 => ⟨S2x16x32x64x64, .f32⟩
  | 95 => ⟨S2x16x2048x64, .f32⟩
  | 96 => ⟨S2x16x2048x1, .f32⟩
  | 97 => ⟨S2x16x2048x64, .f32⟩
  | 98 => ⟨S2x16x2048x64, .f32⟩
  | 99 => ⟨S2x16x2048x1, .f32⟩
  | 100 => ⟨S2x16x2048x64, .f32⟩
  | 101 => ⟨S2x16x2048x64, .f32⟩
  | 102 => ⟨S2x16x2048x64, .f32⟩
  | 103 => ⟨S2x16x2048x1, .f32⟩
  | 104 => ⟨S2x16x2048x64, .f32⟩
  | 105 => ⟨S2x16x2048x64, .f32⟩
  | 106 => ⟨S2x16x2048x64, .f32⟩
  | _ => ⟨S2x16x64x4, .i32⟩

abbrev hbmTy (i : Nat) : BufTy := match i / 128 with
  | 0 => hbmTy0_0 i
  | 1 => hbmTy0_1 i
  | _ => ⟨S2x16x64x4, .i32⟩

abbrev bufTy : (tb : Table) → Fin (tcTables nBuf tb) → BufTy
  | .hbm, ⟨i, _⟩ => hbmTy i
  | _, _ => ⟨S2x16x64x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_call2_v0 : Ref sig .tc := ⟨.hbm, 65, rfl⟩
abbrev main_call2_v1 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_12 : Ref sig .tc := ⟨.hbm, 104, rfl⟩
abbrev main_call3_v0 : Ref sig .tc := ⟨.hbm, 105, rfl⟩
abbrev main_call3_v1 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_16 : Ref sig .tc := ⟨.hbm, 122, rfl⟩
abbrev main_call4_v0 : Ref sig .tc := ⟨.hbm, 123, rfl⟩
abbrev main_call4_v1 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_cst_18 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_19 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_20 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_21 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_22 : Ref sig .tc := ⟨.hbm, 162, rfl⟩
abbrev main_v119 : Ref sig .tc := ⟨.hbm, 163, rfl⟩
abbrev main_v120 : Ref sig .tc := ⟨.hbm, 164, rfl⟩
abbrev main_c_23 : Ref sig .tc := ⟨.hbm, 165, rfl⟩
abbrev main_v121 : Ref sig .tc := ⟨.hbm, 166, rfl⟩
abbrev main_v122 : Ref sig .tc := ⟨.hbm, 167, rfl⟩
abbrev main_c_24 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_c_25 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_c_26 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_call5_v0 : Ref sig .tc := ⟨.hbm, 185, rfl⟩
abbrev main_call5_v1 : Ref sig .tc := ⟨.hbm, 186, rfl⟩
abbrev main_call5_v2 : Ref sig .tc := ⟨.hbm, 187, rfl⟩
abbrev main_v137 : Ref sig .tc := ⟨.hbm, 188, rfl⟩
abbrev main_v138 : Ref sig .tc := ⟨.hbm, 189, rfl⟩
abbrev main_cst_27 : Ref sig .tc := ⟨.hbm, 190, rfl⟩
abbrev main_call6_v0 : Ref sig .tc := ⟨.hbm, 191, rfl⟩
abbrev main_call6_v1 : Ref sig .tc := ⟨.hbm, 192, rfl⟩
abbrev main_call6_v2 : Ref sig .tc := ⟨.hbm, 193, rfl⟩
abbrev main_v139 : Ref sig .tc := ⟨.hbm, 194, rfl⟩
abbrev main_cst_28 : Ref sig .tc := ⟨.hbm, 195, rfl⟩
abbrev main_v140 : Ref sig .tc := ⟨.hbm, 196, rfl⟩
abbrev main_cst_29 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_30 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_31 : Ref sig .tc := ⟨.hbm, 209, rfl⟩
abbrev main_call7_v0 : Ref sig .tc := ⟨.hbm, 210, rfl⟩
abbrev main_call7_v1 : Ref sig .tc := ⟨.hbm, 211, rfl⟩
abbrev main_call7_v2 : Ref sig .tc := ⟨.hbm, 212, rfl⟩
abbrev main_v151 : Ref sig .tc := ⟨.hbm, 213, rfl⟩
abbrev main_cst_32 : Ref sig .tc := ⟨.hbm, 214, rfl⟩
abbrev main_v152 : Ref sig .tc := ⟨.hbm, 215, rfl⟩
abbrev main_v153 : Ref sig .tc := ⟨.hbm, 216, rfl⟩
abbrev main_cst_33 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩

abbrev nD : Nat := 1
abbrev τ : Topo := Topo.v7x

variable {F : FTy → Type} [FloatOps F]
-- ==== Out.lean ====
abbrev S2x16x2048x64 : Shape := ⟨4, ![2, 16, 2048, 64]⟩
abbrev S1024x1024 : Shape := ⟨2, ![1024, 1024]⟩
abbrev S2x2048x16x64 : Shape := ⟨4, ![2, 2048, 16, 64]⟩
abbrev S4096x1024 : Shape := ⟨2, ![4096, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x16x2048x64, .f32⟩
  | .hbm, ⟨1, _⟩ => ⟨S1024x1024, .f32⟩
  | .hbm, ⟨2, _⟩ => ⟨S2x2048x16x64, .f32⟩
  | .hbm, ⟨3, _⟩ => ⟨S4096x1024, .f32⟩
  | .hbm, ⟨4, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutRefIdeal.lean ====
abbrev S2x16x2048x64 : Shape := ⟨4, ![2, 16, 2048, 64]⟩
abbrev S1024x1024 : Shape := ⟨2, ![1024, 1024]⟩
abbrev S2x2048x16x64 : Shape := ⟨4, ![2, 2048, 16, 64]⟩
abbrev S2x2048x1024 : Shape := ⟨3, ![2, 2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S1024x1024, .f32⟩
  | .hbm, ⟨2, _⟩ => ⟨S2x2048x16x64, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj.lean ====
abbrev S2x2048x1024 : Shape := ⟨3, ![2, 2048, 1024]⟩
abbrev S2x2048x3 : Shape := ⟨3, ![2, 2048, 3]⟩
abbrev S3x1024 : Shape := ⟨2, ![3, 1024]⟩
abbrev S1024 : Shape := ⟨1, ![1024]⟩
abbrev S1024x1024 : Shape := ⟨2, ![1024, 1024]⟩
abbrev S1024x48 : Shape := ⟨2, ![1024, 48]⟩
abbrev S32 : Shape := ⟨1, ![32]⟩
abbrev S4096x1024 : Shape := ⟨2, ![4096, 1024]⟩
abbrev S4096x3 : Shape := ⟨2, ![4096, 3]⟩
abbrev S1x1024 : Shape := ⟨2, ![1, 1024]⟩
abbrev S8x8 : Shape := ⟨2, ![8, 8]⟩
abbrev S_ : Shape := ⟨0, ![]⟩
abbrev S1x32 : Shape := ⟨2, ![1, 32]⟩
abbrev S8x1x8x1 : Shape := ⟨4, ![8, 1, 8, 1]⟩
abbrev S1x1x1x32 : Shape := ⟨4, ![1, 1, 1, 32]⟩
abbrev S8x1x8x32 : Shape := ⟨4, ![8, 1, 8, 32]⟩
abbrev S8x256 : Shape := ⟨2, ![8, 256]⟩
abbrev S4096x48 : Shape := ⟨2, ![4096, 48]⟩
abbrev S128x1024 : Shape := ⟨2, ![128, 1024]⟩
abbrev S256x1024 : Shape := ⟨2, ![256, 1024]⟩
abbrev S256x3 : Shape := ⟨2, ![256, 3]⟩
abbrev S256x48 : Shape := ⟨2, ![256, 48]⟩
abbrev S8x1024 : Shape := ⟨2, ![8, 1024]⟩

abbrev nBuf : Space → Nat
  | .hbm => 40
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3, .f32⟩
  | .hbm, ⟨2, _⟩ => ⟨S3x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x48, .f32⟩
  | .hbm, ⟨8, _⟩ => ⟨S32, .f32⟩
  | .hbm, ⟨9, _⟩ => ⟨S32, .f32⟩
  | .hbm, ⟨10, _⟩ => ⟨S4096x1024, .f32⟩
  | .hbm, ⟨11, _⟩ => ⟨S4096x3, .f32⟩
  | .hbm, ⟨12, _⟩ => ⟨S1x1024, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S1x32, .f32⟩
  | .hbm, ⟨21, _⟩ => ⟨S8x1x8x1, .f32⟩
  | .hbm, ⟨22, _⟩ => ⟨S1x1x1x32, .f32⟩
  | .hbm, ⟨23, _⟩ => ⟨S8x1x8x32, .f32⟩
  | .hbm, ⟨24, _⟩ => ⟨S8x1x8x32, .f32⟩
  | .hbm, ⟨25, _⟩ => ⟨S8x1x8x32, .f32⟩
  | .hbm, ⟨26, _⟩ => ⟨S8x256, .f32⟩
  | .hbm, ⟨27, _⟩ => ⟨S1x32, .f32⟩
  | .hbm, ⟨28, _⟩ => ⟨S8x1x8x1, .f32⟩
  | .hbm, ⟨29, _⟩ => ⟨S1x1x1x32, .f32⟩
  | .hbm, ⟨30, _⟩ => ⟨S8x1x8x32, .f32⟩
  | .hbm, ⟨31, _⟩ => ⟨S8x1x8x32, .f32⟩
  | .hbm, ⟨32, _⟩ => ⟨S8x1x8x32, .f32⟩
  | .hbm, ⟨33, _⟩ => ⟨S8x256, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x48, .f32⟩
  | .hbm, ⟨38, _⟩ => ⟨S128x1024, .f32⟩
  | .hbm, ⟨39, _⟩ => ⟨S128x1024, .f32⟩
  | .local _ .vmem, ⟨0, _⟩ => ⟨S256x1024, .f32⟩
  | .local _ .vmem, ⟨1, _⟩ => ⟨S256x1024, .f32⟩
  | .local _ .vmem, ⟨2, _⟩ => ⟨S256x3, .f32⟩
  | .local _ .vmem, ⟨3, _⟩ => ⟨S256x3, .f32⟩
  | .local _ .vmem, ⟨4, _⟩ => ⟨S3x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x48, .f32⟩
  | .local _ .vmem, ⟨10, _⟩ => ⟨S8x256, .f32⟩
  | .local _ .vmem, ⟨11, _⟩ => ⟨S8x256, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x48, .f32⟩
  | .local _ .vmem, ⟨19, _⟩ => ⟨S256x48, .f32⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev main_v13_2 : Ref sig .tc := ⟨.hbm, 36, rfl⟩
abbrev main_v13_3 : Ref sig .tc := ⟨.hbm, 37, rfl⟩
abbrev main_v13_4 : Ref sig .tc := ⟨.hbm, 38, rfl⟩
abbrev main_v13_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x48 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S2x2048x1024 : Shape := ⟨3, ![2, 2048, 1024]⟩
abbrev S2x2048x3 : Shape := ⟨3, ![2, 2048, 3]⟩
abbrev S3x1024 : Shape := ⟨2, ![3, 1024]⟩
abbrev S1024 : Shape := ⟨1, ![1024]⟩
abbrev S1024x1024 : Shape := ⟨2, ![1024, 1024]⟩
abbrev S1024x48 : Shape := ⟨2, ![1024, 48]⟩
abbrev S32 : Shape := ⟨1, ![32]⟩
abbrev S1x1x1024 : Shape := ⟨3, ![1, 1, 1024]⟩
abbrev S2x2048x48 : Shape := ⟨3, ![2, 2048, 48]⟩
abbrev S_ : Shape := ⟨0, ![]⟩
abbrev S2x64x32x1024 : Shape := ⟨4, ![2, 64, 32, 1024]⟩
abbrev S2x64x1024 : Shape := ⟨3, ![2, 64, 1024]⟩
abbrev S4096x1024 : Shape := ⟨2, ![4096, 1024]⟩
abbrev S4096x48 : Shape := ⟨2, ![4096, 48]⟩
abbrev S128x1024 : Shape := ⟨2, ![128, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3, .f32⟩
  | .hbm, ⟨2, _⟩ => ⟨S3x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x48, .f32⟩
  | .hbm, ⟨8, _⟩ => ⟨S32, .f32⟩
  | .hbm, ⟨9, _⟩ => ⟨S32, .f32⟩
  | .hbm, ⟨10, _⟩ => ⟨S2x2048x1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x48, .f32⟩
  | .hbm, ⟨19, _⟩ => ⟨S2x2048x48, .f32⟩
  | .hbm, ⟨20, _⟩ => ⟨S2x2048x48, .f32⟩
  | .hbm, ⟨21, _⟩ => ⟨S_, .f32⟩
  | .hbm, ⟨22, _⟩ => ⟨S2x2048x48, .f32⟩
  | .hbm, ⟨23, _⟩ => ⟨S2x2048x48, .f32⟩
  | .hbm, ⟨24, _⟩ => ⟨S_, .f32⟩
  | .hbm, ⟨25, _⟩ => ⟨S2x2048x48, .f32⟩
  | .hbm, ⟨26, _⟩ => ⟨S2x2048x48, .f32⟩
  | .hbm, ⟨27, _⟩ => ⟨S2x64x32x1024, .f32⟩
  | .hbm, ⟨28, _⟩ => ⟨S2x64x1024, .f32⟩
  | .hbm, ⟨29, _⟩ => ⟨S2x64x32x1024, .f32⟩
  | .hbm, ⟨30, _⟩ => ⟨S2x64x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x48, .f32⟩
  | .hbm, ⟨35, _⟩ => ⟨S128x1024, .f32⟩
  | .hbm, ⟨36, _⟩ => ⟨S128x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.Ideal.Region0.lean ====
/- The first pallas_call's run at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x1024 := Rect.unit (s := S256x1024) ![0, 0] S256x1024.size inb_S256x1024_S256x1024_0_0
abbrev r0_1 : Rect S256x3 := Rect.unit (s := S256x3) ![0, 0] S256x3.size inb_S256x3_S256x3_0_0
abbrev r0_2 : Rect S3x1024 := Rect.unit (s := S3x1024) ![0, 0] S3x1024.size inb_S3x1024_S3x1024_0_0
abbrev r0_3 : Rect S1x1024 := Rect.unit (s := S1x1024) ![0, 0] S1x1024.size inb_S1x1024_S1x1024_0_0
abbrev r0_4 : Rect S1024x1024 := Rect.unit (s := S1024x1024) ![0, 0] S1024x1024.size inb_S1024x1024_S1024x1024_0_0
abbrev r0_5 : Rect S1024x48 := Rect.unit (s := S1024x48) ![0, 0] S1024x48.size inb_S1024x48_S1024x48_0_0
abbrev r0_6 : Rect S256x48 := Rect.unit (s := S256x48) ![0, 0] S256x48.size inb_S256x48_S256x48_0_0
abbrev r0_7 : Rect S8x256 := Rect.unit (s := S8x256) ![0, 0] S8x256.size inb_S8x256_S8x256_0_0
abbrev r0_8 : Rect S8x1024 := Rect.unit (s := S8x1024) ![0, 0] S8x1024.size inb_S8x1024_S8x1024_0_0

def out0_10 (x0 : Vec F S256x1024 .f32) (x1 : Vec F S256x3 .f32) (x2 : Vec F S3x1024 .f32) (x3 : Vec F S1x1024 .f32) (x4 : Vec F S1024x1024 .f32) (x5 : Vec F S1024x1024 .f32) (x6 : Vec F S1024x1024 .f32) (x7 : Vec F S1024x48 .f32) (x8 : Vec F S8x256 .f32) (x9 : Vec F S8x256 .f32) : Vec F S256x1024 .f32 :=
  View.canon [⟨r0_0, k0_pay4 (View.ld x0 r0_0) (View.ld x1 r0_1) (View.ld x2 r0_2) (View.ld x3 r0_3) (View.ld x4 r0_4)⟩]

theorem cover0_10 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_11 (x0 : Vec F S256x1024 .f32) (x1 : Vec F S256x3 .f32) (x2 : Vec F S3x1024 .f32) (x3 : Vec F S1x1024 .f32) (x4 : Vec F S1024x1024 .f32) (x5 : Vec F S1024x1024 .f32) (x6 : Vec F S1024x1024 .f32) (x7 : Vec F S1024x48 .f32) (x8 : Vec F S8x256 .f32) (x9 : Vec F S8x256 .f32) : Vec F S256x1024 .f32 :=
  View.canon [⟨r0_0, k0_pay5 (View.ld x0 r0_0) (View.ld x1 r0_1) (View.ld x2 r0_2) (View.ld x3 r0_3) (View.ld x5 r0_4)⟩]

theorem cover0_11 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_12 (x0 : Vec F S256x1024 .f32) (x1 : Vec F S256x3 .f32) (x2 : Vec F S3x1024 .f32) (x3 : Vec F S1x1024 .f32) (x4 : Vec F S1024x1024 .f32) (x5 : Vec F S1024x1024 .f32) (x6 : Vec F S1024x1024 .f32) (x7 : Vec F S1024x48 .f32) (x8 : Vec F S8x256 .f32) (x9 : Vec F S8x256 .f32) : Vec F S256x1024 .f32 :=
  View.canon [⟨r0_0, k0_pay6 (View.ld x0 r0_0) (View.ld x1 r0_1) (View.ld x2 r0_2) (View.ld x3 r0_3) (View.ld x6 r0_4)⟩]

theorem cover0_12 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_13 (x0 : Vec F S256x1024 .f32) (x1 : Vec F S256x3 .f32) (x2 : Vec F S3x1024 .f32) (x3 : Vec F S1x1024 .f32) (x4 : Vec F S1024x1024 .f32) (x5 : Vec F S1024x1024 .f32) (x6 : Vec F S1024x1024 .f32) (x7 : Vec F S1024x48 .f32) (x8 : Vec F S8x256 .f32) (x9 : Vec F S8x256 .f32) : Vec F S256x48 .f32 :=
  View.canon [⟨r0_6, k0_pay7 (View.ld x0 r0_0) (View.ld x1 r0_1) (View.ld x2 r0_2) (View.ld x3 r0_3) (View.ld x7 r0_5)⟩]

theorem cover0_13 (p0 : Vec F S256x48 .f32) (y : S256x48.Idx) :
    ∃ pc ∈ ([⟨r0_6, p0⟩] : List (View.Piece (Elt F) S256x48 .f32)), y ∈ pc.1.set :=
  View.cover_of_tiled [⟨r0_6, p0⟩] S256x48.size (by rfl) y

def out0_14 (x0 : Vec F S256x1024 .f32) (x1 : Vec F S256x3 .f32) (x2 : Vec F S3x1024 .f32) (x3 : Vec F S1x1024 .f32) (x4 : Vec F S1024x1024 .f32) (x5 : Vec F S1024x1024 .f32) (x6 : Vec F S1024x1024 .f32) (x7 : Vec F S1024x48 .f32) (x8 : Vec F S8x256 .f32) (x9 : Vec F S8x256 .f32) : Vec F S8x1024 .f32 :=
  View.canon [⟨r0_8, k0_pay1 (k0_pay5 (View.ld x0 r0_0) (View.ld x1 r0_1) (View.ld x2 r0_2) (View.ld x3 r0_3) (View.ld x5 r0_4)) (View.ld x8 r0_7)⟩]

theorem cover0_14 (p0 : Vec F S8x1024 .f32) (y : S8x1024.Idx) :
    ∃ pc ∈ ([⟨r0_8, p0⟩] : List (View.Piece (Elt F) S8x1024 .f32)), y ∈ pc.1.set :=
  View.cover_of_tiled [⟨r0_8, p0⟩] S8x1024.size (by rfl) y

def out0_15 (x0 : Vec F S256x1024 .f32) (x1 : Vec F S256x3 .f32) (x2 : Vec F S3x1024 .f32) (x3 : Vec F S1x1024 .f32) (x4 : Vec F S1024x1024 .f32) (x5 : Vec F S1024x1024 .f32) (x6 : Vec F S1024x1024 .f32) (x7 : Vec F S1024x48 .f32) (x8 : Vec F S8x256 .f32) (x9 : Vec F S8x256 .f32) : Vec F S8x1024 .f32 :=
  View.canon [⟨r0_8, k0_pay2 (k0_pay6 (View.ld x0 r0_0) (View.ld x1 r0_1) (View.ld x2 r0_2) (View.ld x3 r0_3) (View.ld x6 r0_4)) (View.ld x9 r0_7)⟩]

theorem cover0_15 (p0 : Vec F S8x1024 .f32) (y : S8x1024.Idx) :
    ∃ pc ∈ ([⟨r0_8, p0⟩] : List (View.Piece (Elt F) S8x1024 .f32)), y ∈ pc.1.set :=
  View.cover_of_tiled [⟨r0_8, p0⟩] S8x1024.size (by rfl) y

set_option maxHeartbeats 1000000 in
theorem sound_kernel0 (c : Dev nD) (E : Set ℕ) (i : grid0.Coords) (arg1 : Memref sig .tc .vmem S256x1024 .f32) (harg1 : arg1.IsWhole) (arg2 : Memref sig .tc .vmem S256x3 .f32) (harg2 : arg2.IsWhole) (arg3 : Memref sig .tc .vmem S3x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x48 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x48 .f32) (harg14 : arg14.IsWhole) (arg15 : Memref sig .tc .vmem S8x1024 .f32) (harg15 : arg15.IsWhole) (arg16 : Memref sig .tc .vmem S8x1024 .f32) (harg16 : arg16.IsWhole)
    (x0 : Vec F S256x1024 .f32) (x1 : Vec F S256x3 .f32) (x2 : Vec F S3x1024 .f32) (x3 : Vec F S1x1024 .f32) (x4 : Vec F S1024x1024 .f32) (x5 : Vec F S1024x1024 .f32) (x6 : Vec F S1024x1024 .f32) (x7 : Vec F S1024x48 .f32) (x8 : Vec F S8x256 .f32) (x9 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9) ∗ owns (c : Thread nD τ) arg13 fullShare (out0_12 x0 x1 x2 x3 x4 x5 x6 x7 x8 x9) ∗ owns (c : Thread nD τ) arg14 fullShare (out0_13 x0 x1 x2 x3 x4 x5 x6 x7 x8 x9) ∗ owns (c : Thread nD τ) arg15 fullShare (out0_14 x0 x1 x2 x3 x4 x5 x6 x7 x8 x9) ∗ owns (c : Thread nD τ) arg16 fullShare (out0_15 x0 x1 x2 x3 x4 x5 x6 x7 x8 x9)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  isplitl [H13]
  · iexists _; isplitr
    swap; · iexact H13
    ipureintro
    exact View.read_writes_eq_canon _ _ _ (cover0_13 _)
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨_ + 16, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ (grid0.coords t) _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.Ideal.Region1.lean ====
/- The attention call's run at any entry contents, given that every block index word read keeps its key block inside the array. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev VO1_7 : View sig .tc .vmem S1x1x2048x64 .f32 := (Memref.whole cc1_stg7_0 : Memref sig .tc .vmem S1x1x2048x64 .f32).view
abbrev ms1_0 (t : Fin cfg1.N) : Memref sig .tc .smem S1x1x64x4 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x2048x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x2048x3 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x2048x64 .f32 := win1_7.stage (cfg1.slots t 7)
abbrev hs1_7 (t : Fin cfg1.N) : (ms1_7 t).IsWhole := hstage1_7 ((cfg1.slots t 7).cast nbuf1_7)
abbrev scM1_0 : Memref sig .tc .vmem S2048x64 .f32 := Memref.whole cc1_scratch0

theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl
set_option maxHeartbeats 1000000 in
noncomputable def kernelRun1_A (c : Dev nD) (i : grid1.Coords) (arg2 : Memref sig .tc .smem S1x1x64x4 .i32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x1x2048x3 .f32) (harg8 : arg8.IsWhole) (arg9 : Memref sig .tc .vmem S1x1x2048x64 .f32) (harg9 : arg9.IsWhole) (arg10 : Memref sig .tc .vmem S2048x64 .f32) (harg10 : arg10.IsWhole)
    (x0 : Vec F S1x1x64x4 .i32) (x1 : Vec F S1x1x2048x64 .f32) (x2 : Vec F S1x1x2048x64 .f32) (x3 : Vec F S1x1x2048x64 .f32) (x4 : Vec F S1x1x64x64 .f32) (x5 : Vec F S1x1x64x64 .f32) (x6 : Vec F S1x1x2048x3 .f32) (k1_hw1L : (∀ (kq : ℕ) (hkq : kq < k1_t1_loop.trips), k1_chk1 (arg2.view.readAt (Elt F) (Rect.unit (s := S1x1x64x4) (k1_off2 ⟨kq, hkq⟩) S1x1x1x1.size (k1_off2_inb ⟨kq, hkq⟩)).toLoadRect (harg2.unread x0) (Shape.Idx.first (numel1_S1x1x1x1.symm ▸ Nat.one_pos))))) (k1_hw2L : (∀ (kq : ℕ) (hkq : kq < k1_t1_loop.trips), k1_chk2 (arg2.view.readAt (Elt F) (Rect.unit (s := S1x1x64x4) (k1_off4 ⟨kq, hkq⟩) S1x1x1x1.size (k1_off4_inb ⟨kq, hkq⟩)).toLoadRect (harg2.unread x0) (Shape.Idx.first (numel1_S1x1x1x1.symm ▸ Nat.one_pos))))) (k1_hw3L : (∀ (kq : ℕ) (hkq : kq < k1_t1_loop.trips), k1_chk3 (arg2.view.readAt (Elt F) (Rect.unit (s := S1x1x64x4) (k1_off6 ⟨kq, hkq⟩) S1x1x1x1.size (k1_off6_inb ⟨kq, hkq⟩)).toLoadRect (harg2.unread x0) (Shape.Idx.first (numel1_S1x1x1x1.symm ▸ Nat.one_pos))))) (k1_hw4L : (∀ (kq : ℕ) (hkq : kq < k1_t1_loop.trips), k1_chk4 (arg2.view.readAt (Elt F) (Rect.unit (s := S1x1x64x4) (k1_off8 ⟨kq, hkq⟩) S1x1x1x1.size (k1_off8_inb ⟨kq, hkq⟩)).toLoadRect (harg2.unread x0) (Shape.Idx.first (numel1_S1x1x1x1.symm ▸ Nat.one_pos))))) :
    { L7 : List (View.Piece (Elt F) S1x1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, fun E K => ?run⟩
  case run =>
    simp only [cc1__attn_kernel_eq_skeleton]; unfold cc1__attn_kernel_skel
    simp only [k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _, _; isplitr; swap; · iexact HS0
    ipureintro; rfl

theorem cover1_A_7 (c : Dev nD) (i : grid1.Coords) (arg2 : Memref sig .tc .smem S1x1x64x4 .i32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x1x2048x3 .f32) (harg8 : arg8.IsWhole) (arg9 : Memref sig .tc .vmem S1x1x2048x64 .f32) (harg9 : arg9.IsWhole) (arg10 : Memref sig .tc .vmem S2048x64 .f32) (harg10 : arg10.IsWhole)
    (x0 : Vec F S1x1x64x4 .i32) (x1 : Vec F S1x1x2048x64 .f32) (x2 : Vec F S1x1x2048x64 .f32) (x3 : Vec F S1x1x2048x64 .f32) (x4 : Vec F S1x1x64x64 .f32) (x5 : Vec F S1x1x64x64 .f32) (x6 : Vec F S1x1x2048x3 .f32) (k1_hw1L : (∀ (kq : ℕ) (hkq : kq < k1_t1_loop.trips), k1_chk1 (arg2.view.readAt (Elt F) (Rect.unit (s := S1x1x64x4) (k1_off2 ⟨kq, hkq⟩) S1x1x1x1.size (k1_off2_inb ⟨kq, hkq⟩)).toLoadRect (harg2.unread x0) (Shape.Idx.first (numel1_S1x1x1x1.symm ▸ Nat.one_pos))))) (k1_hw2L : (∀ (kq : ℕ) (hkq : kq < k1_t1_loop.trips), k1_chk2 (arg2.view.readAt (Elt F) (Rect.unit (s := S1x1x64x4) (k1_off4 ⟨kq, hkq⟩) S1x1x1x1.size (k1_off4_inb ⟨kq, hkq⟩)).toLoadRect (harg2.unread x0) (Shape.Idx.first (numel1_S1x1x1x1.symm ▸ Nat.one_pos))))) (k1_hw3L : (∀ (kq : ℕ) (hkq : kq < k1_t1_loop.trips), k1_chk3 (arg2.view.readAt (Elt F) (Rect.unit (s := S1x1x64x4) (k1_off6 ⟨kq, hkq⟩) S1x1x1x1.size (k1_off6_inb ⟨kq, hkq⟩)).toLoadRect (harg2.unread x0) (Shape.Idx.first (numel1_S1x1x1x1.symm ▸ Nat.one_pos))))) (k1_hw4L : (∀ (kq : ℕ) (hkq : kq < k1_t1_loop.trips), k1_chk4 (arg2.view.readAt (Elt F) (Rect.unit (s := S1x1x64x4) (k1_off8 ⟨kq, hkq⟩) S1x1x1x1.size (k1_off8_inb ⟨kq, hkq⟩)).toLoadRect (harg2.unread x0) (Shape.Idx.first (numel1_S1x1x1x1.symm ▸ Nat.one_pos))))) (y : S1x1x2048x64.Idx) :
    ∃ pc ∈ (kernelRun1_A c i arg2 harg2 arg3 harg3 arg4 harg4 arg5 harg5 arg6 harg6 arg7 harg7 arg8 harg8 arg9 harg9 arg10 harg10 x0 x1 x2 x3 x4 x5 x6 k1_hw1L k1_hw2L k1_hw3L k1_hw4L).1, y ∈ pc.1.set :=
  View.cover_of_tiledL (kernelRun1_A c i arg2 harg2 arg3 harg3 arg4 harg4 arg5 harg5 arg6 harg6 arg7 harg7 arg8 harg8 arg9 harg9 arg10 harg10 x0 x1 x2 x3 x4 x5 x6 k1_hw1L k1_hw2L k1_hw3L k1_hw4L).1 S1x1x32x64.size (by sl_kernel_rfl) y

def out1_A_7 (c : Dev nD) (i : grid1.Coords) (arg2 : Memref sig .tc .smem S1x1x64x4 .i32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x1x2048x3 .f32) (harg8 : arg8.IsWhole) (arg9 : Memref sig .tc .vmem S1x1x2048x64 .f32) (harg9 : arg9.IsWhole) (arg10 : Memref sig .tc .vmem S2048x64 .f32) (harg10 : arg10.IsWhole)
    (x0 : Vec F S1x1x64x4 .i32) (x1 : Vec F S1x1x2048x64 .f32) (x2 : Vec F S1x1x2048x64 .f32) (x3 : Vec F S1x1x2048x64 .f32) (x4 : Vec F S1x1x64x64 .f32) (x5 : Vec F S1x1x64x64 .f32) (x6 : Vec F S1x1x2048x3 .f32) (k1_hw1L : (∀ (kq : ℕ) (hkq : kq < k1_t1_loop.trips), k1_chk1 (arg2.view.readAt (Elt F) (Rect.unit (s := S1x1x64x4) (k1_off2 ⟨kq, hkq⟩) S1x1x1x1.size (k1_off2_inb ⟨kq, hkq⟩)).toLoadRect (harg2.unread x0) (Shape.Idx.first (numel1_S1x1x1x1.symm ▸ Nat.one_pos))))) (k1_hw2L : (∀ (kq : ℕ) (hkq : kq < k1_t1_loop.trips), k1_chk2 (arg2.view.readAt (Elt F) (Rect.unit (s := S1x1x64x4) (k1_off4 ⟨kq, hkq⟩) S1x1x1x1.size (k1_off4_inb ⟨kq, hkq⟩)).toLoadRect (harg2.unread x0) (Shape.Idx.first (numel1_S1x1x1x1.symm ▸ Nat.one_pos))))) (k1_hw3L : (∀ (kq : ℕ) (hkq : kq < k1_t1_loop.trips), k1_chk3 (arg2.view.readAt (Elt F) (Rect.unit (s := S1x1x64x4) (k1_off6 ⟨kq, hkq⟩) S1x1x1x1.size (k1_off6_inb ⟨kq, hkq⟩)).toLoadRect (harg2.unread x0) (Shape.Idx.first (numel1_S1x1x1x1.symm ▸ Nat.one_pos))))) (k1_hw4L : (∀ (kq : ℕ) (hkq : kq < k1_t1_loop.trips), k1_chk4 (arg2.view.readAt (Elt F) (Rect.unit (s := S1x1x64x4) (k1_off8 ⟨kq, hkq⟩) S1x1x1x1.size (k1_off8_inb ⟨kq, hkq⟩)).toLoadRect (harg2.unread x0) (Shape.Idx.first (numel1_S1x1x1x1.symm ▸ Nat.one_pos))))) : Vec F S1x1x2048x64 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 x0 x1 x2 x3 x4 x5 x6 k1_hw1L k1_hw2L k1_hw3L k1_hw4L).1)

def Hyps1 : Prop :=
  ∀ (c : Dev nD) (t : Fin cfg1.N),
    (∀ (kq : ℕ) (hkq : kq < k1_t1_loop.trips), k1_chk1 ((ms1_0 t).view.readAt (Elt F) (Rect.unit (s := S1x1x64x4) (k1_off2 ⟨kq, hkq⟩) S1x1x1x1.size (k1_off2_inb ⟨kq, hkq⟩)).toLoadRect ((hs1_0 t).unread (iblk1 V c 0 t)) (Shape.Idx.first (numel1_S1x1x1x1.symm ▸ Nat.one_pos))))
    ∧ (∀ (kq : ℕ) (hkq : kq < k1_t1_loop.trips), k1_chk2 ((ms1_0 t).view.readAt (Elt F) (Rect.unit (s := S1x1x64x4) (k1_off4 ⟨kq, hkq⟩) S1x1x1x1.size (k1_off4_inb ⟨kq, hkq⟩)).toLoadRect ((hs1_0 t).unread (iblk1 V c 0 t)) (Shape.Idx.first (numel1_S1x1x1x1.symm ▸ Nat.one_pos))))
    ∧ (∀ (kq : ℕ) (hkq : kq < k1_t1_loop.trips), k1_chk3 ((ms1_0 t).view.readAt (Elt F) (Rect.unit (s := S1x1x64x4) (k1_off6 ⟨kq, hkq⟩) S1x1x1x1.size (k1_off6_inb ⟨kq, hkq⟩)).toLoadRect ((hs1_0 t).unread (iblk1 V c 0 t)) (Shape.Idx.first (numel1_S1x1x1x1.symm ▸ Nat.one_pos))))
    ∧ (∀ (kq : ℕ) (hkq : kq < k1_t1_loop.trips), k1_chk4 ((ms1_0 t).view.readAt (Elt F) (Rect.unit (s := S1x1x64x4) (k1_off8 ⟨kq, hkq⟩) S1x1x1x1.size (k1_off8_inb ⟨kq, hkq⟩)).toLoadRect ((hs1_0 t).unread (iblk1 V c 0 t)) (Shape.Idx.first (numel1_S1x1x1x1.symm ▸ Nat.one_pos))))

def outsAt1 (hH : Hyps1 V) (c : Dev nD) (t : Fin cfg1.N) : Vec F S1x1x2048x64 .f32 :=
  out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) (iblk1 V c 6 t) (hH c t).1 (hH c t).2.1 (hH c t).2.2.1 (hH c t).2.2.2

def dat1 (hH : Hyps1 V) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V hH c t)
  Φ _ := Pipeline.ΦA spec1 c
  q _ := fullShare
  owed _ := 0

theorem A_eq1 (hH : Hyps1 V) (c : Dev nD) (w : Fin cfg1.W) : (dat1 V hH c).A w = V c (Pipeline.arrRef spec1 w) := by
  dsimp only [dat1]

theorem after1_0 (hH : Hyps1 V) (c : Dev nD) (t : Fin cfg1.N) : (dat1 V hH c).after 0 t = iblk1 V c 0 t := by dsimp only [dat1]
theorem after1_1 (hH : Hyps1 V) (c : Dev nD) (t : Fin cfg1.N) : (dat1 V hH c).after 1 t = iblk1 V c 1 t := by dsimp only [dat1]
theorem after1_2 (hH : Hyps1 V) (c : Dev nD) (t : Fin cfg1.N) : (dat1 V hH c).after 2 t = iblk1 V c 2 t := by dsimp only [dat1]
theorem after1_3 (hH : Hyps1 V) (c : Dev nD) (t : Fin cfg1.N) : (dat1 V hH c).after 3 t = iblk1 V c 3 t := by dsimp only [dat1]
theorem after1_4 (hH : Hyps1 V) (c : Dev nD) (t : Fin cfg1.N) : (dat1 V hH c).after 4 t = iblk1 V c 4 t := by dsimp only [dat1]
theorem after1_5 (hH : Hyps1 V) (c : Dev nD) (t : Fin cfg1.N) : (dat1 V hH c).after 5 t = iblk1 V c 5 t := by dsimp only [dat1]
theorem after1_6 (hH : Hyps1 V) (c : Dev nD) (t : Fin cfg1.N) : (dat1 V hH c).after 6 t = iblk1 V c 6 t := by dsimp only [dat1]
theorem after1_7 (hH : Hyps1 V) (c : Dev nD) (t : Fin cfg1.N) : (dat1 V hH c).after 7 t = (outsAt1 V hH c t) := by dsimp only [dat1]

theorem before1_0 (hH : Hyps1 V) (c : Dev nD) (t : Fin cfg1.N) (d) : (dat1 V hH c).before 0 t d = iblk1 V c 0 t :=
  before1_0_of V (dat1 V hH c) (A_eq1 V hH c 0) (after1_0 V hH c) t d
theorem before1_1 (hH : Hyps1 V) (c : Dev nD) (t : Fin cfg1.N) (d) : (dat1 V hH c).before 1 t d = iblk1 V c 1 t :=
  before1_1_of V (dat1 V hH c) (A_eq1 V hH c 1) (after1_1 V hH c) t d
theorem before1_2 (hH : Hyps1 V) (c : Dev nD) (t : Fin cfg1.N) (d) : (dat1 V hH c).before 2 t d = iblk1 V c 2 t :=
  before1_2_of V (dat1 V hH c) (A_eq1 V hH c 2) (after1_2 V hH c) t d
theorem before1_3 (hH : Hyps1 V) (c : Dev nD) (t : Fin cfg1.N) (d) : (dat1 V hH c).before 3 t d = iblk1 V c 3 t :=
  before1_3_of V (dat1 V hH c) (A_eq1 V hH c 3) (after1_3 V hH c) t d
theorem before1_4 (hH : Hyps1 V) (c : Dev nD) (t : Fin cfg1.N) (d) : (dat1 V hH c).before 4 t d = iblk1 V c 4 t :=
  before1_4_of V (dat1 V hH c) (A_eq1 V hH c 4) (after1_4 V hH c) t d
theorem before1_5 (hH : Hyps1 V) (c : Dev nD) (t : Fin cfg1.N) (d) : (dat1 V hH c).before 5 t d = iblk1 V c 5 t :=
  before1_5_of V (dat1 V hH c) (A_eq1 V hH c 5) (after1_5 V hH c) t d
theorem before1_6 (hH : Hyps1 V) (c : Dev nD) (t : Fin cfg1.N) (d) : (dat1 V hH c).before 6 t d = iblk1 V c 6 t :=
  before1_6_of V (dat1 V hH c) (A_eq1 V hH c 6) (after1_6 V hH c) t d

def bodyPre1 (hH : Hyps1 V) (c : Dev nD) (t : Fin cfg1.N) : sProp 𝕄 :=
  iprop((dat1 V hH c).Φ t.castSucc ∗ (dat1 V hH c).owesAt () t.castSucc
    ∗ (∃ d, owns (c : Thread nD τ) (ms1_0 t) fullShare ((dat1 V hH c).before 0 t d))
    ∗ (∃ d, owns (c : Thread nD τ) (ms1_1 t) fullShare ((dat1 V hH c).before 1 t d))
    ∗ (∃ d, owns (c : Thread nD τ) (ms1_2 t) fullShare ((dat1 V hH c).before 2 t d))
    ∗ (∃ d, owns (c : Thread nD τ) (ms1_3 t) fullShare ((dat1 V hH c).before 3 t d))
    ∗ (∃ d, owns (c : Thread nD τ) (ms1_4 t) fullShare ((dat1 V hH c).before 4 t d))
    ∗ (∃ d, owns (c : Thread nD τ) (ms1_5 t) fullShare ((dat1 V hH c).before 5 t d))
    ∗ (∃ d, owns (c : Thread nD τ) (ms1_6 t) fullShare ((dat1 V hH c).before 6 t d))
    ∗ (∃ d, owns (c : Thread nD τ) (ms1_7 t) fullShare ((dat1 V hH c).before 7 t d)))

def bodyPost1 (hH : Hyps1 V) (c : Dev nD) (t : Fin cfg1.N) : sProp 𝕄 :=
  iprop((dat1 V hH c).Φ t.succ ∗ (dat1 V hH c).owesAt () t.succ
    ∗ owns (c : Thread nD τ) (ms1_0 t) fullShare ((dat1 V hH c).after 0 t)
    ∗ owns (c : Thread nD τ) (ms1_1 t) fullShare ((dat1 V hH c).after 1 t)
    ∗ owns (c : Thread nD τ) (ms1_2 t) fullShare ((dat1 V hH c).after 2 t)
    ∗ owns (c : Thread nD τ) (ms1_3 t) fullShare ((dat1 V hH c).after 3 t)
    ∗ owns (c : Thread nD τ) (ms1_4 t) fullShare ((dat1 V hH c).after 4 t)
    ∗ owns (c : Thread nD τ) (ms1_5 t) fullShare ((dat1 V hH c).after 5 t)
    ∗ owns (c : Thread nD τ) (ms1_6 t) fullShare ((dat1 V hH c).after 6 t)
    ∗ owns (c : Thread nD τ) (ms1_7 t) fullShare ((dat1 V hH c).after 7 t))

set_option maxHeartbeats 800000 in
theorem sound_body1 (hH : Hyps1 V) (c : Dev nD) (t : Fin cfg1.N) :
    bodyPre1 V hH c t ⊢ wp frame (wpE (defs₀ (F := F)) Variants.none c none) Set.univ (bodyAt1 t) (fun _ => bodyPost1 V hH c t) := by
  unfold bodyPre1 bodyPost1 bodyAt1
  simp only [before1_0, before1_1, before1_2, before1_3, before1_4, before1_5, before1_6]
  rw [show (dat1 V hH c).Φ t.succ = (dat1 V hH c).Φ t.castSucc from rfl,
    show (dat1 V hH c).owesAt () t.succ = (dat1 V hH c).owesAt () t.castSucc from rfl,
    after1_0, after1_1, after1_2, after1_3, after1_4, after1_5, after1_6, after1_7]
  rw [show (dat1 V hH c).Φ t.castSucc = Pipeline.ΦA spec1 c from rfl, PhiA1_eq]
  unfold outsAt1
  unfold out1_A_7
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (hH c t).1 (hH c t).2.1 (hH c t).2.2.1 (hH c t).2.2.2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  iintro ⟨H0, H1, H2, H3, H4, H5, H6, ⟨%e7, H7⟩, HS0⟩
  isplitl [HS0 HR1 Hg]
  · isplitl [HS0 HR1]
    · isplitl [HS0]
      · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover1_A_7 c _ _ _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (hH : Hyps1 V) (c : Dev nD) : BodyObligation (dat1 (F := F) V hH c) (defs₀ (F := F)) Variants.none () Set.univ := fun t => by
  rw [bigSep_W1, bigSep_W1, defs₀_row1]
  exact triple_restated (sound_body1 V hH c t) rfl .rfl fun _ => .rfl

end Cert.KernelIdeal.Gen

end
-- ==== Proof.Ideal.Region2.lean ====
/- The output projection's run at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S256x1024 := Rect.unit (s := S256x1024) ![0, 0] S256x1024.size inb_S256x1024_S256x1024_0_0
abbrev r2_1 : Rect S1024x1024 := Rect.unit (s := S1024x1024) ![0, 0] S1024x1024.size inb_S1024x1024_S1024x1024_0_0

def out2_2 (x0 : Vec F S256x1024 .f32) (x1 : Vec F S1024x1024 .f32) : Vec F S256x1024 .f32 :=
  View.canon [⟨r2_0, k2_pay1 (View.ld x0 r2_0) (View.ld x1 r2_1)⟩]

theorem cover2_2 (p0 : Vec F S256x1024 .f32) (y : S256x1024.Idx) :
    ∃ pc ∈ ([⟨r2_0, p0⟩] : List (View.Piece (Elt F) S256x1024 .f32)), y ∈ pc.1.set :=
  View.cover_of_tiled [⟨r2_0, p0⟩] S256x1024.size (by rfl) y

set_option maxHeartbeats 1000000 in
theorem sound_kernel2 (c : Dev nD) (E : Set ℕ) (i : grid2.Coords) (arg1 : Memref sig .tc .vmem S256x1024 .f32) (harg1 : arg1.IsWhole) (arg2 : Memref sig .tc .vmem S1024x1024 .f32) (harg2 : arg2.IsWhole) (arg3 : Memref sig .tc .vmem S256x1024 .f32) (harg3 : arg3.IsWhole)
    (x0 : Vec F S256x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__out_kernel i arg1 harg1 arg2 harg2 arg3 harg3) K := by
  simp only [cc2__out_kernel_eq_skeleton]; unfold cc2__out_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Gen

end
-- ==== Proof.Math.Topk.lean ====
/- The index words a host top-k gives are positions on the sorted axis. -/
module

public import Idealize.ShloMosaic.Lib.StableHlo.Run
public import Idealize.ShloMosaic.Lib.Tactic

@[expose] public section

namespace Cert.Math

open Idealize.ShloMosaic

/-- Each index word of a top-k is the word of a position on the sorted axis. -/
theorem topK_index {s : Shape} {α : Type} (t : Shape) (d : ℕ) (hd : d < s.rank) (gt : α → α → BitVec 1) (x : s.Idx → α)
    (h : s.Slices (fun _ => 0) t) (i : t.Idx) :
    ∃ k : Fin (s.size ⟨d, hd⟩), (Host.topK t d gt x h).2 i = BitVec.ofNat 32 k.val := by
  unfold Host.topK Host.sort2
  simp only [hd, dif_pos]
  exact ⟨_, rfl⟩

/-- A word that is a block index below 64, or minus one, has a nonnegative part at most 63. -/
theorem block_word (w : BitVec 32) (h : (∃ k : Fin 64, w = BitVec.ofNat 32 k.val) ∨ w = 4294967295#32) :
    ∃ k : Fin 64, Scalar.maxsi w 0#32 = BitVec.ofNat 32 k.val := by
  rcases h with ⟨k, rfl⟩ | rfl
  · exact ⟨k, (by decide +kernel : ∀ k : Fin 64, Scalar.maxsi (BitVec.ofNat 32 k.val) 0#32 = BitVec.ofNat 32 k.val) k⟩
  · exact ⟨0, by decide⟩

end Cert.Math
-- ==== Proof.Ideal.Main.lean ====
/- The run of the whole program: the buffer contents at each boundary between host stretches and pallas_calls, and the frame. -/
module

public import proofs.«01_k».proof.Proof.Ideal.Region0
public import proofs.«01_k».proof.Proof.Ideal.Region1
public import proofs.«01_k».proof.Proof.Ideal.Region2
public import proofs.«01_k».proof.Proof.Math.Topk

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_c, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_call0_v2, main_call0_v3, main_call0_v4, main_v10]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v11]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor
abbrev hostOps0_3_W : List (Ref sig .tc) := [main_call1_v0, main_call1_v1, main_call1_v2, main_call1_v3, main_call1_v4, main_v12]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_cst, main_v40, main_v41, main_v42, main_v43, main_c_0, main_v44, main_v45, main_c_1, main_v46, main_v47, main_c_2, main_v48, main_v49, main_v50, main_v51, main_v52, main_v53, main_v54, main_v55, main_cst_3]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps1_1_fresh : (hostOps1_1 : List (HloOp τ sig (Elt F))).Forall fun op => op.fresh = ∅ := by
  simp only [List.Forall]; repeat' constructor
abbrev hostOps1_1_W : List (Ref sig .tc) := [main_call2_v0, main_call2_v1, main_call2_v2, main_v56]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

theorem hostOps1_2_fresh : (hostOps1_2 : List (HloOp τ sig (Elt F))).Forall fun op => op.fresh = ∅ := by
  simp only [List.Forall]; repeat' constructor
abbrev hostOps1_2_W : List (Ref sig .tc) := [main_cst_4, main_v57, main_cst_5, main_v58, main_v59, main_v60, main_v61, main_v62, main_v63, main_cst_6, main_v64, main_v65, main_v66, main_v67, main_cst_7]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

theorem hostOps1_3_fresh : (hostOps1_3 : List (HloOp τ sig (Elt F))).Forall fun op => op.fresh = ∅ := by
  simp only [List.Forall]; repeat' constructor
abbrev hostOps1_3_W : List (Ref sig .tc) := [main_call3_v0, main_call3_v1, main_call3_v2, main_v68]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_3_args : ∀ a ∈ argRefs, a ∉ hostOps1_3_W := ListAll.forall_mem_of_all_decide (by decide +kernel)

theorem hostOps1_4_fresh : (hostOps1_4 : List (HloOp τ sig (Elt F))).Forall fun op => op.fresh = ∅ := by
  simp only [List.Forall]; repeat' constructor
abbrev hostOps1_4_W : List (Ref sig .tc) := [main_cst_8, main_v69, main_v70, main_cst_9, main_v71, main_v72, main_v73, main_v74, main_v75, main_cst_10, main_v76, main_cst_11, main_v77, main_v78, main_v79, main_v80, main_v81, main_v82, main_v83, main_v84, main_v85, main_v86, main_cst_12]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_4_args : ∀ a ∈ argRefs, a ∉ hostOps1_4_W := ListAll.forall_mem_of_all_decide (by decide +kernel)

theorem hostOps1_5_fresh : (hostOps1_5 : List (HloOp τ sig (Elt F))).Forall fun op => op.fresh = ∅ := by
  simp only [List.Forall]; repeat' constructor
abbrev hostOps1_5_W : List (Ref sig .tc) := [main_call4_v0, main_call4_v1, main_call4_v2, main_v87]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_5_args : ∀ a ∈ argRefs, a ∉ hostOps1_5_W := ListAll.forall_mem_of_all_decide (by decide +kernel)

theorem hostOps1_6_fresh : (hostOps1_6 : List (HloOp τ sig (Elt F))).Forall fun op => op.fresh = ∅ := by
  simp only [List.Forall]; repeat' constructor
abbrev hostOps1_6_W : List (Ref sig .tc) := [main_values, main_indices, main_cst_13, main_v88, main_v89, main_c_14]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_6_args : ∀ a ∈ argRefs, a ∉ hostOps1_6_W := ListAll.forall_mem_of_all_decide (by decide +kernel)

theorem hostOps1_7_fresh : (hostOps1_7 : List (HloOp τ sig (Elt F))).Forall fun op => op.fresh = ∅ := by
  simp only [List.Forall]; repeat' constructor
abbrev hostOps1_7_W : List (Ref sig .tc) := [main_call5_v0, main_call5_v1, main_v90]
theorem hostOps1_7_writes : (hostOps1_7 : List (HloOp τ sig (Elt F))).Forall fun op => op.writes ⊆ (hostOps1_7_W.map (Proc.devRef (τ := τ) .tc)).toFinset :=
  StableHlo.forall_writes_sub_of_map rfl
theorem hostOps1_7_args : ∀ a ∈ argRefs, a ∉ hostOps1_7_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v92, main_v93]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v95]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev V4 : (c : Dev nD) → (b : Ref sig .tc) → Buf (Elt F) ((c : Thread nD τ).loc b) := fun c b => W4 m ρ c b
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
theorem W5_of (c : Dev nD) (r : Ref sig .tc) (h : ∀ w : Fin cfg0.W, Pipeline.arrRef spec0 w = r → (cfg0.win w).isOut = false) :
    W5 m ρ c (Proc.devRef .tc r) = W4 m ρ c (Proc.devRef .tc r) := by
  by_cases hw : ∃ w : Fin cfg0.W, Pipeline.arrRef spec0 w = r
  · obtain ⟨w, rfl⟩ := hw
    exact (W5_arr m ρ c w).trans (((dat0 (V4 m ρ) c).arrAt_in w (h w rfl) _).trans (A_eq0 (V4 m ρ) c w))
  · exact W5_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn0 a ha)).trans (W4_args m ρ c a ha)
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps1 (W5 m ρ c)
theorem W6_of (c : Dev nD) (r : Ref sig .tc) (h : r ∉ hostOps1_W) : W6 m ρ c (Proc.devRef .tc r) = W5 m ρ c (Proc.devRef .tc r) :=
  StableHlo.after_of_writes_sub hostOps1 _ hostOps1_writes h
theorem W6_args (c : Dev nD) : ∀ a ∈ argRefs, W6 m ρ c (Proc.devRef .tc a) = m ((c : Thread nD τ).loc a) :=
  fun a ha => (W6_of m ρ c a (hostOps1_args a ha)).trans (W5_args m ρ c a ha)
abbrev W7 : Dev nD → Valuation τ sig (Elt F) := fun c => StableHlo.after hostOps1_1 (W6 m ρ c)
theorem W7_of (c : Dev nD) (r : Ref sig .tc) (h : r ∉ hostOps1_1_W) : W7 m ρ c (Proc.devRef .tc r) = W6 m ρ c (Proc.devRef .tc r) :=
  StableHlo.after_of_writes_sub hostOps1_1 _ hostOps1_1_writes h
theorem W7_args (c : Dev nD) : ∀ a ∈ argRefs, W7 m ρ c (Proc.devRef .tc a) = m ((c : Thread nD τ).loc a) :=
  fun a ha => (W7_of m ρ c a (hostOps1_1_args a ha)).trans (W6_args m ρ c a ha)
abbrev W8 : Dev nD → Valuation τ sig (Elt F) := fun c => StableHlo.after hostOps1_2 (W7 m ρ c)
theorem W8_of (c : Dev nD) (r : Ref sig .tc) (h : r ∉ hostOps1_2_W) : W8 m ρ c (Proc.devRef .tc r) = W7 m ρ c (Proc.devRef .tc r) :=
  StableHlo.after_of_writes_sub hostOps1_2 _ hostOps1_2_writes h
theorem W8_args (c : Dev nD) : ∀ a ∈ argRefs, W8 m ρ c (Proc.devRef .tc a) = m ((c : Thread nD τ).loc a) :=
  fun a ha => (W8_of m ρ c a (hostOps1_2_args a ha)).trans (W7_args m ρ c a ha)
abbrev W9 : Dev nD → Valuation τ sig (Elt F) := fun c => StableHlo.after hostOps1_3 (W8 m ρ c)
theorem W9_of (c : Dev nD) (r : Ref sig .tc) (h : r ∉ hostOps1_3_W) : W9 m ρ c (Proc.devRef .tc r) = W8 m ρ c (Proc.devRef .tc r) :=
  StableHlo.after_of_writes_sub hostOps1_3 _ hostOps1_3_writes h
theorem W9_args (c : Dev nD) : ∀ a ∈ argRefs, W9 m ρ c (Proc.devRef .tc a) = m ((c : Thread nD τ).loc a) :=
  fun a ha => (W9_of m ρ c a (hostOps1_3_args a ha)).trans (W8_args m ρ c a ha)
abbrev W10 : Dev nD → Valuation τ sig (Elt F) := fun c => StableHlo.after hostOps1_4 (W9 m ρ c)
theorem W10_of (c : Dev nD) (r : Ref sig .tc) (h : r ∉ hostOps1_4_W) : W10 m ρ c (Proc.devRef .tc r) = W9 m ρ c (Proc.devRef .tc r) :=
  StableHlo.after_of_writes_sub hostOps1_4 _ hostOps1_4_writes h
theorem W10_args (c : Dev nD) : ∀ a ∈ argRefs, W10 m ρ c (Proc.devRef .tc a) = m ((c : Thread nD τ).loc a) :=
  fun a ha => (W10_of m ρ c a (hostOps1_4_args a ha)).trans (W9_args m ρ c a ha)
abbrev W11 : Dev nD → Valuation τ sig (Elt F) := fun c => StableHlo.after hostOps1_5 (W10 m ρ c)
theorem W11_of (c : Dev nD) (r : Ref sig .tc) (h : r ∉ hostOps1_5_W) : W11 m ρ c (Proc.devRef .tc r) = W10 m ρ c (Proc.devRef .tc r) :=
  StableHlo.after_of_writes_sub hostOps1_5 _ hostOps1_5_writes h
theorem W11_args (c : Dev nD) : ∀ a ∈ argRefs, W11 m ρ c (Proc.devRef .tc a) = m ((c : Thread nD τ).loc a) :=
  fun a ha => (W11_of m ρ c a (hostOps1_5_args a ha)).trans (W10_args m ρ c a ha)
abbrev W12 : Dev nD → Valuation τ sig (Elt F) := fun c => StableHlo.after hostOps1_6 (W11 m ρ c)
theorem W12_of (c : Dev nD) (r : Ref sig .tc) (h : r ∉ hostOps1_6_W) : W12 m ρ c (Proc.devRef .tc r) = W11 m ρ c (Proc.devRef .tc r) :=
  StableHlo.after_of_writes_sub hostOps1_6 _ hostOps1_6_writes h
theorem W12_args (c : Dev nD) : ∀ a ∈ argRefs, W12 m ρ c (Proc.devRef .tc a) = m ((c : Thread nD τ).loc a) :=
  fun a ha => (W12_of m ρ c a (hostOps1_6_args a ha)).trans (W11_args m ρ c a ha)
abbrev W13 : Dev nD → Valuation τ sig (Elt F) := fun c => StableHlo.after hostOps1_7 (W12 m ρ c)
theorem W13_of (c : Dev nD) (r : Ref sig .tc) (h : r ∉ hostOps1_7_W) : W13 m ρ c (Proc.devRef .tc r) = W12 m ρ c (Proc.devRef .tc r) :=
  StableHlo.after_of_writes_sub hostOps1_7 _ hostOps1_7_writes h
theorem W13_args (c : Dev nD) : ∀ a ∈ argRefs, W13 m ρ c (Proc.devRef .tc a) = m ((c : Thread nD τ).loc a) :=
  fun a ha => (W13_of m ρ c a (hostOps1_7_args a ha)).trans (W12_args m ρ c a ha)
abbrev V13 : (c : Dev nD) → (b : Ref sig .tc) → Buf (Elt F) ((c : Thread nD τ).loc b) := fun c b => W13 m ρ c b
/-- The block index words the attention call reads: a position below 64, or minus one. -/
theorem W13_topi (c : Dev nD) (i : S2x16x64x4.Idx) :
    (∃ k : Fin 64, (W13 m ρ c (Proc.devRef .tc main_v90) : S2x16x64x4.Idx → BitVec 32) i = BitVec.ofNat 32 k.val)
      ∨ (W13 m ρ c (Proc.devRef .tc main_v90) : S2x16x64x4.Idx → BitVec 32) i = 4294967295#32 := by
  have e : W13 m ρ c (Proc.devRef .tc main_v90) = select (W12 m ρ c (Proc.devRef .tc main_v89) : S2x16x64x4.Idx → BitVec 1)
      (Host.topK S2x16x64x4 3 (FloatOps.cmpfTotal .gt) (W11 m ρ c (Proc.devRef .tc main_v87) : S2x16x64x64.Idx → F .f32) sliceFits_S2x16x64x64_S2x16x64x4).2
      (broadcastInDim S2x16x64x4 ![] bcast_S_S2x16x64x4 (constantI S_ 32 4294967295#32)) := by
    unfold W13 W12
    after_results_simp
    rfl
  rw [e]
  have sel : ∀ (p : S2x16x64x4.Idx → BitVec 1) (x y : S2x16x64x4.Idx → BitVec 32), select p x y i = x i ∨ select p x y i = y i := by
    intro p x y
    unfold select Scalar.select
    split
    · exact .inl rfl
    · exact .inr rfl
  rcases sel (W12 m ρ c (Proc.devRef .tc main_v89))
    (Host.topK S2x16x64x4 3 (FloatOps.cmpfTotal .gt) (W11 m ρ c (Proc.devRef .tc main_v87) : S2x16x64x64.Idx → F .f32) sliceFits_S2x16x64x64_S2x16x64x4).2
    (broadcastInDim S2x16x64x4 ![] bcast_S_S2x16x64x4 (constantI S_ 32 4294967295#32)) with h | h
  · rw [h]
    obtain ⟨k, hk⟩ := Math.topK_index (s := S2x16x64x64) S2x16x64x4 3 (by decide) (FloatOps.cmpfTotal .gt)
      (W11 m ρ c (Proc.devRef .tc main_v87) : S2x16x64x64.Idx → F .f32) sliceFits_S2x16x64x64_S2x16x64x4 i
    exact .inl ⟨⟨k.val, k.isLt⟩, hk⟩
  · rw [h]
    exact .inr rfl

theorem word_inb (f : BitVec 32 → Fin 4 → Nat) (hf : f = k1_off3) (w : BitVec 32)
    (h : (∃ k : Fin 64, w = BitVec.ofNat 32 k.val) ∨ w = 4294967295#32) : ∀ a, f w a + S1x1x32x64.size a ≤ S1x1x2048x64.size a := by
  subst hf
  rcases h with ⟨k, rfl⟩ | rfl
  · exact (by decide +kernel : ∀ (k : Fin 64) a, k1_off3 (BitVec.ofNat 32 k.val) a + S1x1x32x64.size a ≤ S1x1x2048x64.size a) k
  · exact (by decide +kernel : ∀ a, k1_off3 4294967295#32 a + S1x1x32x64.size a ≤ S1x1x2048x64.size a)

theorem read_word (c : Dev nD) (t : Fin cfg1.N) (j : S1x1x64x4.Idx) :
    (∃ k : Fin 64, iblk1 (V13 m ρ) c 0 t j = BitVec.ofNat 32 k.val) ∨ iblk1 (V13 m ρ) c 0 t j = 4294967295#32 :=
  W13_topi m ρ c _

theorem hyps1 : Hyps1 (V13 (F := F) m ρ) := by
  intro c t
  refine ⟨fun kq hkq => ?_, fun kq hkq => ?_, fun kq hkq => ?_, fun kq hkq => ?_⟩
  all_goals
    rw [View.readAt_apply, (hs1_0 t).read_unread]
    exact word_inb _ rfl _ (read_word m ρ c t _)

def W14 (c : Dev nD) : Valuation τ sig (Elt F) :=
  Pipeline.withArrays spec1 c (W13 m ρ c) fun w => (dat1 (V13 m ρ) (hyps1 m ρ) c).arrAt w cfg1.N
theorem W14_arr (c : Dev nD) (w : Fin cfg1.W) :
    W14 m ρ c (Proc.devRef .tc (Pipeline.arrRef spec1 w)) = (dat1 (V13 m ρ) (hyps1 m ρ) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
theorem W14_of (c : Dev nD) (r : Ref sig .tc) (h : ∀ w : Fin cfg1.W, Pipeline.arrRef spec1 w = r → (cfg1.win w).isOut = false) :
    W14 m ρ c (Proc.devRef .tc r) = W13 m ρ c (Proc.devRef .tc r) := by
  by_cases hw : ∃ w : Fin cfg1.W, Pipeline.arrRef spec1 w = r
  · obtain ⟨w, rfl⟩ := hw
    exact (W14_arr m ρ c w).trans (((dat1 (V13 m ρ) (hyps1 m ρ) c).arrAt_in w (h w rfl) _).trans (A_eq1 (V13 m ρ) (hyps1 m ρ) c w))
  · exact W14_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn1 a ha)).trans (W13_args m ρ c a ha)
abbrev V14 : (c : Dev nD) → (b : Ref sig .tc) → Buf (Elt F) ((c : Thread nD τ).loc b) := fun c b => W14 m ρ c b
theorem hF1 (c : Dev nD) (w : Fin cfg1.W) : (dat1 (V13 m ρ) (hyps1 m ρ) c).arrAt w cfg1.N = V14 m ρ c (Pipeline.arrRef spec1 w) :=
  (W14_arr m ρ c w).symm
theorem hrest1 (c : Dev nD) : ∀ b, b ∉ Finset.univ.image (Pipeline.arrRef spec1) → V14 m ρ c b = V13 m ρ c b :=
  fun b hb => W14_of_ne m ρ c b fun w e => hb (Finset.mem_image.mpr ⟨w, Finset.mem_univ _, e⟩)

abbrev W15 : Dev nD → Valuation τ sig (Elt F) := fun c => StableHlo.after hostOps2 (W14 m ρ c)
theorem W15_of (c : Dev nD) (r : Ref sig .tc) (h : r ∉ hostOps2_W) : W15 m ρ c (Proc.devRef .tc r) = W14 m ρ c (Proc.devRef .tc r) :=
  StableHlo.after_of_writes_sub hostOps2 _ hostOps2_writes h
theorem W15_args (c : Dev nD) : ∀ a ∈ argRefs, W15 m ρ c (Proc.devRef .tc a) = m ((c : Thread nD τ).loc a) :=
  fun a ha => (W15_of m ρ c a (hostOps2_args a ha)).trans (W14_args m ρ c a ha)
abbrev V15 : (c : Dev nD) → (b : Ref sig .tc) → Buf (Elt F) ((c : Thread nD τ).loc b) := fun c b => W15 m ρ c b
def W16 (c : Dev nD) : Valuation τ sig (Elt F) :=
  Pipeline.withArrays spec2 c (W15 m ρ c) fun w => (dat2 (V15 m ρ) c).arrAt w cfg2.N
theorem W16_arr (c : Dev nD) (w : Fin cfg2.W) :
    W16 m ρ c (Proc.devRef .tc (Pipeline.arrRef spec2 w)) = (dat2 (V15 m ρ) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
theorem W16_of (c : Dev nD) (r : Ref sig .tc) (h : ∀ w : Fin cfg2.W, Pipeline.arrRef spec2 w = r → (cfg2.win w).isOut = false) :
    W16 m ρ c (Proc.devRef .tc r) = W15 m ρ c (Proc.devRef .tc r) := by
  by_cases hw : ∃ w : Fin cfg2.W, Pipeline.arrRef spec2 w = r
  · obtain ⟨w, rfl⟩ := hw
    exact (W16_arr m ρ c w).trans (((dat2 (V15 m ρ) c).arrAt_in w (h w rfl) _).trans (A_eq2 (V15 m ρ) c w))
  · exact W16_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn2 a ha)).trans (W15_args m ρ c a ha)
abbrev V16 : (c : Dev nD) → (b : Ref sig .tc) → Buf (Elt F) ((c : Thread nD τ).loc b) := fun c b => W16 m ρ c b
theorem hF2 (c : Dev nD) (w : Fin cfg2.W) : (dat2 (V15 m ρ) c).arrAt w cfg2.N = V16 m ρ c (Pipeline.arrRef spec2 w) :=
  (W16_arr m ρ c w).symm
theorem hrest2 (c : Dev nD) : ∀ b, b ∉ Finset.univ.image (Pipeline.arrRef spec2) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps3 (W16 m ρ c)
theorem W17_of (c : Dev nD) (r : Ref sig .tc) (h : r ∉ hostOps3_W) : W17 m ρ c (Proc.devRef .tc r) = W16 m ρ c (Proc.devRef .tc r) :=
  StableHlo.after_of_writes_sub hostOps3 _ hostOps3_writes h
theorem W17_args (c : Dev nD) : ∀ a ∈ argRefs, W17 m ρ c (Proc.devRef .tc a) = m ((c : Thread nD τ).loc a) :=
  fun a ha => (W17_of m ρ c a (hostOps3_args a ha)).trans (W16_args m ρ c a ha)

theorem W17_main_arg0 (c : Dev nD) : W17 m ρ c (Proc.devRef .tc main_arg0) = m ((c : Thread nD τ).loc main_arg0) :=
  W17_args m ρ c main_arg0 (by decide)
theorem W17_main_arg1 (c : Dev nD) : W17 m ρ c (Proc.devRef .tc main_arg1) = m ((c : Thread nD τ).loc main_arg1) :=
  W17_args m ρ c main_arg1 (by decide)
theorem W17_main_arg2 (c : Dev nD) : W17 m ρ c (Proc.devRef .tc main_arg2) = m ((c : Thread nD τ).loc main_arg2) :=
  W17_args m ρ c main_arg2 (by decide)
theorem W17_main_arg3 (c : Dev nD) : W17 m ρ c (Proc.devRef .tc main_arg3) = m ((c : Thread nD τ).loc main_arg3) :=
  W17_args m ρ c main_arg3 (by decide)
theorem W17_main_arg4 (c : Dev nD) : W17 m ρ c (Proc.devRef .tc main_arg4) = m ((c : Thread nD τ).loc main_arg4) :=
  W17_args m ρ c main_arg4 (by decide)
theorem W17_main_arg5 (c : Dev nD) : W17 m ρ c (Proc.devRef .tc main_arg5) = m ((c : Thread nD τ).loc main_arg5) :=
  W17_args m ρ c main_arg5 (by decide)
theorem W17_main_arg6 (c : Dev nD) : W17 m ρ c (Proc.devRef .tc main_arg6) = m ((c : Thread nD τ).loc main_arg6) :=
  W17_args m ρ c main_arg6 (by decide)
theorem W17_main_arg7 (c : Dev nD) : W17 m ρ c (Proc.devRef .tc main_arg7) = m ((c : Thread nD τ).loc main_arg7) :=
  W17_args m ρ c main_arg7 (by decide)
theorem W17_main_arg8 (c : Dev nD) : W17 m ρ c (Proc.devRef .tc main_arg8) = m ((c : Thread nD τ).loc main_arg8) :=
  W17_args m ρ c main_arg8 (by decide)
theorem W17_main_arg9 (c : Dev nD) : W17 m ρ c (Proc.devRef .tc main_arg9) = m ((c : Thread nD τ).loc main_arg9) :=
  W17_args m ρ c main_arg9 (by decide)
theorem W17_main_arg10 (c : Dev nD) : W17 m ρ c (Proc.devRef .tc main_arg10) = m ((c : Thread nD τ).loc main_arg10) :=
  W17_args m ρ c main_arg10 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V13 m ρ) (hyps1 m ρ) c
  | ⟨2, _⟩ => fun c => dat2 (V15 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) (A_eq0 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V13 m ρ) (hyps1 m ρ) c).loose
  hwaits := Pipeline.hwaits_of_owed_zero _ _ _ _ L lv 1 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec1 c (V13 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V13 m ρ c) (A_eq1 (V13 m ρ) (hyps1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V13 m ρ c) (V14 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V15 m ρ) c).loose
  hwaits := Pipeline.hwaits_of_owed_zero _ _ _ _ L lv 2 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec2 c (V15 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V15 m ρ c) (A_eq2 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V15 m ρ c) (V16 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)),
    .host (hseg hostOps1_3 hostOps1_3_sub hostOps1_3_fresh (W8 m ρ)),
    .host (hseg hostOps1_4 hostOps1_4_sub hostOps1_4_fresh (W9 m ρ)),
    .host (hseg hostOps1_5 hostOps1_5_sub hostOps1_5_fresh (W10 m ρ)),
    .host (hseg hostOps1_6 hostOps1_6_sub hostOps1_6_fresh (W11 m ρ)),
    .host (hseg hostOps1_7 hostOps1_7_sub hostOps1_7_fresh (W12 m ρ)),
    .region (reg1 m ρ),
    .host (hseg hostOps2 hostOps2_sub hostOps2_fresh (W14 m ρ)),
    .region (reg2 m ρ),
    .host (hseg hostOps3 hostOps3_sub hostOps3_fresh (W16 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
theorem run_last : θ_run defs (onTc (τ := τ) (main (F := F))) ⟨m, fun _ => 0, ρ⟩ (fun r => (∀ c : Dev nD,
      ∀ b ∈ Pipeline.ucRefs τ sig, r.2.mem (((c : Thread nD τ)).1, b) = W17 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨fun c => h c, funext fun g => hz g (.inr (no_unscoped g.2))⟩)

/-- The frame: every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c =>
      ⟨(h.1 c _ (mem_uc main_arg0 (by decide))).trans (W17_main_arg0 m ρ c),
       (h.1 c _ (mem_uc main_arg1 (by decide))).trans (W17_main_arg1 m ρ c),
       (h.1 c _ (mem_uc main_arg2 (by decide))).trans (W17_main_arg2 m ρ c),
       (h.1 c _ (mem_uc main_arg3 (by decide))).trans (W17_main_arg3 m ρ c),
       (h.1 c _ (mem_uc main_arg4 (by decide))).trans (W17_main_arg4 m ρ c),
       (h.1 c _ (mem_uc main_arg5 (by decide))).trans (W17_main_arg5 m ρ c),
       (h.1 c _ (mem_uc main_arg6 (by decide))).trans (W17_main_arg6 m ρ c),
       (h.1 c _ (mem_uc main_arg7 (by decide))).trans (W17_main_arg7 m ρ c),
       (h.1 c _ (mem_uc main_arg8 (by decide))).trans (W17_main_arg8 m ρ c),
       (h.1 c _ (mem_uc main_arg9 (by decide))).trans (W17_main_arg9 m ρ c),
       (h.1 c _ (mem_uc main_arg10 (by decide))).trans (W17_main_arg10 m ρ c)⟩, h.2⟩) (run_last m ρ)

/-- The result array ends at the last boundary's contents, with the arguments as launched. -/
theorem run_value : θ_run defs (onTc (τ := τ) (main (F := F))) ⟨m, fun _ => 0, ρ⟩ (fun r => ∀ c : Dev nD,
      r.2.mem ((c.tc : Thread nD τ).loc main_v95) = W17 m ρ c (Proc.devRef .tc main_v95)) :=
  (θ_run defs _ _).mono (fun r h => fun c => h.1 c _ (mem_uc main_v95 (by decide))) (run_last m ρ)

end Cert.KernelIdeal.Gen

end
-- ==== Proof.Value.Words.lean ====
/- What the range of the block indices, taken as a precondition, says of one index. -/
module

public import proofs.«01_k».proof.Proof.Gen.Pre_topi_range
public import Idealize.ShloMosaic.Lib.ReduceAll

@[expose] public section

noncomputable section

namespace Cert.Words

open Idealize.ShloMosaic

/-- A block index word: a position below 64, or minus one. -/
def Ok (w : BitVec 32) : Prop := (∃ k : Fin 64, w = BitVec.ofNat 32 k.val) ∨ w = 4294967295#32

theorem ok_of_cmp (v : BitVec 32) (e : IntOp.andi (IntOp.cmpi .sge v 4294967295#32) (IntOp.cmpi .slt v 64#32) = 1#1) : Ok v := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  have hv := v.isLt
  by_cases h : v.toNat < 64
  · exact .inl ⟨⟨v.toNat, h⟩, by simp⟩
  · refine .inr (BitVec.eq_of_toNat_eq ?_)
    simp only [BitVec.toNat_ofNat, Nat.reducePow, Nat.reduceMod]
    omega

/-- Under the precondition every block index is a position below 64 or minus one. -/
theorem ok_of_pre {F : FTy → Type} [FloatOps F] (x0 : IVec Pre_topi_range.S2x16x64x4 32) (x1 x2 x3 x4 x5 x6)
    (h : Pre_topi_range.fn (F := F) x0 x1 x2 x3 x4 x5 x6 = fun _ => 1#1) (i : Pre_topi_range.S2x16x64x4.Idx) : Ok (x0 i) := by
  have e := congrFun h (fun a => a.elim0)
  simp only [Pre_topi_range.fn] at e
  haveI : Subsingleton Pre_topi_range.S_.Idx := ⟨fun a b => funext fun k => k.elim0⟩
  have e2 := Host.reduce_andi_all _ _ _ _ _ e i
  simp only [andi, cmpi, broadcastInDim, constantI] at e2
  exact ok_of_cmp _ e2

end Cert.Words

end
-- ==== Proof.Value.AttnHyps.lean ====
/- The attention call's assumed facts, from the range of the block indices. -/
module

public import proofs.«01_k».proof.Defs
public import proofs.«01_k».proof.Proof.Gen.AttnIdeal.Frame
public import proofs.«01_k».proof.Proof.Value.Words

@[expose] public section

set_option maxRecDepth 16384

noncomputable section

namespace Cert.AttnIdeal.Value

open Idealize.ShloMosaic Idealize.ShloMosaic.TcCoe Cert.AttnIdeal.Gen Cert.AttnIdeal

theorem word_inb (f : BitVec 32 → Fin 4 → Nat) (hf : f = k0_off3) (w : BitVec 32) (h : Words.Ok w) :
    ∀ a, f w a + S1x1x32x64.size a ≤ S1x1x2048x64.size a := by
  subst hf
  rcases h with ⟨k, rfl⟩ | rfl
  · exact (by decide +kernel : ∀ (k : Fin 64) a, k0_off3 (BitVec.ofNat 32 k.val) a + S1x1x32x64.size a ≤ S1x1x2048x64.size a) k
  · exact (by decide +kernel : ∀ a, k0_off3 4294967295#32 a + S1x1x32x64.size a ≤ S1x1x2048x64.size a)

theorem words_of_pre (m : (ℓ : Loc nD τ sig) → Buf (Elt Ideal) ℓ) (h : Cert.Pre_AttnIdeal m) (c : Dev nD) (i : S2x16x64x4.Idx) :
    Words.Ok ((m ((c : Thread nD τ).loc main_arg0) : S2x16x64x4.Idx → BitVec 32) i) := Words.ok_of_pre _ _ _ _ _ _ _ (h c) i

/-- Every block the body loads by an index word lies inside the keys. -/
theorem hyps_of_pre (m : (ℓ : Loc nD τ sig) → Buf (Elt Ideal) ℓ) (h : Cert.Pre_AttnIdeal m) : Hyps m := by
  intro c t
  have rd : ∀ i, Words.Ok (iblk m c 0 t i) := fun i => words_of_pre m h c _
  refine ⟨fun kq hkq => ?_, fun kq hkq => ?_, fun kq hkq => ?_, fun kq hkq => ?_⟩
  all_goals
    rw [View.readAt_apply, (hs0_0 t).read_unread]
    exact word_inb _ rfl _ (rd _)

end Cert.AttnIdeal.Value

end
-- ==== Proof.Math.Attn.lean ====
/- Masked softmax attention of one query row, and what it depends on. -/
module

public import Idealize.ShloMosaic.PureOps.Ideal
public import Idealize.ShloMosaic.PureOps.Ideal.Laws
public import Idealize.ShloMosaic.PureOps.Vector

@[expose] public section

noncomputable section

namespace Cert.Math

open Idealize.ShloMosaic

/-- The score of a masked key. -/
def neg : EReal := Ideal.ofBits .f32 3463342888#32
/-- The starting value of a row maximum. -/
def ninf : EReal := Ideal.ofBits .f32 4286578688#32
/-- The least normalizer of a row. -/
def eps : EReal := Ideal.ofBits .f32 814313567#32
/-- The factor on a score. -/
def scl : EReal := Ideal.ofBits .f32 1040187392#32

theorem eps_pos : 0 < eps := by
  unfold eps
  simp [Ideal.ofBits, Ideal.ieee]
  norm_cast
  positivity

variable {ι κ : Type} [Fintype ι] [Fintype κ]

def rowMax (s : ι → EReal) : EReal := max ninf (Finset.univ.fold max ninf s)
def rowExp (s : ι → EReal) (i : ι) : EReal := Ideal.exp (s i - rowMax s)
def rowSm (s : ι → EReal) (i : ι) : EReal := Ideal.div (rowExp s i) (∑ j, rowExp s j)
def rowP (mk : ι → BitVec 1) (s : ι → EReal) (i : ι) : EReal := Scalar.select (mk i) (rowSm s i) 0
/-- The weights of a row: the softmax of its scores, zero off the mask, divided by their sum. -/
def rowW (mk : ι → BitVec 1) (s : ι → EReal) (i : ι) : EReal := Ideal.div (rowP mk s i) (max (∑ j, rowP mk s j) eps)
/-- The masked scores of query `q` against the keys. -/
def sc (mk : ι → BitVec 1) (q : Fin 64 → EReal) (k : ι → Fin 64 → EReal) (i : ι) : EReal :=
  Scalar.select (mk i) ((∑ x, q x * k i x) * scl) neg
/-- One entry of the attention row of `q`. -/
def att (mk : ι → BitVec 1) (q : Fin 64 → EReal) (k v : ι → Fin 64 → EReal) (d : Fin 64) : EReal :=
  ∑ i, rowW mk (sc mk q k) i * v i d

theorem rowMax_equiv (e : ι ≃ κ) (s : κ → EReal) : rowMax (fun i => s (e i)) = rowMax s := by
  unfold rowMax
  congr 1
  rw [← Finset.univ_map_equiv_to_embedding e, Finset.fold_map]
  rfl

theorem rowW_equiv (e : ι ≃ κ) (mk : κ → BitVec 1) (s : κ → EReal) (i : ι) :
    rowW (fun i => mk (e i)) (fun i => s (e i)) i = rowW mk s (e i) := by
  have hE : ∀ i, rowExp (fun i => s (e i)) i = rowExp s (e i) := fun i => by unfold rowExp; rw [rowMax_equiv e s]
  have hS : ∀ i, rowSm (fun i => s (e i)) i = rowSm s (e i) := fun i => by
    unfold rowSm; rw [hE i]; simp only [hE]; rw [Equiv.sum_comp e (rowExp s)]
  have hP : ∀ i, rowP (fun i => mk (e i)) (fun i => s (e i)) i = rowP mk s (e i) := fun i => by
    unfold rowP; rw [hS i]
  unfold rowW
  rw [hP i]
  simp only [hP]
  rw [Equiv.sum_comp e (rowP mk s)]

theorem rowW_off (mk : ι → BitVec 1) (s : ι → EReal) (i : ι) (h : mk i ≠ 1) : rowW mk s i = 0 := by
  have hp : rowP mk s i = 0 := by unfold rowP Scalar.select; rw [if_neg h]
  unfold rowW
  rw [hp]
  have : max (∑ j, rowP mk s j) eps ≠ 0 := (lt_of_lt_of_le eps_pos (le_max_right _ _)).ne'
  unfold Ideal.div
  rw [if_neg this, zero_mul]

/-- An attention row depends on the keys and values under the mask alone, in any order. -/
theorem att_equiv (e : ι ≃ κ) (mk : ι → BitVec 1) (mk' : κ → BitVec 1) (q q' : Fin 64 → EReal) (k v : ι → Fin 64 → EReal)
    (k' v' : κ → Fin 64 → EReal) (d : Fin 64) (hq : q = q') (hmk : ∀ i, mk i = mk' (e i))
    (hk : ∀ i, mk i = 1 → ∀ x, k i x = k' (e i) x) (hv : ∀ i, mk i = 1 → v i d = v' (e i) d) :
    att mk q k v d = att mk' q' k' v' d := by
  subst hq
  have hmk' : mk = fun i => mk' (e i) := funext hmk
  have hs : sc mk q k = fun i => sc mk' q k' (e i) := by
    funext i
    unfold sc
    rw [← hmk i]
    unfold Scalar.select
    split
    · rename_i h
      rw [Finset.sum_congr rfl fun x _ => by rw [hk i h x]]
    · rfl
  unfold att
  rw [← Equiv.sum_comp e]
  refine Finset.sum_congr rfl fun i _ => ?_
  by_cases h : mk i = 1
  · rw [hv i h, hs, hmk', rowW_equiv e mk']
  · rw [rowW_off _ _ _ h, rowW_off _ _ _ (by rw [← hmk i]; exact h), zero_mul, zero_mul]

/-- The gated sum of the three branches. -/
def gated (g0 g1 g2 a b c : EReal) : EReal := g0 * a + g1 * b + g2 * c

end Cert.Math

end
-- ==== Proof.Value.Pay.lean ====
/- The attention body's pure values, read at an index. -/
module

public import proofs.«01_k».proof.Proof.Gen.AttnIdeal.Skeleton
public import proofs.«01_k».proof.Proof.Math.Attn
public import Idealize.ShloMosaic.Lib.Pointwise
public import Idealize.ShloMosaic.Lib.Tactic

@[expose] public section

set_option maxRecDepth 16384

noncomputable section

namespace Cert.AttnIdeal.Value

open Idealize.ShloMosaic Cert.AttnIdeal.Gen Cert.AttnIdeal Cert.Math

abbrev rowIota160 : IVec S32x160 32 := iota .tc S32x160 32 [1] iota_S32x160_d1_w32
abbrev rowIota128 : IVec S32x128 32 := iota .tc S32x128 32 [0] iota_S32x128_d0_w32
abbrev colIota128 : IVec S32x128 32 := iota .tc S32x128 32 [1] iota_S32x128_d1_w32

/-- Which of the 160 own and selected keys query row `p` of a block sees. -/
def smk (w : Fin 4 → BitVec 32) (p : Fin 32) (j : Fin 160) : BitVec 1 :=
  if j.val < 32 then BitVec.ofBool (decide (j.val ≤ p.val))
  else if j.val < 64 then Scalar.cmpi .sge (w 0) 0#32
  else if j.val < 96 then Scalar.cmpi .sge (w 1) 0#32
  else if j.val < 128 then Scalar.cmpi .sge (w 2) 0#32
  else Scalar.cmpi .sge (w 3) 0#32

/-- Row `j` of five blocks of 32 rows laid one after another. -/
def pick5 {α : Type} (f : Fin 5 → Fin 32 → α) (j : Fin 160) : α :=
  f ⟨j.val / 32, by omega⟩ ⟨j.val % 32, by omega⟩

/-- The first key of the window block `k` reads. -/
def wbase (k : ℕ) : ℕ := k / 2 * 64 - 64

/-- Which of the 128 window keys query row `p` of block `k` sees. -/
def wmk (k : Fin 64) (p : Fin 32) (j : Fin 128) : BitVec 1 :=
  BitVec.ofBool (decide (wbase k.val + j.val ≤ 32 * k.val + p.val ∧ 32 * k.val + p.val < wbase k.val + j.val + 64))

/-- Which of the 64 compressed keys query row `s` sees. -/
def cmk (s : Fin 2048) (n : Fin 64) : BitVec 1 := BitVec.ofBool (decide (32 * n.val + 31 ≤ s.val))

theorem pay17_apply (mk : IVec S32x160 1) (v : FVec Ideal S160x64 .f32) (s : FVec Ideal S32x160 .f32) (p : Fin 32) (d : Fin 64) :
    k0_pay17 (F := Ideal) mk v s (ix2 p d)
      = ∑ x : Fin 160, rowW (fun x : Fin 160 => mk (ix2 p x)) (fun x : Fin 160 => s (ix2 p x)) x * v (ix2 x d) := by
  unfold k0_pay17
  pointwise
  rfl

theorem pay3_apply (a b : FVec Ideal S32x64 .f32) (g : Vec Ideal S1x1x32x3 .f32) (o : FVec Ideal S32x64 .f32) (p : Fin 32) (d : Fin 64) :
    k0_pay3 (F := Ideal) a b g o (ix4 0 0 p d)
      = gated (g (ix4 0 0 p 0)) (g (ix4 0 0 p 1)) (g (ix4 0 0 p 2)) (o (ix2 p d)) (a (ix2 p d)) (b (ix2 p d)) := by
  unfold k0_pay3
  pointwise
  rfl

/-- The mask words of the own and selected keys. -/
def selMask (w : Fin 4 → BitVec 32) : IVec S32x160 1 :=
  k0_pay14 (F := Ideal) rowIota160 (k0_pay12 (F := Ideal) rowIota160 k0_pay2 (k0_pay9 (F := Ideal) rowIota160 (w 0)) (w 1)) (w 2) (w 3)

theorem cmp_sge_lit : ∀ j : Fin 160,
    IntOp.cmpi .sge (BitVec.ofNat 32 j.val) 32#32 = BitVec.ofBool (decide (32 ≤ j.val))
    ∧ IntOp.cmpi .sge (BitVec.ofNat 32 j.val) 64#32 = BitVec.ofBool (decide (64 ≤ j.val))
    ∧ IntOp.cmpi .sge (BitVec.ofNat 32 j.val) 96#32 = BitVec.ofBool (decide (96 ≤ j.val))
    ∧ IntOp.cmpi .sge (BitVec.ofNat 32 j.val) 128#32 = BitVec.ofBool (decide (128 ≤ j.val)) := by decide +kernel

theorem cmp_slt_lit : ∀ j : Fin 160,
    IntOp.cmpi .slt (BitVec.ofNat 32 j.val) 32#32 = BitVec.ofBool (decide (j.val < 32))
    ∧ IntOp.cmpi .slt (BitVec.ofNat 32 j.val) 64#32 = BitVec.ofBool (decide (j.val < 64))
    ∧ IntOp.cmpi .slt (BitVec.ofNat 32 j.val) 96#32 = BitVec.ofBool (decide (j.val < 96))
    ∧ IntOp.cmpi .slt (BitVec.ofNat 32 j.val) 128#32 = BitVec.ofBool (decide (j.val < 128))
    ∧ IntOp.cmpi .slt (BitVec.ofNat 32 j.val) 160#32 = 1#1 := by decide +kernel

theorem cmp_sle_row : ∀ (p : Fin 32) (j : Fin 160),
    IntOp.cmpi .sle (BitVec.ofNat 32 j.val) (BitVec.ofNat 32 p.val) = BitVec.ofBool (decide (j.val ≤ p.val)) := by decide +kernel

theorem selMask_apply (w : Fin 4 → BitVec 32) (p : Fin 32) (j : Fin 160) : selMask w (ix2 p j) = smk w p j := by
  unfold selMask k0_pay14 k0_pay12 k0_pay9 k0_pay2
  pointwise
  obtain ⟨h1, h2, h3, h4⟩ := cmp_sge_lit j
  obtain ⟨g1, g2, g3, g4, g5⟩ := cmp_slt_lit j
  simp only [h1, h2, h3, h4, g1, g2, g3, g4, g5, cmp_sle_row]
  unfold smk
  generalize Scalar.cmpi .sge (w 0) 0#32 = b0
  generalize Scalar.cmpi .sge (w 1) 0#32 = b1
  generalize Scalar.cmpi .sge (w 2) 0#32 = b2
  generalize Scalar.cmpi .sge (w 3) 0#32 = b3
  clear h1 h2 h3 h4 g1 g2 g3 g4 g5
  generalize BitVec.ofBool (decide (j.val ≤ p.val)) = b4
  have hj := j.isLt
  have e0 : ∀ b : BitVec 1, IntOp.andi 0#1 b = 0#1 := by decide
  have e1 : ∀ b : BitVec 1, IntOp.andi 1#1 b = b := by decide
  have e2 : ∀ b : BitVec 1, IntOp.ori 0#1 b = b := by decide
  have e3 : ∀ b : BitVec 1, IntOp.ori b 0#1 = b := by decide
  have t : BitVec.ofBool true = 1#1 := rfl
  have f : BitVec.ofBool false = 0#1 := rfl
  by_cases c0 : j.val < 32
  · have n1 : ¬ 32 ≤ j.val := by omega
    have n2 : ¬ 64 ≤ j.val := by omega
    have n3 : ¬ 96 ≤ j.val := by omega
    have n4 : ¬ 128 ≤ j.val := by omega
    simp only [c0, n1, n2, n3, n4, decide_true, decide_false, t, f, e0, e1, e2, e3, if_true]
  by_cases c1 : j.val < 64
  · have n1 : 32 ≤ j.val := by omega
    have n2 : ¬ 64 ≤ j.val := by omega
    have n3 : ¬ 96 ≤ j.val := by omega
    have n4 : ¬ 128 ≤ j.val := by omega
    simp only [c0, c1, n1, n2, n3, n4, decide_true, decide_false, t, f, e0, e1, e2, e3, if_true, if_false]
  by_cases c2 : j.val < 96
  · have n1 : 32 ≤ j.val := by omega
    have n2 : 64 ≤ j.val := by omega
    have n3 : ¬ 96 ≤ j.val := by omega
    have n4 : ¬ 128 ≤ j.val := by omega
    simp only [c0, c1, c2, n1, n2, n3, n4, decide_true, decide_false, t, f, e0, e1, e2, e3, if_true, if_false]
  by_cases c3 : j.val < 128
  · have n1 : 32 ≤ j.val := by omega
    have n2 : 64 ≤ j.val := by omega
    have n3 : 96 ≤ j.val := by omega
    have n4 : ¬ 128 ≤ j.val := by omega
    simp only [c0, c1, c2, c3, n1, n2, n3, n4, decide_true, decide_false, t, f, e0, e1, e2, e3, if_true, if_false]
  · have n1 : 32 ≤ j.val := by omega
    have n2 : 64 ≤ j.val := by omega
    have n3 : 96 ≤ j.val := by omega
    have n4 : 128 ≤ j.val := by omega
    simp only [c0, c1, c2, c3, n1, n2, n3, n4, decide_true, decide_false, t, f, e0, e1, e2, e3, if_false]

/-- The values laid one block after another. -/
def selV (v0 v1 v2 v3 v4 : Vec Ideal S1x1x32x64 .f32) : FVec Ideal S160x64 .f32 :=
  k0_pay15 (F := Ideal) (k0_pay6 (F := Ideal) v0) (k0_pay8 (F := Ideal) v1) (k0_pay11 (F := Ideal) v2) v3 v4

def five (v0 v1 v2 v3 v4 : Vec Ideal S1x1x32x64 .f32) (x : Fin 64) (i : Fin 5) (r : Fin 32) : EReal :=
  match i with
  | 0 => v0 (ix4 0 0 r x)
  | 1 => v1 (ix4 0 0 r x)
  | 2 => v2 (ix4 0 0 r x)
  | 3 => v3 (ix4 0 0 r x)
  | 4 => v4 (ix4 0 0 r x)

theorem pick5_eq {α : Type} (f : Fin 5 → Fin 32 → α) (j : Fin 160) (i : Fin 5) (r : Fin 32) (h : j.val = 32 * i.val + r.val) :
    pick5 f j = f i r := by
  have h1 : (⟨j.val / 32, by omega⟩ : Fin 5) = i := Fin.ext (by show j.val / 32 = i.val; omega)
  have h2 : (⟨j.val % 32, by omega⟩ : Fin 32) = r := Fin.ext (by show j.val % 32 = r.val; omega)
  unfold pick5
  rw [h1, h2]

theorem pick5_dite {α : Type} (f : Fin 5 → Fin 32 → α) (j : Fin 160) :
    pick5 f j = if h : j.val < 32 then f 0 ⟨j.val, h⟩
      else if h1 : j.val - 32 < 32 then f 1 ⟨j.val - 32, h1⟩
      else if h2 : j.val - 32 - 32 < 32 then f 2 ⟨j.val - 32 - 32, h2⟩
      else if h3 : j.val - 32 - 32 - 32 < 32 then f 3 ⟨j.val - 32 - 32 - 32, h3⟩
      else f 4 ⟨j.val - 32 - 32 - 32 - 32, by have := j.isLt; omega⟩ := by
  have hj := j.isLt
  split
  · exact pick5_eq f j 0 _ (by simp)
  split
  · exact pick5_eq f j 1 _ (by simp; omega)
  split
  · exact pick5_eq f j 2 _ (by simp; omega)
  split
  · exact pick5_eq f j 3 _ (by simp; omega)
  · exact pick5_eq f j 4 _ (by simp; omega)

theorem selV_apply (v0 v1 v2 v3 v4 : Vec Ideal S1x1x32x64 .f32) (j : Fin 160) (x : Fin 64) :
    selV v0 v1 v2 v3 v4 (ix2 j x) = pick5 (five v0 v1 v2 v3 v4 x) j := by
  unfold selV k0_pay15 k0_pay6 k0_pay8 k0_pay11
  pointwise
  rw [pick5_dite]
  rfl

/-- The masked scores of the own and selected keys. -/
def selS (w : Fin 4 → BitVec 32) (q k0 k1 k2 k3 k4 : Vec Ideal S1x1x32x64 .f32) : FVec Ideal S32x160 .f32 :=
  k0_pay16 (F := Ideal) rowIota160 (k0_pay4 (F := Ideal) q) (k0_pay5 (F := Ideal) k0) (k0_pay7 (F := Ideal) k1) (k0_pay10 (F := Ideal) k2)
    (k0_pay12 (F := Ideal) rowIota160 k0_pay2 (k0_pay9 (F := Ideal) rowIota160 (w 0)) (w 1)) (w 2) (k0_pay13 (F := Ideal) k3) (w 3) k4

theorem selS_apply (w : Fin 4 → BitVec 32) (q k0 k1 k2 k3 k4 : Vec Ideal S1x1x32x64 .f32) (p : Fin 32) (j : Fin 160) :
    selS w q k0 k1 k2 k3 k4 (ix2 p j)
      = sc (smk w p) (fun x => q (ix4 0 0 p x)) (fun j x => pick5 (five k0 k1 k2 k3 k4 x) j) j := by
  have hm := selMask_apply w p j
  unfold sc
  rw [← hm]
  simp only [pick5_dite]
  unfold selS k0_pay16 k0_pay4 k0_pay5 k0_pay7 k0_pay10 k0_pay13
  pointwise
  rfl

/-- The own and selected branch of one block of query rows. -/
def selOut (w : Fin 4 → BitVec 32) (q k0 k1 k2 k3 k4 v0 v1 v2 v3 v4 : Vec Ideal S1x1x32x64 .f32) : FVec Ideal S32x64 .f32 :=
  k0_pay17 (F := Ideal) (selMask w) (selV v0 v1 v2 v3 v4) (selS w q k0 k1 k2 k3 k4)

theorem selOut_apply (w : Fin 4 → BitVec 32) (q k0 k1 k2 k3 k4 v0 v1 v2 v3 v4 : Vec Ideal S1x1x32x64 .f32) (p : Fin 32) (d : Fin 64) :
    selOut w q k0 k1 k2 k3 k4 v0 v1 v2 v3 v4 (ix2 p d)
      = att (smk w p) (fun x => q (ix4 0 0 p x)) (fun j x => pick5 (five k0 k1 k2 k3 k4 x) j)
          (fun j x => pick5 (five v0 v1 v2 v3 v4 x) j) d := by
  unfold selOut att
  rw [pay17_apply]
  simp only [selMask_apply, selV_apply, selS_apply]

/-- The words by which the window keys are masked. -/
def wword (a w : BitVec 32) (p : Fin 32) (x : Fin 128) : BitVec 1 :=
  IntOp.andi
    (IntOp.cmpi .sle (IntOp.addi w (BitVec.ofNat 32 x.val)) (IntOp.addi (Scalar.muli a 32#32) (BitVec.ofNat 32 p.val)))
    (IntOp.cmpi .sgt (IntOp.addi w (BitVec.ofNat 32 x.val)) (IntOp.subi (IntOp.addi (Scalar.muli a 32#32) (BitVec.ofNat 32 p.val)) 64#32))

theorem pay18_apply (q : FVec Ideal S32x64 .f32) (a w : BitVec 32) (kw vw : Vec Ideal S1x1x128x64 .f32) (p : Fin 32) (d : Fin 64) :
    k0_pay18 (F := Ideal) rowIota128 colIota128 a q w kw vw (ix2 p d)
      = att (wword a w p) (fun x => q (ix2 p x)) (fun j x => kw (ix4 0 0 j x)) (fun j x => vw (ix4 0 0 j x)) d := by
  unfold k0_pay18
  pointwise
  rfl

theorem toInt_sub64 : ∀ s : Fin 2048, (BitVec.ofNat 32 s.val - 64#32).toInt = (s.val : Int) - 64 := by decide +kernel
theorem toInt_small : ∀ s : Fin 4096, (BitVec.ofNat 32 s.val).toInt = (s.val : Int) := by decide +kernel
theorem iv_mul : ∀ k : Fin 64, Scalar.muli (Scf.iv 0#32 1#32 k.val) 32#32 = BitVec.ofNat 32 (32 * k.val) := by decide +kernel

theorem wword_eq (k : Fin 64) (p : Fin 32) (x : Fin 128) :
    wword (Scf.iv 0#32 1#32 k.val) (BitVec.ofNat 32 (wbase k.val)) p x = wmk k p x := by
  have hk := k.isLt
  have hp := p.isLt
  have hx := x.isLt
  have hw : wbase k.val < 2048 := by unfold wbase; omega
  have a1 : IntOp.addi (BitVec.ofNat 32 (wbase k.val)) (BitVec.ofNat 32 x.val) = BitVec.ofNat 32 (wbase k.val + x.val) := by
    unfold IntOp.addi; rw [BitVec.ofNat_add]
  have a2 : IntOp.addi (BitVec.ofNat 32 (32 * k.val)) (BitVec.ofNat 32 p.val) = BitVec.ofNat 32 (32 * k.val + p.val) := by
    unfold IntOp.addi; rw [BitVec.ofNat_add]
  have t1 := toInt_small ⟨wbase k.val + x.val, by omega⟩
  have t2 := toInt_small ⟨32 * k.val + p.val, by omega⟩
  have t3 := toInt_sub64 ⟨32 * k.val + p.val, by omega⟩
  simp only at t1 t2 t3
  unfold wword wmk
  rw [iv_mul, a1, a2]
  simp only [IntOp.cmpi, IntOp.subi, BitVec.sle, BitVec.slt, t1, t2, t3]
  have hb : ∀ P Q : Prop, ∀ [Decidable P] [Decidable Q],
      IntOp.andi (BitVec.ofBool (decide P)) (BitVec.ofBool (decide Q)) = BitVec.ofBool (decide (P ∧ Q)) := by
    intro P Q _ _
    by_cases hP : P <;> by_cases hQ : Q <;> simp [hP, hQ, IntOp.andi]
  rw [hb]
  congr 1
  rw [decide_eq_decide]
  omega

theorem cword_eq : ∀ n : Fin 64, BitVec.ofNat 32 n.val * 32#32 + 31#32 = BitVec.ofNat 32 (32 * n.val + 31) := by decide +kernel

/-- The word by which the compressed keys are masked. -/
theorem cmk_eq (s : Fin 2048) (n : Fin 64) :
    IntOp.cmpi .sle (IntOp.addi (IntOp.muli (BitVec.ofNat 32 n.val) 32#32) 31#32) (BitVec.ofNat 32 s.val) = cmk s n := by
  have hn := n.isLt
  have hs := s.isLt
  have t1 := toInt_small ⟨32 * n.val + 31, by omega⟩
  have t2 := toInt_small ⟨s.val, by omega⟩
  simp only at t1 t2
  unfold cmk
  simp only [IntOp.cmpi, IntOp.addi, IntOp.muli, cword_eq, BitVec.sle, t1, t2]
  congr 1
  rw [decide_eq_decide]
  omega

/-- The compressed branch of all 2048 query rows of one head. -/
def cmpOut (q : Vec Ideal S1x1x2048x64 .f32) (kc vc : Vec Ideal S1x1x64x64 .f32) : FVec Ideal S2048x64 .f32 :=
  k0_pay1 (F := Ideal) (k0_pay19 (F := Ideal) vc) (k0_pay20 (F := Ideal) q kc) (k0_pay21 (F := Ideal) q kc) (k0_pay22 (F := Ideal))

theorem pay20_apply (q : Vec Ideal S1x1x2048x64 .f32) (kc : Vec Ideal S1x1x64x64 .f32) (p : Fin 2048) (n : Fin 64) :
    k0_pay20 (F := Ideal) q kc (ix2 p n)
      = rowP (fun n => IntOp.cmpi .sle (IntOp.addi (IntOp.muli (BitVec.ofNat 32 n.val) 32#32) 31#32) (BitVec.ofNat 32 p.val))
          (sc (fun n => IntOp.cmpi .sle (IntOp.addi (IntOp.muli (BitVec.ofNat 32 n.val) 32#32) 31#32) (BitVec.ofNat 32 p.val))
            (fun x => q (ix4 0 0 p x)) (fun (n : Fin 64) x => kc (ix4 0 0 n x))) n := by
  unfold k0_pay20
  pointwise
  rfl

theorem cmpOut_apply (q : Vec Ideal S1x1x2048x64 .f32) (kc vc : Vec Ideal S1x1x64x64 .f32) (p : Fin 2048) (d : Fin 64) :
    cmpOut q kc vc (ix2 p d)
      = att (cmk p) (fun x => q (ix4 0 0 p x)) (fun (n : Fin 64) x => kc (ix4 0 0 n x)) (fun (n : Fin 64) x => vc (ix4 0 0 n x)) d := by
  unfold cmpOut k0_pay1 k0_pay19 k0_pay21 k0_pay22
  pointwise
  simp only [pay20_apply, cmk_eq]
  rfl

end Cert.AttnIdeal.Value

end
-- ==== Proof.Value.Trip.lean ====
/- One pass of the attention kernel over a block of 32 query rows, read at an index. -/
module

public import proofs.«01_k».proof.Proof.Gen.AttnIdeal.Frame
public import proofs.«01_k».proof.Proof.Value.Pay

public import Idealize.ShloMosaic.Lib.WholeRead
public import Idealize.ShloMosaic.Lib.Pipeline.ValueKit.Geometry

@[expose] public section

set_option maxRecDepth 16384

noncomputable section

namespace Cert.AttnIdeal.Value

open Idealize.ShloMosaic Idealize.ShloMosaic.TcCoe Cert.AttnIdeal.Gen Cert.AttnIdeal Cert.Math

/-- The first window key as a word. -/
def w0word (k : Fin k0_t1_loop.trips) : BitVec 32 := trip_k0_t1.sl.v190 k

set_option maxHeartbeats 2000000 in
theorem trip_pieces (c : Dev nD) (i : grid0.Coords) (arg2 : Memref sig .tc .smem S1x1x64x4 .i32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x1x2048x3 .f32) (harg8 : arg8.IsWhole) (arg9 : Memref sig .tc .vmem S1x1x2048x64 .f32) (harg9 : arg9.IsWhole) (arg10 : Memref sig .tc .vmem S2048x64 .f32) (harg10 : arg10.IsWhole) (x0 : Vec Ideal S1x1x64x4 .i32) (x1 x2 x3 : Vec Ideal S1x1x2048x64 .f32) (x6 : Vec Ideal S1x1x2048x3 .f32) (X10 : BufTy.Contents (Elt Ideal) arg10.view.ty) (k : Fin k0_t1_loop.trips) (k0_hw1 : k0_chk1 (arg2.view.readAt (Elt Ideal) (Rect.unit (s := S1x1x64x4) (k0_off2 k) S1x1x1x1.size (k0_off2_inb k)).toLoadRect (harg2.unread x0) (Shape.Idx.first (numel1_S1x1x1x1.symm ▸ Nat.one_pos)))) (k0_hw2 : k0_chk2 (arg2.view.readAt (Elt Ideal) (Rect.unit (s := S1x1x64x4) (k0_off4 k) S1x1x1x1.size (k0_off4_inb k)).toLoadRect (harg2.unread x0) (Shape.Idx.first (numel1_S1x1x1x1.symm ▸ Nat.one_pos)))) (k0_hw3 : k0_chk3 (arg2.view.readAt (Elt Ideal) (Rect.unit (s := S1x1x64x4) (k0_off6 k) S1x1x1x1.size (k0_off6_inb k)).toLoadRect (harg2.unread x0) (Shape.Idx.first (numel1_S1x1x1x1.symm ▸ Nat.one_pos)))) (k0_hw4 : k0_chk4 (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))) :
    (trip_k0_t1 (F := Ideal) Variants.none c none i arg2 harg2 arg3 harg3 arg4 harg4 arg5 harg5 arg6 harg6 arg7 harg7 arg8 harg8 arg9 harg9 arg10 harg10 rowIota160 rowIota128 colIota128 (harg2.unread x0) (harg3.unread x1) (harg4.unread x2) (harg5.unread x3) (harg8.unread x6) X10 k k0_hw1 k0_hw2 k0_hw3 k0_hw4).1
      = [⟨Rect.unit (s := S1x1x2048x64) (k0_off13 k) S1x1x32x64.size (k0_off13_inb k), k0_pay3 (F := Ideal) (selOut ![(arg2.view.readAt (Elt Ideal) (Rect.unit (s := S1x1x64x4) (k0_off2 k) S1x1x1x1.size (k0_off2_inb k)).toLoadRect (harg2.unread x0) (Shape.Idx.first (numel1_S1x1x1x1.symm ▸ Nat.one_pos))), (arg2.view.readAt (Elt Ideal) (Rect.unit (s := S1x1x64x4) (k0_off4 k) S1x1x1x1.size (k0_off4_inb k)).toLoadRect (harg2.unread x0) (Shape.Idx.first (numel1_S1x1x1x1.symm ▸ Nat.one_pos))), (arg2.view.readAt (Elt Ideal) (Rect.unit (s := S1x1x64x4) (k0_off6 k) S1x1x1x1.size (k0_off6_inb k)).toLoadRect (harg2.unread x0) (Shape.Idx.first (numel1_S1x1x1x1.symm ▸ Nat.one_pos))), (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))] (arg3.view.readAt (Elt Ideal) (Rect.unit (s := S1x1x2048x64) (k0_off1 k) S1x1x32x64.size (k0_off1_inb k)).toLoadRect (harg3.unread x1)) (arg4.view.readAt (Elt Ideal) (Rect.unit (s := S1x1x2048x64) (k0_off1 k) S1x1x32x64.size (k0_off1_inb k)).toLoadRect (harg4.unread x2)) (arg4.view.readAt (Elt Ideal) (Rect.unit (s := S1x1x2048x64) (k0_off3 (arg2.view.readAt (Elt Ideal) (Rect.unit (s := S1x1x64x4) (k0_off2 k) S1x1x1x1.size (k0_off2_inb k)).toLoadRect (harg2.unread x0) (Shape.Idx.first (numel1_S1x1x1x1.symm ▸ Nat.one_pos)))) S1x1x32x64.size (k0_off3_inb _ k0_hw1)).toLoadRect (harg4.unread x2)) (arg4.view.readAt (Elt Ideal) (Rect.unit (s := S1x1x2048x64) (k0_off5 (arg2.view.readAt (Elt Ideal) (Rect.unit (s := S1x1x64x4) (k0_off4 k) S1x1x1x1.size (k0_off4_inb k)).toLoadRect (harg2.unread x0) (Shape.Idx.first (numel1_S1x1x1x1.symm ▸ Nat.one_pos)))) S1x1x32x64.size (k0_off5_inb _ k0_hw2)).toLoadRect (harg4.unread x2)) (arg4.view.readAt (Elt Ideal) (Rect.unit (s := S1x1x2048x64) (k0_off7 (arg2.view.readAt (Elt Ideal) (Rect.unit (s := S1x1x64x4) (k0_off6 k) S1x1x1x1.size (k0_off6_inb k)).toLoadRect (harg2.unread x0) (Shape.Idx.first (numel1_S1x1x1x1.symm ▸ Nat.one_pos)))) S1x1x32x64.size (k0_off7_inb _ k0_hw3)).toLoadRect (harg4.unread x2)) (arg4.view.readAt (Elt Ideal) (Rect.unit (s := S1x1x2048x64) (k0_off9 (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))) S1x1x32x64.size (k0_off9_inb _ k0_hw4)).toLoadRect (harg4.unread x2)) (arg5.view.readAt (Elt Ideal) (Rect.unit (s := S1x1x2048x64) (k0_off1 k) S1x1x32x64.size (k0_off1_inb k)).toLoadRect (harg5.unread x3)) (arg5.view.readAt (Elt Ideal) (Rect.unit (s := S1x1x2048x64) (k0_off3 (arg2.view.readAt (Elt Ideal) (Rect.unit (s := S1x1x64x4) (k0_off2 k) S1x1x1x1.size (k0_off2_inb k)).toLoadRect (harg2.unread x0) (Shape.Idx.first (numel1_S1x1x1x1.symm ▸ Nat.one_pos)))) S1x1x32x64.size (k0_off3_inb _ k0_hw1)).toLoadRect (harg5.unread x3)) (arg5.view.readAt (Elt Ideal) (Rect.unit (s := S1x1x2048x64) (k0_off5 (arg2.view.readAt (Elt Ideal) (Rect.unit (s := S1x1x64x4) (k0_off4 k) S1x1x1x1.size (k0_off4_inb k)).toLoadRect (harg2.unread x0) (Shape.Idx.first (numel1_S1x1x1x1.symm ▸ Nat.one_pos)))) S1x1x32x64.size (k0_off5_inb _ k0_hw2)).toLoadRect (harg5.unread x3)) (arg5.view.readAt (Elt Ideal) (Rect.unit (s := S1x1x2048x64) (k0_off7 (arg2.view.readAt (Elt Ideal) (Rect.unit (s := S1x1x64x4) (k0_off6 k) S1x1x1x1.size (k0_off6_inb k)).toLoadRect (harg2.unread x0) (Shape.Idx.first (numel1_S1x1x1x1.symm ▸ Nat.one_pos)))) S1x1x32x64.size (k0_off7_inb _ k0_hw3)).toLoadRect (harg5.unread x3)) (arg5.view.readAt (Elt Ideal) (Rect.unit (s := S1x1x2048x64) (k0_off9 (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))) S1x1x32x64.size (k0_off9_inb _ k0_hw4)).toLoadRect (harg5.unread x3))) (k0_pay18 (F := Ideal) rowIota128 colIota128 (Scf.iv 0#32 1#32 k.val) (k0_pay4 (F := Ideal) (arg3.view.readAt (Elt Ideal) (Rect.unit (s := S1x1x2048x64) (k0_off1 k) S1x1x32x64.size (k0_off1_inb k)).toLoadRect (harg3.unread x1))) (w0word k) (arg4.view.readAt (Elt Ideal) (Rect.unit (s := S1x1x2048x64) (k0_off10 k) S1x1x128x64.size (k0_off10_inb k)).toLoadRect (harg4.unread x2)) (arg5.view.readAt (Elt Ideal) (Rect.unit (s := S1x1x2048x64) (k0_off10 k) S1x1x128x64.size (k0_off10_inb k)).toLoadRect (harg5.unread x3))) (arg8.view.readAt (Elt Ideal) (Rect.unit (s := S1x1x2048x3) (k0_off11 k) S1x1x32x3.size (k0_off11_inb k)).toLoadRect (harg8.unread x6)) (arg10.view.readAt (Elt Ideal) (Rect.unit (s := S2048x64) (k0_off12 k) S32x64.size (k0_off12_inb k)).toLoadRect X10)⟩] := by
  unfold trip_k0_t1
  dsimp only
  have e8 : trip_k0_t1.sl.r_8 (F := Ideal) arg2 arg3 arg4 arg5 rowIota160 (harg2.unread x0) (harg3.unread x1) (harg4.unread x2) (harg5.unread x3) k k0_hw1 k0_hw2 k0_hw3 k0_hw4 = (selOut ![(arg2.view.readAt (Elt Ideal) (Rect.unit (s := S1x1x64x4) (k0_off2 k) S1x1x1x1.size (k0_off2_inb k)).toLoadRect (harg2.unread x0) (Shape.Idx.first (numel1_S1x1x1x1.symm ▸ Nat.one_pos))), (arg2.view.readAt (Elt Ideal) (Rect.unit (s := S1x1x64x4) (k0_off4 k) S1x1x1x1.size (k0_off4_inb k)).toLoadRect (harg2.unread x0) (Shape.Idx.first (numel1_S1x1x1x1.symm ▸ Nat.one_pos))), (arg2.view.readAt (Elt Ideal) (Rect.unit (s := S1x1x64x4) (k0_off6 k) S1x1x1x1.size (k0_off6_inb k)).toLoadRect (harg2.unread x0) (Shape.Idx.first (numel1_S1x1x1x1.symm ▸ Nat.one_pos))), (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))] (arg3.view.readAt (Elt Ideal) (Rect.unit (s := S1x1x2048x64) (k0_off1 k) S1x1x32x64.size (k0_off1_inb k)).toLoadRect (harg3.unread x1)) (arg4.view.readAt (Elt Ideal) (Rect.unit (s := S1x1x2048x64) (k0_off1 k) S1x1x32x64.size (k0_off1_inb k)).toLoadRect (harg4.unread x2)) (arg4.view.readAt (Elt Ideal) (Rect.unit (s := S1x1x2048x64) (k0_off3 (arg2.view.readAt (Elt Ideal) (Rect.unit (s := S1x1x64x4) (k0_off2 k) S1x1x1x1.size (k0_off2_inb k)).toLoadRect (harg2.unread x0) (Shape.Idx.first (numel1_S1x1x1x1.symm ▸ Nat.one_pos)))) S1x1x32x64.size (k0_off3_inb _ k0_hw1)).toLoadRect (harg4.unread x2)) (arg4.view.readAt (Elt Ideal) (Rect.unit (s := S1x1x2048x64) (k0_off5 (arg2.view.readAt (Elt Ideal) (Rect.unit (s := S1x1x64x4) (k0_off4 k) S1x1x1x1.size (k0_off4_inb k)).toLoadRect (harg2.unread x0) (Shape.Idx.first (numel1_S1x1x1x1.symm ▸ Nat.one_pos)))) S1x1x32x64.size (k0_off5_inb _ k0_hw2)).toLoadRect (harg4.unread x2)) (arg4.view.readAt (Elt Ideal) (Rect.unit (s := S1x1x2048x64) (k0_off7 (arg2.view.readAt (Elt Ideal) (Rect.unit (s := S1x1x64x4) (k0_off6 k) S1x1x1x1.size (k0_off6_inb k)).toLoadRect (harg2.unread x0) (Shape.Idx.first (numel1_S1x1x1x1.symm ▸ Nat.one_pos)))) S1x1x32x64.size (k0_off7_inb _ k0_hw3)).toLoadRect (harg4.unread x2)) (arg4.view.readAt (Elt Ideal) (Rect.unit (s := S1x1x2048x64) (k0_off9 (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))) S1x1x32x64.size (k0_off9_inb _ k0_hw4)).toLoadRect (harg4.unread x2)) (arg5.view.readAt (Elt Ideal) (Rect.unit (s := S1x1x2048x64) (k0_off1 k) S1x1x32x64.size (k0_off1_inb k)).toLoadRect (harg5.unread x3)) (arg5.view.readAt (Elt Ideal) (Rect.unit (s := S1x1x2048x64) (k0_off3 (arg2.view.readAt (Elt Ideal) (Rect.unit (s := S1x1x64x4) (k0_off2 k) S1x1x1x1.size (k0_off2_inb k)).toLoadRect (harg2.unread x0) (Shape.Idx.first (numel1_S1x1x1x1.symm ▸ Nat.one_pos)))) S1x1x32x64.size (k0_off3_inb _ k0_hw1)).toLoadRect (harg5.unread x3)) (arg5.view.readAt (Elt Ideal) (Rect.unit (s := S1x1x2048x64) (k0_off5 (arg2.view.readAt (Elt Ideal) (Rect.unit (s := S1x1x64x4) (k0_off4 k) S1x1x1x1.size (k0_off4_inb k)).toLoadRect (harg2.unread x0) (Shape.Idx.first (numel1_S1x1x1x1.symm ▸ Nat.one_pos)))) S1x1x32x64.size (k0_off5_inb _ k0_hw2)).toLoadRect (harg5.unread x3)) (arg5.view.readAt (Elt Ideal) (Rect.unit (s := S1x1x2048x64) (k0_off7 (arg2.view.readAt (Elt Ideal) (Rect.unit (s := S1x1x64x4) (k0_off6 k) S1x1x1x1.size (k0_off6_inb k)).toLoadRect (harg2.unread x0) (Shape.Idx.first (numel1_S1x1x1x1.symm ▸ Nat.one_pos)))) S1x1x32x64.size (k0_off7_inb _ k0_hw3)).toLoadRect (harg5.unread x3)) (arg5.view.readAt (Elt Ideal) (Rect.unit (s := S1x1x2048x64) (k0_off9 (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))) S1x1x32x64.size (k0_off9_inb _ k0_hw4)).toLoadRect (harg5.unread x3))) := by
    unfold selOut selMask selV selS k0_pay12 k0_pay9 k0_pay4 k0_pay5 k0_pay7 k0_pay10 k0_pay13 k0_pay6 k0_pay8 k0_pay11
    dsimp only [trip_k0_t1.sl.v96, trip_k0_t1.sl.r_3, trip_k0_t1.sl.v63, trip_k0_t1.sl.v69, trip_k0_t1.sl.v73, trip_k0_t1.sl.r_1, trip_k0_t1.sl.v97, trip_k0_t1.sl.r_4, trip_k0_t1.sl.v172, trip_k0_t1.sl.v79, trip_k0_t1.sl.v98, trip_k0_t1.sl.v87, trip_k0_t1.sl.v76, trip_k0_t1.sl.v188, trip_k0_t1.sl.v109, trip_k0_t1.sl.v99, trip_k0_t1.sl.v171, trip_k0_t1.sl.v182, trip_k0_t1.sl.r_7, trip_k0_t1.sl.v107, trip_k0_t1.sl.v81, trip_k0_t1.sl.v74, trip_k0_t1.sl.v51, trip_k0_t1.sl.v105, trip_k0_t1.sl.arg11, trip_k0_t1.sl.v106, trip_k0_t1.sl.v183, trip_k0_t1.sl.r_2, trip_k0_t1.sl.v77, trip_k0_t1.sl.v66, trip_k0_t1.sl.v67, trip_k0_t1.sl.v85, trip_k0_t1.sl.v78, trip_k0_t1.sl.v173, trip_k0_t1.sl.r, trip_k0_t1.sl.r_9, trip_k0_t1.sl.r_6, trip_k0_t1.sl.v58, trip_k0_t1.sl.v95, trip_k0_t1.sl.v187, trip_k0_t1.sl.v93, trip_k0_t1.sl.v176, trip_k0_t1.sl.v184, trip_k0_t1.sl.v54, trip_k0_t1.sl.v100, trip_k0_t1.sl.r_5, trip_k0_t1.sl.v189, trip_k0_t1.sl.v89, trip_k0_t1.sl.v75, trip_k0_t1.sl.v190, trip_k0_t1.sl.v62, trip_k0_t1.sl.v86, trip_k0_t1.sl.v186, trip_k0_t1.sl.v102, trip_k0_t1.sl.v52, trip_k0_t1.sl.r_8, trip_k0_t1.sl.v80, trip_k0_t1.sl.v82, trip_k0_t1.sl.v101, trip_k0_t1.sl.v65, Matrix.cons_val]
  have e9 : trip_k0_t1.sl.r_9 (F := Ideal) arg3 arg4 arg5 rowIota128 colIota128 (harg3.unread x1) (harg4.unread x2) (harg5.unread x3) k = (k0_pay18 (F := Ideal) rowIota128 colIota128 (Scf.iv 0#32 1#32 k.val) (k0_pay4 (F := Ideal) (arg3.view.readAt (Elt Ideal) (Rect.unit (s := S1x1x2048x64) (k0_off1 k) S1x1x32x64.size (k0_off1_inb k)).toLoadRect (harg3.unread x1))) (w0word k) (arg4.view.readAt (Elt Ideal) (Rect.unit (s := S1x1x2048x64) (k0_off10 k) S1x1x128x64.size (k0_off10_inb k)).toLoadRect (harg4.unread x2)) (arg5.view.readAt (Elt Ideal) (Rect.unit (s := S1x1x2048x64) (k0_off10 k) S1x1x128x64.size (k0_off10_inb k)).toLoadRect (harg5.unread x3))) := by
    unfold trip_k0_t1.sl.r_9 trip_k0_t1.sl.v54 trip_k0_t1.sl.arg11 k0_pay4 w0word
    rfl
  rw [← e8, ← e9]

/-- A row of the sequence, by its number. -/
def rowAt (n : ℕ) : Fin 2048 := ⟨n % 2048, Nat.mod_lt _ (by decide)⟩

theorem read_rows {sp : Space} (m : Memref sig .tc sp S1x1x2048x64 .f32) (h : m.IsWhole) (X : Vec Ideal S1x1x2048x64 .f32)
    (off : Fin 4 → ℕ) (n : ℕ) (ho : off = ![0, 0, n, 0]) (inb : ∀ a, off a + S1x1x32x64.size a ≤ S1x1x2048x64.size a) (p : Fin 32) (x : Fin 64) :
    m.view.readAt (Elt Ideal) (Rect.unit (s := S1x1x2048x64) off S1x1x32x64.size inb).toLoadRect (h.unread X) (ix4 0 0 p x)
      = X (ix4 0 0 (rowAt (n + p.val)) x) := by
  subst ho
  rw [h.readAt_unread]
  have hn : n + 32 ≤ 2048 := inb 2
  refine congrArg X (funext fun a => Fin.ext ?_)
  refine (ValueKit.rect_emb_unit_val (s := S1x1x2048x64) _ _ inb (ix4 0 0 p x) a).trans ?_
  match a with
  | ⟨0, _⟩ => rfl
  | ⟨1, _⟩ => rfl
  | ⟨2, _⟩ => show n + p.val = (n + p.val) % 2048; omega
  | ⟨3, _⟩ => show 0 + x.val = x.val; omega

theorem read_rows128 {sp : Space} (m : Memref sig .tc sp S1x1x2048x64 .f32) (h : m.IsWhole) (X : Vec Ideal S1x1x2048x64 .f32)
    (off : Fin 4 → ℕ) (n : ℕ) (ho : off = ![0, 0, n, 0]) (inb : ∀ a, off a + S1x1x128x64.size a ≤ S1x1x2048x64.size a) (p : Fin 128) (x : Fin 64) :
    m.view.readAt (Elt Ideal) (Rect.unit (s := S1x1x2048x64) off S1x1x128x64.size inb).toLoadRect (h.unread X) (ix4 0 0 p x)
      = X (ix4 0 0 (rowAt (n + p.val)) x) := by
  subst ho
  rw [h.readAt_unread]
  have hn : n + 128 ≤ 2048 := inb 2
  refine congrArg X (funext fun a => Fin.ext ?_)
  refine (ValueKit.rect_emb_unit_val (s := S1x1x2048x64) _ _ inb (ix4 0 0 p x) a).trans ?_
  match a with
  | ⟨0, _⟩ => rfl
  | ⟨1, _⟩ => rfl
  | ⟨2, _⟩ => show n + p.val = (n + p.val) % 2048; omega
  | ⟨3, _⟩ => show 0 + x.val = x.val; omega

theorem read_rows3 {sp : Space} (m : Memref sig .tc sp S1x1x2048x3 .f32) (h : m.IsWhole) (X : Vec Ideal S1x1x2048x3 .f32)
    (off : Fin 4 → ℕ) (n : ℕ) (ho : off = ![0, 0, n, 0]) (inb : ∀ a, off a + S1x1x32x3.size a ≤ S1x1x2048x3.size a) (p : Fin 32) (x : Fin 3) :
    m.view.readAt (Elt Ideal) (Rect.unit (s := S1x1x2048x3) off S1x1x32x3.size inb).toLoadRect (h.unread X) (ix4 0 0 p x)
      = X (ix4 0 0 (rowAt (n + p.val)) x) := by
  subst ho
  rw [h.readAt_unread]
  have hn : n + 32 ≤ 2048 := inb 2
  refine congrArg X (funext fun a => Fin.ext ?_)
  refine (ValueKit.rect_emb_unit_val (s := S1x1x2048x3) _ _ inb (ix4 0 0 p x) a).trans ?_
  match a with
  | ⟨0, _⟩ => rfl
  | ⟨1, _⟩ => rfl
  | ⟨2, _⟩ => show n + p.val = (n + p.val) % 2048; omega
  | ⟨3, _⟩ => show 0 + x.val = x.val; omega

theorem read_word1 {sp : Space} (m : Memref sig .tc sp S1x1x64x4 .i32) (h : m.IsWhole) (X : Vec Ideal S1x1x64x4 .i32)
    (off : Fin 4 → ℕ) (k : Fin 64) (j : Fin 4) (ho : off = ![0, 0, k.val, j.val]) (inb : ∀ a, off a + S1x1x1x1.size a ≤ S1x1x64x4.size a) :
    m.view.readAt (Elt Ideal) (Rect.unit (s := S1x1x64x4) off S1x1x1x1.size inb).toLoadRect (h.unread X) (Shape.Idx.first (numel1_S1x1x1x1.symm ▸ Nat.one_pos))
      = X (ix4 0 0 k j) := by
  subst ho
  rw [h.readAt_unread]
  refine congrArg X (funext fun a => Fin.ext ?_)
  refine (ValueKit.rect_emb_unit_val (s := S1x1x64x4) _ _ inb _ a).trans ?_
  match a with
  | ⟨0, _⟩ => rfl
  | ⟨1, _⟩ => rfl
  | ⟨2, _⟩ => rfl
  | ⟨3, _⟩ => rfl

theorem w0word_eq : ∀ k : Fin k0_t1_loop.trips, w0word k = BitVec.ofNat 32 (wbase k.val) := by decide +kernel
theorem k0_off10_val : ∀ k : Fin k0_t1_loop.trips, k0_off10 k = ![0, 0, wbase k.val, 0] := by decide +kernel
theorem k0_off4_val : ∀ k : Fin k0_t1_loop.trips, k0_off4 k = ![0, 0, k.val, 1] := by decide +kernel
theorem k0_off6_val : ∀ k : Fin k0_t1_loop.trips, k0_off6 k = ![0, 0, k.val, 2] := by decide +kernel
theorem k0_off8_val : ∀ k : Fin k0_t1_loop.trips, k0_off8 k = ![0, 0, k.val, 3] := by decide +kernel
theorem k0_off1_val : ∀ k : Fin k0_t1_loop.trips, k0_off1 k = ![0, 0, 32 * k.val, 0] := by decide +kernel

/-- The first row of the block a word names. -/
def wstart (w : BitVec 32) : ℕ := (Scalar.muli (Scalar.maxsi w 0#32) 32#32).toNat

/-- The own block and the four blocks the words name, one row at one position. -/
def sel5 (w : Fin 4 → BitVec 32) (k : ℕ) (X : Fin 2048 → Fin 64 → EReal) (x : Fin 64) (i : Fin 5) (r : Fin 32) : EReal :=
  match i with
  | 0 => X (rowAt (32 * k + r.val)) x
  | 1 => X (rowAt (wstart (w 0) + r.val)) x
  | 2 => X (rowAt (wstart (w 1) + r.val)) x
  | 3 => X (rowAt (wstart (w 2) + r.val)) x
  | 4 => X (rowAt (wstart (w 3) + r.val)) x

/-- One row of the attention of one head: the gated sum of its three branches. -/
def headRow (w : Fin 64 → Fin 4 → BitVec 32) (Q K V : Fin 2048 → Fin 64 → EReal) (KC VC : Fin 64 → Fin 64 → EReal) (G : Fin 2048 → Fin 3 → EReal)
    (k : Fin 64) (p : Fin 32) (d : Fin 64) : EReal :=
  gated (G (rowAt (32 * k.val + p.val)) 0) (G (rowAt (32 * k.val + p.val)) 1) (G (rowAt (32 * k.val + p.val)) 2)
    (att (cmk (rowAt (32 * k.val + p.val))) (Q (rowAt (32 * k.val + p.val))) KC VC d)
    (att (smk (w k) p) (Q (rowAt (32 * k.val + p.val))) (fun j x => pick5 (sel5 (w k) k.val K x) j) (fun j x => pick5 (sel5 (w k) k.val V x) j) d)
    (att (wmk k p) (Q (rowAt (32 * k.val + p.val))) (fun j x => K (rowAt (wbase k.val + j.val)) x) (fun j x => V (rowAt (wbase k.val + j.val)) x) d)

end Cert.AttnIdeal.Value
-- ==== Proof.Value.Loop.lean ====
/- The attention kernel over all its blocks of query rows: what one head's output holds. -/
module

public import proofs.«01_k».proof.Proof.Value.Trip
public import Idealize.ShloMosaic.Lib.Pipeline.ReadBack
public import Idealize.ShloMosaic.Lib.VecWindow

@[expose] public section

set_option maxRecDepth 16384

noncomputable section

namespace Cert.AttnIdeal.Value

open Idealize.ShloMosaic Idealize.ShloMosaic.TcCoe Cert.AttnIdeal.Gen Cert.AttnIdeal Cert.Math

set_option maxHeartbeats 2000000 in
theorem trip_apply (c : Dev nD) (i : grid0.Coords) (arg2 : Memref sig .tc .smem S1x1x64x4 .i32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x1x2048x3 .f32) (harg8 : arg8.IsWhole) (arg9 : Memref sig .tc .vmem S1x1x2048x64 .f32) (harg9 : arg9.IsWhole) (arg10 : Memref sig .tc .vmem S2048x64 .f32) (harg10 : arg10.IsWhole) (x0 : Vec Ideal S1x1x64x4 .i32) (x1 x2 x3 : Vec Ideal S1x1x2048x64 .f32) (x4 x5 : Vec Ideal S1x1x64x64 .f32) (x6 : Vec Ideal S1x1x2048x3 .f32) (X10 : BufTy.Contents (Elt Ideal) arg10.view.ty) (k : Fin k0_t1_loop.trips) (h10 : arg10.view.read (Elt Ideal) X10 = cmpOut x1 x4 x5) (k0_hw1 : k0_chk1 (arg2.view.readAt (Elt Ideal) (Rect.unit (s := S1x1x64x4) (k0_off2 k) S1x1x1x1.size (k0_off2_inb k)).toLoadRect (harg2.unread x0) (Shape.Idx.first (numel1_S1x1x1x1.symm ▸ Nat.one_pos)))) (k0_hw2 : k0_chk2 (arg2.view.readAt (Elt Ideal) (Rect.unit (s := S1x1x64x4) (k0_off4 k) S1x1x1x1.size (k0_off4_inb k)).toLoadRect (harg2.unread x0) (Shape.Idx.first (numel1_S1x1x1x1.symm ▸ Nat.one_pos)))) (k0_hw3 : k0_chk3 (arg2.view.readAt (Elt Ideal) (Rect.unit (s := S1x1x64x4) (k0_off6 k) S1x1x1x1.size (k0_off6_inb k)).toLoadRect (harg2.unread x0) (Shape.Idx.first (numel1_S1x1x1x1.symm ▸ Nat.one_pos)))) (k0_hw4 : k0_chk4 (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))) (p : Fin 32) (d : Fin 64) :
    k0_pay3 (F := Ideal) (selOut ![(arg2.view.readAt (Elt Ideal) (Rect.unit (s := S1x1x64x4) (k0_off2 k) S1x1x1x1.size (k0_off2_inb k)).toLoadRect (harg2.unread x0) (Shape.Idx.first (numel1_S1x1x1x1.symm ▸ Nat.one_pos))), (arg2.view.readAt (Elt Ideal) (Rect.unit (s := S1x1x64x4) (k0_off4 k) S1x1x1x1.size (k0_off4_inb k)).toLoadRect (harg2.unread x0) (Shape.Idx.first (numel1_S1x1x1x1.symm ▸ Nat.one_pos))), (arg2.view.readAt (Elt Ideal) (Rect.unit (s := S1x1x64x4) (k0_off6 k) S1x1x1x1.size (k0_off6_inb k)).toLoadRect (harg2.unread x0) (Shape.Idx.first (numel1_S1x1x1x1.symm ▸ Nat.one_pos))), (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))] (arg3.view.readAt (Elt Ideal) (Rect.unit (s := S1x1x2048x64) (k0_off1 k) S1x1x32x64.size (k0_off1_inb k)).toLoadRect (harg3.unread x1)) (arg4.view.readAt (Elt Ideal) (Rect.unit (s := S1x1x2048x64) (k0_off1 k) S1x1x32x64.size (k0_off1_inb k)).toLoadRect (harg4.unread x2)) (arg4.view.readAt (Elt Ideal) (Rect.unit (s := S1x1x2048x64) (k0_off3 (arg2.view.readAt (Elt Ideal) (Rect.unit (s := S1x1x64x4) (k0_off2 k) S1x1x1x1.size (k0_off2_inb k)).toLoadRect (harg2.unread x0) (Shape.Idx.first (numel1_S1x1x1x1.symm ▸ Nat.one_pos)))) S1x1x32x64.size (k0_off3_inb _ k0_hw1)).toLoadRect (harg4.unread x2)) (arg4.view.readAt (Elt Ideal) (Rect.unit (s := S1x1x2048x64) (k0_off5 (arg2.view.readAt (Elt Ideal) (Rect.unit (s := S1x1x64x4) (k0_off4 k) S1x1x1x1.size (k0_off4_inb k)).toLoadRect (harg2.unread x0) (Shape.Idx.first (numel1_S1x1x1x1.symm ▸ Nat.one_pos)))) S1x1x32x64.size (k0_off5_inb _ k0_hw2)).toLoadRect (harg4.unread x2)) (arg4.view.readAt (Elt Ideal) (Rect.unit (s := S1x1x2048x64) (k0_off7 (arg2.view.readAt (Elt Ideal) (Rect.unit (s := S1x1x64x4) (k0_off6 k) S1x1x1x1.size (k0_off6_inb k)).toLoadRect (harg2.unread x0) (Shape.Idx.first (numel1_S1x1x1x1.symm ▸ Nat.one_pos)))) S1x1x32x64.size (k0_off7_inb _ k0_hw3)).toLoadRect (harg4.unread x2)) (arg4.view.readAt (Elt Ideal) (Rect.unit (s := S1x1x2048x64) (k0_off9 (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))) S1x1x32x64.size (k0_off9_inb _ k0_hw4)).toLoadRect (harg4.unread x2)) (arg5.view.readAt (Elt Ideal) (Rect.unit (s := S1x1x2048x64) (k0_off1 k) S1x1x32x64.size (k0_off1_inb k)).toLoadRect (harg5.unread x3)) (arg5.view.readAt (Elt Ideal) (Rect.unit (s := S1x1x2048x64) (k0_off3 (arg2.view.readAt (Elt Ideal) (Rect.unit (s := S1x1x64x4) (k0_off2 k) S1x1x1x1.size (k0_off2_inb k)).toLoadRect (harg2.unread x0) (Shape.Idx.first (numel1_S1x1x1x1.symm ▸ Nat.one_pos)))) S1x1x32x64.size (k0_off3_inb _ k0_hw1)).toLoadRect (harg5.unread x3)) (arg5.view.readAt (Elt Ideal) (Rect.unit (s := S1x1x2048x64) (k0_off5 (arg2.view.readAt (Elt Ideal) (Rect.unit (s := S1x1x64x4) (k0_off4 k) S1x1x1x1.size (k0_off4_inb k)).toLoadRect (harg2.unread x0) (Shape.Idx.first (numel1_S1x1x1x1.symm ▸ Nat.one_pos)))) S1x1x32x64.size (k0_off5_inb _ k0_hw2)).toLoadRect (harg5.unread x3)) (arg5.view.readAt (Elt Ideal) (Rect.unit (s := S1x1x2048x64) (k0_off7 (arg2.view.readAt (Elt Ideal) (Rect.unit (s := S1x1x64x4) (k0_off6 k) S1x1x1x1.size (k0_off6_inb k)).toLoadRect (harg2.unread x0) (Shape.Idx.first (numel1_S1x1x1x1.symm ▸ Nat.one_pos)))) S1x1x32x64.size (k0_off7_inb _ k0_hw3)).toLoadRect (harg5.unread x3)) (arg5.view.readAt (Elt Ideal) (Rect.unit (s := S1x1x2048x64) (k0_off9 (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))) S1x1x32x64.size (k0_off9_inb _ k0_hw4)).toLoadRect (harg5.unread x3))) (k0_pay18 (F := Ideal) rowIota128 colIota128 (Scf.iv 0#32 1#32 k.val) (k0_pay4 (F := Ideal) (arg3.view.readAt (Elt Ideal) (Rect.unit (s := S1x1x2048x64) (k0_off1 k) S1x1x32x64.size (k0_off1_inb k)).toLoadRect (harg3.unread x1))) (w0word k) (arg4.view.readAt (Elt Ideal) (Rect.unit (s := S1x1x2048x64) (k0_off10 k) S1x1x128x64.size (k0_off10_inb k)).toLoadRect (harg4.unread x2)) (arg5.view.readAt (Elt Ideal) (Rect.unit (s := S1x1x2048x64) (k0_off10 k) S1x1x128x64.size (k0_off10_inb k)).toLoadRect (harg5.unread x3))) (arg8.view.readAt (Elt Ideal) (Rect.unit (s := S1x1x2048x3) (k0_off11 k) S1x1x32x3.size (k0_off11_inb k)).toLoadRect (harg8.unread x6)) (arg10.view.readAt (Elt Ideal) (Rect.unit (s := S2048x64) (k0_off12 k) S32x64.size (k0_off12_inb k)).toLoadRect X10) (ix4 0 0 p d)
      = (headRow (fun k j => x0 (ix4 0 0 k j)) (fun s x => x1 (ix4 0 0 s x)) (fun s x => x2 (ix4 0 0 s x)) (fun s x => x3 (ix4 0 0 s x)) (fun s x => x4 (ix4 0 0 s x)) (fun s x => x5 (ix4 0 0 s x)) (fun s j => x6 (ix4 0 0 s j)) k p d) := by
  unfold headRow
  have hwd : ![(arg2.view.readAt (Elt Ideal) (Rect.unit (s := S1x1x64x4) (k0_off2 k) S1x1x1x1.size (k0_off2_inb k)).toLoadRect (harg2.unread x0) (Shape.Idx.first (numel1_S1x1x1x1.symm ▸ Nat.one_pos))), (arg2.view.readAt (Elt Ideal) (Rect.unit (s := S1x1x64x4) (k0_off4 k) S1x1x1x1.size (k0_off4_inb k)).toLoadRect (harg2.unread x0) (Shape.Idx.first (numel1_S1x1x1x1.symm ▸ Nat.one_pos))), (arg2.view.readAt (Elt Ideal) (Rect.unit (s := S1x1x64x4) (k0_off6 k) S1x1x1x1.size (k0_off6_inb k)).toLoadRect (harg2.unread x0) (Shape.Idx.first (numel1_S1x1x1x1.symm ▸ Nat.one_pos))), (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))] = fun j => x0 (ix4 0 0 k j) := by
    funext j
    match j with
    | 0 => exact read_word1 arg2 harg2 x0 _ k 0 (k0_off2_eq k) _
    | 1 => exact read_word1 arg2 harg2 x0 _ k 1 (k0_off4_val k) _
    | 2 => exact read_word1 arg2 harg2 x0 _ k 2 (k0_off6_val k) _
    | 3 => exact read_word1 arg2 harg2 x0 _ k 3 (k0_off8_val k) _
  have hk : ∀ x, five (arg4.view.readAt (Elt Ideal) (Rect.unit (s := S1x1x2048x64) (k0_off1 k) S1x1x32x64.size (k0_off1_inb k)).toLoadRect (harg4.unread x2)) (arg4.view.readAt (Elt Ideal) (Rect.unit (s := S1x1x2048x64) (k0_off3 (arg2.view.readAt (Elt Ideal) (Rect.unit (s := S1x1x64x4) (k0_off2 k) S1x1x1x1.size (k0_off2_inb k)).toLoadRect (harg2.unread x0) (Shape.Idx.first (numel1_S1x1x1x1.symm ▸ Nat.one_pos)))) S1x1x32x64.size (k0_off3_inb _ k0_hw1)).toLoadRect (harg4.unread x2)) (arg4.view.readAt (Elt Ideal) (Rect.unit (s := S1x1x2048x64) (k0_off5 (arg2.view.readAt (Elt Ideal) (Rect.unit (s := S1x1x64x4) (k0_off4 k) S1x1x1x1.size (k0_off4_inb k)).toLoadRect (harg2.unread x0) (Shape.Idx.first (numel1_S1x1x1x1.symm ▸ Nat.one_pos)))) S1x1x32x64.size (k0_off5_inb _ k0_hw2)).toLoadRect (harg4.unread x2)) (arg4.view.readAt (Elt Ideal) (Rect.unit (s := S1x1x2048x64) (k0_off7 (arg2.view.readAt (Elt Ideal) (Rect.unit (s := S1x1x64x4) (k0_off6 k) S1x1x1x1.size (k0_off6_inb k)).toLoadRect (harg2.unread x0) (Shape.Idx.first (numel1_S1x1x1x1.symm ▸ Nat.one_pos)))) S1x1x32x64.size (k0_off7_inb _ k0_hw3)).toLoadRect (harg4.unread x2)) (arg4.view.readAt (Elt Ideal) (Rect.unit (s := S1x1x2048x64) (k0_off9 (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))) S1x1x32x64.size (k0_off9_inb _ k0_hw4)).toLoadRect (harg4.unread x2)) x = sel5 (fun j => x0 (ix4 0 0 k j)) k.val (fun s x => x2 (ix4 0 0 s x)) x := by
    intro x; funext i r
    rw [← hwd]
    match i with
    | 0 => exact read_rows arg4 harg4 x2 _ _ (k0_off1_val k) _ r x
    | 1 => exact read_rows arg4 harg4 x2 _ _ rfl _ r x
    | 2 => exact read_rows arg4 harg4 x2 _ _ rfl _ r x
    | 3 => exact read_rows arg4 harg4 x2 _ _ rfl _ r x
    | 4 => exact read_rows arg4 harg4 x2 _ _ rfl _ r x
  have hv : ∀ x, five (arg5.view.readAt (Elt Ideal) (Rect.unit (s := S1x1x2048x64) (k0_off1 k) S1x1x32x64.size (k0_off1_inb k)).toLoadRect (harg5.unread x3)) (arg5.view.readAt (Elt Ideal) (Rect.unit (s := S1x1x2048x64) (k0_off3 (arg2.view.readAt (Elt Ideal) (Rect.unit (s := S1x1x64x4) (k0_off2 k) S1x1x1x1.size (k0_off2_inb k)).toLoadRect (harg2.unread x0) (Shape.Idx.first (numel1_S1x1x1x1.symm ▸ Nat.one_pos)))) S1x1x32x64.size (k0_off3_inb _ k0_hw1)).toLoadRect (harg5.unread x3)) (arg5.view.readAt (Elt Ideal) (Rect.unit (s := S1x1x2048x64) (k0_off5 (arg2.view.readAt (Elt Ideal) (Rect.unit (s := S1x1x64x4) (k0_off4 k) S1x1x1x1.size (k0_off4_inb k)).toLoadRect (harg2.unread x0) (Shape.Idx.first (numel1_S1x1x1x1.symm ▸ Nat.one_pos)))) S1x1x32x64.size (k0_off5_inb _ k0_hw2)).toLoadRect (harg5.unread x3)) (arg5.view.readAt (Elt Ideal) (Rect.unit (s := S1x1x2048x64) (k0_off7 (arg2.view.readAt (Elt Ideal) (Rect.unit (s := S1x1x64x4) (k0_off6 k) S1x1x1x1.size (k0_off6_inb k)).toLoadRect (harg2.unread x0) (Shape.Idx.first (numel1_S1x1x1x1.symm ▸ Nat.one_pos)))) S1x1x32x64.size (k0_off7_inb _ k0_hw3)).toLoadRect (harg5.unread x3)) (arg5.view.readAt (Elt Ideal) (Rect.unit (s := S1x1x2048x64) (k0_off9 (arg2.view.readAt (Elt Ideal) (Rect.unit (s := S1x1x64x4) (k0_off8 k) S1x1x1x1.size (k0_off8_inb k)).toLoadRect (harg2.unread x0) (Shape.Idx.first (numel1_S1x1x1x1.symm ▸ Nat.one_pos)))) S1x1x32x64.size (k0_off9_inb _ k0_hw4)).toLoadRect (harg5.unread x3)) x = sel5 (fun j => x0 (ix4 0 0 k j)) k.val (fun s x => x3 (ix4 0 0 s x)) x := by
    intro x; funext i r
    rw [← hwd]
    match i with
    | 0 => exact read_rows arg5 harg5 x3 _ _ (k0_off1_val k) _ r x
    | 1 => exact read_rows arg5 harg5 x3 _ _ rfl _ r x
    | 2 => exact read_rows arg5 harg5 x3 _ _ rfl _ r x
    | 3 => exact read_rows arg5 harg5 x3 _ _ rfl _ r x
    | 4 => exact read_rows arg5 harg5 x3 _ _ rfl _ r x
  have hq : ∀ x, (arg3.view.readAt (Elt Ideal) (Rect.unit (s := S1x1x2048x64) (k0_off1 k) S1x1x32x64.size (k0_off1_inb k)).toLoadRect (harg3.unread x1)) (ix4 0 0 p x) = x1 (ix4 0 0 (rowAt (32 * k.val + p.val)) x) :=
    fun x => read_rows arg3 harg3 x1 _ _ (k0_off1_val k) _ p x
  have hg : ∀ x, (arg8.view.readAt (Elt Ideal) (Rect.unit (s := S1x1x2048x3) (k0_off11 k) S1x1x32x3.size (k0_off11_inb k)).toLoadRect (harg8.unread x6)) (ix4 0 0 p x) = x6 (ix4 0 0 (rowAt (32 * k.val + p.val)) x) :=
    fun x => read_rows3 arg8 harg8 x6 _ _ (k0_off11_eq k) _ p x
  have hkw : ∀ j x, (arg4.view.readAt (Elt Ideal) (Rect.unit (s := S1x1x2048x64) (k0_off10 k) S1x1x128x64.size (k0_off10_inb k)).toLoadRect (harg4.unread x2)) (ix4 0 0 j x) = x2 (ix4 0 0 (rowAt (wbase k.val + j.val)) x) :=
    fun j x => read_rows128 arg4 harg4 x2 _ _ (k0_off10_val k) _ j x
  have hvw : ∀ j x, (arg5.view.readAt (Elt Ideal) (Rect.unit (s := S1x1x2048x64) (k0_off10 k) S1x1x128x64.size (k0_off10_inb k)).toLoadRect (harg5.unread x3)) (ix4 0 0 j x) = x3 (ix4 0 0 (rowAt (wbase k.val + j.val)) x) :=
    fun j x => read_rows128 arg5 harg5 x3 _ _ (k0_off10_val k) _ j x
  have hoc : (arg10.view.readAt (Elt Ideal) (Rect.unit (s := S2048x64) (k0_off12 k) S32x64.size (k0_off12_inb k)).toLoadRect X10) (ix2 p d) = cmpOut x1 x4 x5 (ix2 (rowAt (32 * k.val + p.val)) d) := by
    rw [View.readAt_apply, h10]
    have hb := k.isLt
    have hb2 : k.val < 64 := Nat.lt_of_lt_of_le hb k0_t1_abs.2.1
    refine congrArg (cmpOut x1 x4 x5) (funext fun a => Fin.ext ?_)
    refine (ValueKit.rect_emb_unit_val (s := S2048x64) _ _ (k0_off12_inb k) (ix2 p d) a).trans ?_
    refine (congrArg (· + _) (congrFun (k0_off12_eq k) a)).trans ?_
    match a with
    | ⟨0, _⟩ => show 32 * k.val + p.val = (32 * k.val + p.val) % 2048; omega
    | ⟨1, _⟩ => show 0 + d.val = d.val; omega
  have hq4 : ∀ x, k0_pay4 (F := Ideal) (arg3.view.readAt (Elt Ideal) (Rect.unit (s := S1x1x2048x64) (k0_off1 k) S1x1x32x64.size (k0_off1_inb k)).toLoadRect (harg3.unread x1)) (ix2 p x) = x1 (ix4 0 0 (rowAt (32 * k.val + p.val)) x) := by
    intro x
    refine Eq.trans ?_ (hq x)
    unfold k0_pay4
    pointwise
  have hww : wword (Scf.iv 0#32 1#32 k.val) (BitVec.ofNat 32 (wbase k.val)) p = wmk k p := funext fun x => wword_eq k p x
  rw [pay3_apply, selOut_apply, pay18_apply, hoc, cmpOut_apply, hg, hg, hg, hwd, w0word_eq, hww]
  simp only [hk, hv, hq, hkw, hvw, hq4]

/-- One head's output, row by row. -/
def headOut (x0 : Vec Ideal S1x1x64x4 .i32) (x1 x2 x3 : Vec Ideal S1x1x2048x64 .f32) (x4 x5 : Vec Ideal S1x1x64x64 .f32) (x6 : Vec Ideal S1x1x2048x3 .f32)
    (y : S1x1x2048x64.Idx) : EReal :=
  (headRow (fun k j => x0 (ix4 0 0 k j)) (fun s x => x1 (ix4 0 0 s x)) (fun s x => x2 (ix4 0 0 s x)) (fun s x => x3 (ix4 0 0 s x)) (fun s x => x4 (ix4 0 0 s x)) (fun s x => x5 (ix4 0 0 s x)) (fun s j => x6 (ix4 0 0 s j)) ⟨(y 2).val / 32, by have : (y 2).val < 2048 := (y 2).isLt; omega⟩ ⟨(y 2).val % 32, Nat.mod_lt _ (by decide)⟩ (y 3))

theorem idx_unit (x : S1x1x32x64.Idx) : x = ix4 0 0 (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

end Cert.AttnIdeal.Value
-- ==== Proof.Value.Out.lean ====
/- The attention kernel over all its blocks of query rows: what one head's output holds. -/
module

public import proofs.«01_k».proof.Proof.Value.Loop
public import Idealize.ShloMosaic.Lib.Pipeline.ReadBack
public import Idealize.ShloMosaic.Lib.VecWindow

@[expose] public section

set_option maxRecDepth 16384

noncomputable section

namespace Cert.AttnIdeal.Value

open Idealize.ShloMosaic Idealize.ShloMosaic.TcCoe Cert.AttnIdeal.Gen Cert.AttnIdeal Cert.Math

set_option maxHeartbeats 200000 in
theorem pb_pieces (c : Dev nD) (i : grid0.Coords) (arg2 : Memref sig .tc .smem S1x1x64x4 .i32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x1x2048x3 .f32) (harg8 : arg8.IsWhole) (arg9 : Memref sig .tc .vmem S1x1x2048x64 .f32) (harg9 : arg9.IsWhole) (arg10 : Memref sig .tc .vmem S2048x64 .f32) (harg10 : arg10.IsWhole) (x0 : Vec Ideal S1x1x64x4 .i32) (x1 x2 x3 : Vec Ideal S1x1x2048x64 .f32) (x4 x5 : Vec Ideal S1x1x64x64 .f32) (x6 : Vec Ideal S1x1x2048x3 .f32) (X10 : BufTy.Contents (Elt Ideal) arg10.view.ty) (h10 : arg10.view.read (Elt Ideal) X10 = cmpOut x1 x4 x5) (k0_hw1L : (∀ (kq : ℕ) (hkq : kq < k0_t1_loop.trips), k0_chk1 (arg2.view.readAt (Elt Ideal) (Rect.unit (s := S1x1x64x4) (k0_off2 ⟨kq, hkq⟩) S1x1x1x1.size (k0_off2_inb ⟨kq, hkq⟩)).toLoadRect (harg2.unread x0) (Shape.Idx.first (numel1_S1x1x1x1.symm ▸ Nat.one_pos))))) (k0_hw2L : (∀ (kq : ℕ) (hkq : kq < k0_t1_loop.trips), k0_chk2 (arg2.view.readAt (Elt Ideal) (Rect.unit (s := S1x1x64x4) (k0_off4 ⟨kq, hkq⟩) S1x1x1x1.size (k0_off4_inb ⟨kq, hkq⟩)).toLoadRect (harg2.unread x0) (Shape.Idx.first (numel1_S1x1x1x1.symm ▸ Nat.one_pos))))) (k0_hw3L : (∀ (kq : ℕ) (hkq : kq < k0_t1_loop.trips), k0_chk3 (arg2.view.readAt (Elt Ideal) (Rect.unit (s := S1x1x64x4) (k0_off6 ⟨kq, hkq⟩) S1x1x1x1.size (k0_off6_inb ⟨kq, hkq⟩)).toLoadRect (harg2.unread x0) (Shape.Idx.first (numel1_S1x1x1x1.symm ▸ Nat.one_pos))))) (k0_hw4L : (∀ (kq : ℕ) (hkq : kq < k0_t1_loop.trips), k0_chk4 (arg2.view.readAt (Elt Ideal) (Rect.unit (s := S1x1x64x4) (k0_off8 ⟨kq, hkq⟩) S1x1x1x1.size (k0_off8_inb ⟨kq, hkq⟩)).toLoadRect (harg2.unread x0) (Shape.Idx.first (numel1_S1x1x1x1.symm ▸ Nat.one_pos))))) :
    ∀ n : ℕ, n ≤ k0_t1_loop.trips → ∀ P ∈ pb_k0_t1 (F := Ideal) Variants.none c none i arg2 harg2 arg3 harg3 arg4 harg4 arg5 harg5 arg6 harg6 arg7 harg7 arg8 harg8 arg9 harg9 arg10 harg10 rowIota160 rowIota128 colIota128 (harg2.unread x0) (harg3.unread x1) (harg4.unread x2) (harg5.unread x3) (harg8.unread x6) X10 k0_hw1L k0_hw2L k0_hw3L k0_hw4L n, ∀ x : P.1.shape.Idx, P.2 x = headOut x0 x1 x2 x3 x4 x5 x6 (P.1.emb x) := by
  intro n
  induction n with
  | zero =>
    intro _ P hP
    exact absurd hP List.not_mem_nil
  | succ n ih =>
    intro hn P hP x
    rw [pb_k0_t1_succ (F := Ideal) Variants.none c none i arg2 harg2 arg3 harg3 arg4 harg4 arg5 harg5 arg6 harg6 arg7 harg7 arg8 harg8 arg9 harg9 arg10 harg10 rowIota160 rowIota128 colIota128 (harg2.unread x0) (harg3.unread x1) (harg4.unread x2) (harg5.unread x3) (harg8.unread x6) X10 k0_hw1L k0_hw2L k0_hw3L k0_hw4L ⟨n, hn⟩] at hP
    rcases List.mem_append.mp hP with h | h
    · unfold tripL_k0_t1 at h
      rw [trip_pieces c i arg2 harg2 arg3 harg3 arg4 harg4 arg5 harg5 arg6 harg6 arg7 harg7 arg8 harg8 arg9 harg9 arg10 harg10 x0 x1 x2 x3 x6 X10 ⟨n, hn⟩ (k0_hw1L n hn) (k0_hw2L n hn) (k0_hw3L n hn) (k0_hw4L n hn)] at h
      obtain rfl := List.mem_singleton.mp h
      have hn' : n < 64 := Nat.lt_of_lt_of_le hn k0_t1_abs.2.1
      have e := trip_apply c i arg2 harg2 arg3 harg3 arg4 harg4 arg5 harg5 arg6 harg6 arg7 harg7 arg8 harg8 arg9 harg9 arg10 harg10 x0 x1 x2 x3 x4 x5 x6 X10 ⟨n, hn⟩ h10 (k0_hw1L n hn) (k0_hw2L n hn) (k0_hw3L n hn) (k0_hw4L n hn) (x 2) (x 3)
      refine ((congrArg _ (idx_unit x)).trans e).trans ?_
      have hx2 : (x 2).val < 32 := (x 2).isLt
      have h2 : ((Rect.unit (s := S1x1x2048x64) (k0_off13 ⟨n, hn⟩) S1x1x32x64.size (k0_off13_inb ⟨n, hn⟩)).emb x 2).val = 32 * n + (x 2).val :=
        (ValueKit.rect_emb_unit_val (s := S1x1x2048x64) _ _ (k0_off13_inb ⟨n, hn⟩) x 2).trans
          (congrArg (· + (x 2).val) (congrFun (k0_off13_eq ⟨n, hn⟩) 2))
      have h3 : ((Rect.unit (s := S1x1x2048x64) (k0_off13 ⟨n, hn⟩) S1x1x32x64.size (k0_off13_inb ⟨n, hn⟩)).emb x 3).val = (x 3).val :=
        ((ValueKit.rect_emb_unit_val (s := S1x1x2048x64) _ _ (k0_off13_inb ⟨n, hn⟩) x 3).trans
          (congrArg (· + (x 3).val) (congrFun (k0_off13_eq ⟨n, hn⟩) 3))).trans (Nat.zero_add _)
      unfold headOut
      refine congr (congr (congrArg _ (Fin.ext ?_)) (Fin.ext ?_)) (Fin.ext ?_)
      · show n = _ / 32
        rw [h2]; omega
      · show (x 2).val = _ % 32
        rw [h2]; omega
      · exact h3.symm
    · exact ih (Nat.le_of_succ_le hn) P h x

set_option maxHeartbeats 200000 in
theorem out0_apply (c : Dev nD) (i : grid0.Coords) (arg2 : Memref sig .tc .smem S1x1x64x4 .i32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x1x2048x3 .f32) (harg8 : arg8.IsWhole) (arg9 : Memref sig .tc .vmem S1x1x2048x64 .f32) (harg9 : arg9.IsWhole) (arg10 : Memref sig .tc .vmem S2048x64 .f32) (harg10 : arg10.IsWhole)
    (x0 : Vec Ideal S1x1x64x4 .i32) (x1 : Vec Ideal S1x1x2048x64 .f32) (x2 : Vec Ideal S1x1x2048x64 .f32) (x3 : Vec Ideal S1x1x2048x64 .f32) (x4 : Vec Ideal S1x1x64x64 .f32) (x5 : Vec Ideal S1x1x64x64 .f32) (x6 : Vec Ideal S1x1x2048x3 .f32) (k0_hw1L : (∀ (kq : ℕ) (hkq : kq < k0_t1_loop.trips), k0_chk1 (arg2.view.readAt (Elt Ideal) (Rect.unit (s := S1x1x64x4) (k0_off2 ⟨kq, hkq⟩) S1x1x1x1.size (k0_off2_inb ⟨kq, hkq⟩)).toLoadRect (harg2.unread x0) (Shape.Idx.first (numel1_S1x1x1x1.symm ▸ Nat.one_pos))))) (k0_hw2L : (∀ (kq : ℕ) (hkq : kq < k0_t1_loop.trips), k0_chk2 (arg2.view.readAt (Elt Ideal) (Rect.unit (s := S1x1x64x4) (k0_off4 ⟨kq, hkq⟩) S1x1x1x1.size (k0_off4_inb ⟨kq, hkq⟩)).toLoadRect (harg2.unread x0) (Shape.Idx.first (numel1_S1x1x1x1.symm ▸ Nat.one_pos))))) (k0_hw3L : (∀ (kq : ℕ) (hkq : kq < k0_t1_loop.trips), k0_chk3 (arg2.view.readAt (Elt Ideal) (Rect.unit (s := S1x1x64x4) (k0_off6 ⟨kq, hkq⟩) S1x1x1x1.size (k0_off6_inb ⟨kq, hkq⟩)).toLoadRect (harg2.unread x0) (Shape.Idx.first (numel1_S1x1x1x1.symm ▸ Nat.one_pos))))) (k0_hw4L : (∀ (kq : ℕ) (hkq : kq < k0_t1_loop.trips), k0_chk4 (arg2.view.readAt (Elt Ideal) (Rect.unit (s := S1x1x64x4) (k0_off8 ⟨kq, hkq⟩) S1x1x1x1.size (k0_off8_inb ⟨kq, hkq⟩)).toLoadRect (harg2.unread x0) (Shape.Idx.first (numel1_S1x1x1x1.symm ▸ Nat.one_pos))))) :
    out0_A_7 c i arg2 harg2 arg3 harg3 arg4 harg4 arg5 harg5 arg6 harg6 arg7 harg7 arg8 harg8 arg9 harg9 arg10 harg10 x0 x1 x2 x3 x4 x5 x6 k0_hw1L k0_hw2L k0_hw3L k0_hw4L
      = headOut x0 x1 x2 x3 x4 x5 x6 := by
  funext y
  have hc := cover0_A_7 (F := Ideal) c i arg2 harg2 arg3 harg3 arg4 harg4 arg5 harg5 arg6 harg6 arg7 harg7 arg8 harg8 arg9 harg9 arg10 harg10 x0 x1 x2 x3 x4 x5 x6 k0_hw1L k0_hw2L k0_hw3L k0_hw4L y
  have e : (kernelRun0_A c i arg2 harg2 arg3 harg3 arg4 harg4 arg5 harg5 arg6 harg6 arg7 harg7 arg8 harg8 arg9 harg9 arg10 harg10 x0 x1 x2 x3 x4 x5 x6 k0_hw1L k0_hw2L k0_hw3L k0_hw4L).1 = pb_k0_t1 (F := Ideal) Variants.none c none i arg2 harg2 arg3 harg3 arg4 harg4 arg5 harg5 arg6 harg6 arg7 harg7 arg8 harg8 arg9 harg9 arg10 harg10 rowIota160 rowIota128 colIota128 (harg2.unread x0) (harg3.unread x1) (harg4.unread x2) (harg5.unread x3) (harg8.unread x6) (arg10.view.writes (Elt Ideal) arg10.view.junk (kernelRun0_A.sl.HS0_1 c arg3 harg3 arg6 harg6 arg7 harg7 x1 x4 x5)) k0_hw1L k0_hw2L k0_hw3L k0_hw4L (Scf.trips 0#32 (Scalar.addi 0#32 64#32) 1#32) := by
    unfold kernelRun0_A
    dsimp only
  have h10 : arg10.view.read (Elt Ideal) (arg10.view.writes (Elt Ideal) arg10.view.junk (kernelRun0_A.sl.HS0_1 c arg3 harg3 arg6 harg6 arg7 harg7 x1 x4 x5)) = cmpOut x1 x4 x5 := by
    unfold kernelRun0_A.sl.HS0_1 kernelRun0_A.sl.r kernelRun0_A.sl.r_1 kernelRun0_A.sl.r_2 cmpOut
    refine (View.read_writes_full (s := S2048x64) arg10.view arg10.view.junk inb_S2048x64_S2048x64_0_0 _ []).trans ?_
    have a3 : arg3.view.readAt (Elt Ideal) (Rect.unit (s := S1x1x2048x64) ![0, 0, 0, 0] S1x1x2048x64.size inb_S1x1x2048x64_S1x1x2048x64_0_0_0_0).toLoadRect (harg3.unread x1) = x1 := by
      rw [View.readAt_full, harg3.read_unread]
    have a6 : arg6.view.readAt (Elt Ideal) (Rect.unit (s := S1x1x64x64) ![0, 0, 0, 0] S1x1x64x64.size inb_S1x1x64x64_S1x1x64x64_0_0_0_0).toLoadRect (harg6.unread x4) = x4 := by
      rw [View.readAt_full, harg6.read_unread]
    have a7 : arg7.view.readAt (Elt Ideal) (Rect.unit (s := S1x1x64x64) ![0, 0, 0, 0] S1x1x64x64.size inb_S1x1x64x64_S1x1x64x64_0_0_0_0).toLoadRect (harg7.unread x5) = x5 := by
      rw [View.readAt_full, harg7.read_unread]
    rw [a3, a6, a7]
  unfold out0_A_7
  rw [View.read_writes_junk_eq_canon]
  refine View.canon_apply_of_pieces (headOut x0 x1 x2 x3 x4 x5 x6) _ ?_ y hc
  rw [e]
  exact pb_pieces c i arg2 harg2 arg3 harg3 arg4 harg4 arg5 harg5 arg6 harg6 arg7 harg7 arg8 harg8 arg9 harg9 arg10 harg10 x0 x1 x2 x3 x4 x5 x6 _ h10 k0_hw1L k0_hw2L k0_hw3L k0_hw4L _ (Nat.le_refl _)

end Cert.AttnIdeal.Value
-- ==== Proof.Value.Array.lean ====
/- The attention call's whole result array, head by head. -/
module

public import proofs.«01_k».proof.Proof.Gen.AttnIdeal.Value
public import proofs.«01_k».proof.Proof.Value.Out
public import Idealize.ShloMosaic.Lib.Pipeline.ValueKit

@[expose] public section

set_option maxRecDepth 16384

noncomputable section

namespace Cert.AttnIdeal.Value

open Idealize.ShloMosaic Idealize.ShloMosaic.TcCoe Cert.AttnIdeal.Gen Cert.AttnIdeal Cert.Math
open Idealize.ShloMosaic.Pipeline (Dat)

/-- The result of the attention call at batch `b`, head `h`, row `s`, column `d`, from its seven arguments. -/
def spec (x0 : S2x16x64x4.Idx → BitVec 32) (x1 x2 x3 : S2x16x2048x64.Idx → EReal) (x4 x5 : S2x16x64x64.Idx → EReal)
    (x6 : S2x16x2048x3.Idx → EReal) (b : Fin 2) (h : Fin 16) (s : Fin 2048) (d : Fin 64) : EReal :=
  headRow (fun k j => x0 (ix4 b h k j)) (fun s x => x1 (ix4 b h s x)) (fun s x => x2 (ix4 b h s x)) (fun s x => x3 (ix4 b h s x))
    (fun s x => x4 (ix4 b h s x)) (fun s x => x5 (ix4 b h s x)) (fun s j => x6 (ix4 b h s j))
    ⟨s.val / 32, by omega⟩ ⟨s.val % 32, by omega⟩ d

theorem index0 : ∀ t : Fin cfg0.N, win0_0.index t = ![(grid0.coords t 0).val, (grid0.coords t 1).val, 0, 0] :=
  (by decide +kernel : ∀ t : Fin grid0.N, win0_0.index t = ![(grid0.coords t 0).val, (grid0.coords t 1).val, 0, 0])
theorem index1 : ∀ t : Fin cfg0.N, win0_1.index t = ![(grid0.coords t 0).val, (grid0.coords t 1).val, 0, 0] :=
  (by decide +kernel : ∀ t : Fin grid0.N, win0_1.index t = ![(grid0.coords t 0).val, (grid0.coords t 1).val, 0, 0])
theorem index2 : ∀ t : Fin cfg0.N, win0_2.index t = ![(grid0.coords t 0).val, (grid0.coords t 1).val, 0, 0] :=
  (by decide +kernel : ∀ t : Fin grid0.N, win0_2.index t = ![(grid0.coords t 0).val, (grid0.coords t 1).val, 0, 0])
theorem index3 : ∀ t : Fin cfg0.N, win0_3.index t = ![(grid0.coords t 0).val, (grid0.coords t 1).val, 0, 0] :=
  (by decide +kernel : ∀ t : Fin grid0.N, win0_3.index t = ![(grid0.coords t 0).val, (grid0.coords t 1).val, 0, 0])
theorem index4 : ∀ t : Fin cfg0.N, win0_4.index t = ![(grid0.coords t 0).val, (grid0.coords t 1).val, 0, 0] :=
  (by decide +kernel : ∀ t : Fin grid0.N, win0_4.index t = ![(grid0.coords t 0).val, (grid0.coords t 1).val, 0, 0])
theorem index5 : ∀ t : Fin cfg0.N, win0_5.index t = ![(grid0.coords t 0).val, (grid0.coords t 1).val, 0, 0] :=
  (by decide +kernel : ∀ t : Fin grid0.N, win0_5.index t = ![(grid0.coords t 0).val, (grid0.coords t 1).val, 0, 0])
theorem index6 : ∀ t : Fin cfg0.N, win0_6.index t = ![(grid0.coords t 0).val, (grid0.coords t 1).val, 0, 0] :=
  (by decide +kernel : ∀ t : Fin grid0.N, win0_6.index t = ![(grid0.coords t 0).val, (grid0.coords t 1).val, 0, 0])
theorem index7 : ∀ t : Fin cfg0.N, win0_7.index t = ![(grid0.coords t 0).val, (grid0.coords t 1).val, 0, 0] :=
  (by decide +kernel : ∀ t : Fin grid0.N, win0_7.index t = ![(grid0.coords t 0).val, (grid0.coords t 1).val, 0, 0])

theorem read0 (t : Fin cfg0.N) (y : ((cfg0.win 7).xblock (cfg0.grid.coords t)).Idx) (k : Fin 64) (j : Fin 4) :
    ((cfg0.win 0).blk t).view.emb (ix4 0 0 k j) = ix4 ((win0_7.blk t).view.emb y 0) ((win0_7.blk t).view.emb y 1) k j := by
  blk_ext! [index0 t, index7 t]
theorem read1 (t : Fin cfg0.N) (y : ((cfg0.win 7).xblock (cfg0.grid.coords t)).Idx) (k : Fin 2048) (j : Fin 64) :
    ((cfg0.win 1).blk t).view.emb (ix4 0 0 k j) = ix4 ((win0_7.blk t).view.emb y 0) ((win0_7.blk t).view.emb y 1) k j := by
  blk_ext! [index1 t, index7 t]
theorem read2 (t : Fin cfg0.N) (y : ((cfg0.win 7).xblock (cfg0.grid.coords t)).Idx) (k : Fin 2048) (j : Fin 64) :
    ((cfg0.win 2).blk t).view.emb (ix4 0 0 k j) = ix4 ((win0_7.blk t).view.emb y 0) ((win0_7.blk t).view.emb y 1) k j := by
  blk_ext! [index2 t, index7 t]
theorem read3 (t : Fin cfg0.N) (y : ((cfg0.win 7).xblock (cfg0.grid.coords t)).Idx) (k : Fin 2048) (j : Fin 64) :
    ((cfg0.win 3).blk t).view.emb (ix4 0 0 k j) = ix4 ((win0_7.blk t).view.emb y 0) ((win0_7.blk t).view.emb y 1) k j := by
  blk_ext! [index3 t, index7 t]
theorem read4 (t : Fin cfg0.N) (y : ((cfg0.win 7).xblock (cfg0.grid.coords t)).Idx) (k : Fin 64) (j : Fin 64) :
    ((cfg0.win 4).blk t).view.emb (ix4 0 0 k j) = ix4 ((win0_7.blk t).view.emb y 0) ((win0_7.blk t).view.emb y 1) k j := by
  blk_ext! [index4 t, index7 t]
theorem read5 (t : Fin cfg0.N) (y : ((cfg0.win 7).xblock (cfg0.grid.coords t)).Idx) (k : Fin 64) (j : Fin 64) :
    ((cfg0.win 5).blk t).view.emb (ix4 0 0 k j) = ix4 ((win0_7.blk t).view.emb y 0) ((win0_7.blk t).view.emb y 1) k j := by
  blk_ext! [index5 t, index7 t]
theorem read6 (t : Fin cfg0.N) (y : ((cfg0.win 7).xblock (cfg0.grid.coords t)).Idx) (k : Fin 2048) (j : Fin 3) :
    ((cfg0.win 6).blk t).view.emb (ix4 0 0 k j) = ix4 ((win0_7.blk t).view.emb y 0) ((win0_7.blk t).view.emb y 1) k j := by
  blk_ext! [index6 t, index7 t]
theorem row7 (t : Fin cfg0.N) (y : ((cfg0.win 7).xblock (cfg0.grid.coords t)).Idx) : ((win0_7.blk t).view.emb y 2).val = (y 2).val := by
  blk_simp [index7 t]
theorem col7 (t : Fin cfg0.N) (y : ((cfg0.win 7).xblock (cfg0.grid.coords t)).Idx) : (win0_7.blk t).view.emb y 3 = y 3 := by
  refine Fin.ext ?_
  blk_simp [index7 t]

theorem headRow_congr {w w' Q Q' K K' V V' KC KC' VC VC' G G' k k' p p' d d'} (hw : w = w') (hQ : Q = Q') (hK : K = K') (hV : V = V')
    (hKC : KC = KC') (hVC : VC = VC') (hG : G = G') (hk : k = k') (hp : p = p') (hd : d = d') :
    headRow w Q K V KC VC G k p d = headRow w' Q' K' V' KC' VC' G' k' p' d' := by
  subst hw hQ hK hV hKC hVC hG hk hp hd
  rfl

variable (m : (ℓ : Loc nD τ sig) → Buf (Elt Ideal) ℓ)

/-- The array the attention call leaves is `spec` of its arguments. -/
theorem final (hH : Hyps m) (c : Dev nD) :
    (dats m hH 0 c).arrAt 7 cfg0.N = fun y : S2x16x2048x64.Idx => spec (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (y 0) (y 1) (y 2) (y 3) := by
  refine (dats m hH 0 c).arrAt_eq_of_covers 7 _ (by decide +kernel) fun t hf y => ?_
  blk_simp
  rw [after0_7]
  unfold outsAt0
  rw [out0_apply]
  unfold headOut spec
  refine headRow_congr (funext fun k => funext fun j => congrArg (m ((c : Thread nD τ).loc main_arg0)) (read0 t y k j)) (funext fun k => funext fun j => congrArg (m ((c : Thread nD τ).loc main_arg1)) (read1 t y k j)) (funext fun k => funext fun j => congrArg (m ((c : Thread nD τ).loc main_arg2)) (read2 t y k j)) (funext fun k => funext fun j => congrArg (m ((c : Thread nD τ).loc main_arg3)) (read3 t y k j)) (funext fun k => funext fun j => congrArg (m ((c : Thread nD τ).loc main_arg4)) (read4 t y k j)) (funext fun k => funext fun j => congrArg (m ((c : Thread nD τ).loc main_arg5)) (read5 t y k j)) (funext fun k => funext fun j => congrArg (m ((c : Thread nD τ).loc main_arg6)) (read6 t y k j))
    (Fin.ext ?_) (Fin.ext ?_) (col7 t y).symm
  · show (y 2).val / 32 = ((win0_7.blk t).view.emb y 2).val / 32
    rw [row7 t y]
  · show (y 2).val % 32 = ((win0_7.blk t).view.emb y 2).val % 32
    rw [row7 t y]

end Cert.AttnIdeal.Value

end
-- ==== Proof.Value.RefA.lean ====
/- The compressed branch of the reference, read at an index. -/
module

public import proofs.«01_k».proof.Proof.Gen.AttnRefIdeal.Read
public import proofs.«01_k».proof.Proof.Math.Attn
public import Idealize.ShloMosaic.Lib.Pipeline.ValueKit
public import Idealize.ShloMosaic.Lib.Pointwise

@[expose] public section

set_option maxRecDepth 16384

noncomputable section

namespace Cert.AttnRefIdeal.Value

open Idealize.ShloMosaic Idealize.ShloMosaic.TcCoe Cert.AttnRefIdeal.Gen Cert.AttnRefIdeal Cert.AttnRefIdeal.Read Cert.Math

abbrev X0 := (⟨S2x16x64x4, .i32⟩ : BufTy).Contents (Elt Ideal)
abbrev X1 := (⟨S2x16x2048x64, .f32⟩ : BufTy).Contents (Elt Ideal)
abbrev X4 := (⟨S2x16x64x64, .f32⟩ : BufTy).Contents (Elt Ideal)
abbrev X6 := (⟨S2x16x2048x3, .f32⟩ : BufTy).Contents (Elt Ideal)

theorem maskC (s : Fin 2048) (n : Fin 64) :
    val_main_v15 (F := Ideal) (ix2 s n)
      = IntOp.cmpi .sle (IntOp.subi (IntOp.muli (IntOp.addi (BitVec.ofNat 32 n.val) 1#32) 32#32) 1#32) (BitVec.ofNat 32 s.val) := by
  unfold val_main_v15 val_main_v14 val_main_v13 val_main_v12 val_main_v11 val_main_v10 val_main_v9 val_main_c_1 val_main_v8 val_main_v7 val_main_c_0 val_main_v6 val_main_v5 val_main_c val_main_v4 val_main_v3
  pointwise

theorem scC (x1 : X1) (x4 : X4) (b : Fin 2) (h : Fin 16) (s : Fin 2048) (n : Fin 64) :
    val_main_v17 (F := Ideal) x1 x4 (ix4 b h s n)
      = sc (fun n => val_main_v15 (F := Ideal) (ix2 s n)) (fun x => x1 (ix4 b h s x)) (fun n x => x4 (ix4 b h n x)) n := by
  unfold val_main_v17 val_main_call0_v2 val_main_call0_v1 val_main_call0_v0 val_main_cst_2 val_main_v16 val_main_v2 val_main_v1 val_main_cst val_main_v0
  pointwise
  rfl

theorem foldC (x1 : X1) (x4 : X4) (b : Fin 2) (h : Fin 16) (s : Fin 2048) :
    val_main_v18 (F := Ideal) x1 x4 (ix3 b h s) = Finset.univ.fold max ninf (fun j : Fin 64 => val_main_v17 (F := Ideal) x1 x4 (ix4 b h s j)) := by
  unfold val_main_v18 val_main_cst_3
  generalize val_main_v17 (F := Ideal) x1 x4 = X
  have hr : S2x16x2048x64.Reduces [3] S2x16x2048 := by decide
  refine (Host.reduce_eq_fold_single (FloatOps.maximumf (F := Ideal) (φ := .f32)) (X : FVec Ideal S2x16x2048x64 .f32) _ _ hr _ _).trans ?_
  have hf : (X ∘ hr.lift (ix3 b h s)) = fun j : Fin 64 => X (ix4 b h s j) := funext fun j => congrArg X (funext fun a => Fin.ext (by
    rw [hr.lift_val]
    match a with
    | ⟨0, _⟩ => rfl
    | ⟨1, _⟩ => rfl
    | ⟨2, _⟩ => rfl
    | ⟨3, _⟩ => rfl))
  exact congrArg (fun f => Finset.fold max ninf f (Finset.univ : Finset (Fin 64))) hf

theorem maxC (x1 : X1) (x4 : X4) (b : Fin 2) (h : Fin 16) (s : Fin 2048) :
    val_main_v20 (F := Ideal) x1 x4 (ix3 b h s) = rowMax (fun j : Fin 64 => val_main_v17 (F := Ideal) x1 x4 (ix4 b h s j)) := by
  have c : val_main_v19 (F := Ideal) (ix3 b h s) = Ideal.ofBits .f32 4286578688#32 := by
    rfl
  have e : val_main_v20 (F := Ideal) x1 x4 (ix3 b h s) = max (Ideal.ofBits .f32 4286578688#32) (val_main_v18 (F := Ideal) x1 x4 (ix3 b h s)) := by
    rw [val_main_v20_apply]
    exact congrArg (fun c : EReal => max c (val_main_v18 (F := Ideal) x1 x4 (ix3 b h s))) c
  rw [e, foldC]
  unfold rowMax ninf
  rfl

theorem expC (x1 : X1) (x4 : X4) (b : Fin 2) (h : Fin 16) (s : Fin 2048) (j : Fin 64) :
    val_main_v24 (F := Ideal) x1 x4 (ix4 b h s j) = rowExp (fun j : Fin 64 => val_main_v17 (F := Ideal) x1 x4 (ix4 b h s j)) j := by
  unfold val_main_v24 val_main_v23 val_main_v22 val_main_v21
  pointwise
  rw [maxC]
  rfl

theorem smC (x1 : X1) (x4 : X4) (b : Fin 2) (h : Fin 16) (s : Fin 2048) (j : Fin 64) :
    val_main_v28 (F := Ideal) x1 x4 (ix4 b h s j) = rowSm (fun j : Fin 64 => val_main_v17 (F := Ideal) x1 x4 (ix4 b h s j)) j := by
  unfold val_main_v28 val_main_v27 val_main_v26 val_main_v25 val_main_cst_5
  pointwise
  simp only [expC]
  rfl

theorem pC (x1 : X1) (x4 : X4) (b : Fin 2) (h : Fin 16) (s : Fin 2048) (j : Fin 64) :
    val_main_v29 (F := Ideal) x1 x4 (ix4 b h s j) = rowP (fun j : Fin 64 => val_main_v15 (F := Ideal) (ix2 s j)) (fun j : Fin 64 => val_main_v17 (F := Ideal) x1 x4 (ix4 b h s j)) j := by
  unfold val_main_v29 val_main_call1_v2 val_main_call1_v1 val_main_call1_v0 val_main_cst_6 val_main_v16
  pointwise
  rw [smC]
  unfold rowP
  have z : Ideal.ofBits .f32 0#32 = 0 := by simp [Ideal.ofBits, Ideal.ieee]
  exact congrArg (fun z => Scalar.select _ _ z) z

theorem wC (x1 : X1) (x4 : X4) (b : Fin 2) (h : Fin 16) (s : Fin 2048) (j : Fin 64) :
    val_main_v35 (F := Ideal) x1 x4 (ix4 b h s j) = rowW (fun j : Fin 64 => val_main_v15 (F := Ideal) (ix2 s j)) (fun j : Fin 64 => val_main_v17 (F := Ideal) x1 x4 (ix4 b h s j)) j := by
  unfold val_main_v35 val_main_v34 val_main_v33 val_main_v32 val_main_cst_8 val_main_v31 val_main_v30 val_main_cst_7
  pointwise
  simp only [pC]
  rfl

theorem outC (x1 : X1) (x4 x5 : X4) (b : Fin 2) (h : Fin 16) (s : Fin 2048) (d : Fin 64) :
    val_main_v36 (F := Ideal) x1 x4 x5 (ix4 b h s d)
      = att (fun n => val_main_v15 (F := Ideal) (ix2 s n)) (fun x => x1 (ix4 b h s x)) (fun n x => x4 (ix4 b h n x))
          (fun n x => x5 (ix4 b h n x)) d := by
  unfold val_main_v36
  pointwise
  unfold att
  simp only [wC, scC]

end Cert.AttnRefIdeal.Value

end
-- ==== Proof.Value.RefB.lean ====
/- The selected branch of the reference, read at an index. -/
module

public import proofs.«01_k».proof.Proof.Gen.AttnRefIdeal.Read
public import proofs.«01_k».proof.Proof.Math.Attn
public import Idealize.ShloMosaic.Lib.Pipeline.ValueKit
public import Idealize.ShloMosaic.Lib.Pointwise
public import proofs.«01_k».proof.Proof.Value.RefA

@[expose] public section

set_option maxRecDepth 16384

noncomputable section

namespace Cert.AttnRefIdeal.Value

open Idealize.ShloMosaic Idealize.ShloMosaic.TcCoe Cert.AttnRefIdeal.Gen Cert.AttnRefIdeal Cert.AttnRefIdeal.Read Cert.Math

theorem scS (x0 : X0) (x1 x2 : X1) (b : Fin 2) (h : Fin 16) (k : Fin 64) (p : Fin 32) (j : Fin 160) :
    val_main_v75 (F := Ideal) x0 x1 x2 (ix5 b h k p j)
      = sc (fun j => val_main_v74 (F := Ideal) x0 (ix5 b h k p j)) (fun x => val_main_v57 (F := Ideal) x1 (ix5 b h k p x))
          (fun j x => val_main_v55 (F := Ideal) x0 x2 (ix5 b h k j x)) j := by
  unfold val_main_v75 val_main_call3_v1 val_main_call3_v0 val_main_cst_12 val_main_v60 val_main_v59 val_main_cst_11 val_main_v58
  pointwise
  rfl

theorem foldS (x0 : X0) (x1 x2 : X1) (b : Fin 2) (h : Fin 16) (k : Fin 64) (p : Fin 32) :
    val_main_v76 (F := Ideal) x0 x1 x2 (ix4 b h k p) = Finset.univ.fold max ninf (fun j : Fin 160 => val_main_v75 (F := Ideal) x0 x1 x2 (ix5 b h k p j)) := by
  unfold val_main_v76 val_main_cst_13
  generalize val_main_v75 (F := Ideal) x0 x1 x2 = X
  have hr : S2x16x64x32x160.Reduces [4] S2x16x64x32 := by decide
  refine (Host.reduce_eq_fold_single (FloatOps.maximumf (F := Ideal) (φ := .f32)) (X : FVec Ideal S2x16x64x32x160 .f32) _ _ hr _ _).trans ?_
  have hf : (X ∘ hr.lift (ix4 b h k p)) = fun j : Fin 160 => X (ix5 b h k p j) := funext fun j => congrArg X (funext fun a => Fin.ext (by
    rw [hr.lift_val]
    match a with
    | ⟨0, _⟩ => rfl
    | ⟨1, _⟩ => rfl
    | ⟨2, _⟩ => rfl
    | ⟨3, _⟩ => rfl
    | ⟨4, _⟩ => rfl))
  exact congrArg (fun f => Finset.fold max ninf f (Finset.univ : Finset (Fin 160))) hf

theorem maxS (x0 : X0) (x1 x2 : X1) (b : Fin 2) (h : Fin 16) (k : Fin 64) (p : Fin 32) :
    val_main_v78 (F := Ideal) x0 x1 x2 (ix4 b h k p) = rowMax (fun j : Fin 160 => val_main_v75 (F := Ideal) x0 x1 x2 (ix5 b h k p j)) := by
  have c : val_main_v77 (F := Ideal) (ix4 b h k p) = Ideal.ofBits .f32 4286578688#32 := by
    rfl
  have e : val_main_v78 (F := Ideal) x0 x1 x2 (ix4 b h k p) = max (Ideal.ofBits .f32 4286578688#32) (val_main_v76 (F := Ideal) x0 x1 x2 (ix4 b h k p)) := by
    rw [val_main_v78_apply]
    exact congrArg (fun c : EReal => max c (val_main_v76 (F := Ideal) x0 x1 x2 (ix4 b h k p))) c
  rw [e, foldS]
  unfold rowMax ninf
  rfl

theorem expS (x0 : X0) (x1 x2 : X1) (b : Fin 2) (h : Fin 16) (k : Fin 64) (p : Fin 32) (j : Fin 160) :
    val_main_v82 (F := Ideal) x0 x1 x2 (ix5 b h k p j) = rowExp (fun j : Fin 160 => val_main_v75 (F := Ideal) x0 x1 x2 (ix5 b h k p j)) j := by
  unfold val_main_v82 val_main_v81 val_main_v80 val_main_v79
  pointwise
  rw [maxS]
  rfl

theorem smS (x0 : X0) (x1 x2 : X1) (b : Fin 2) (h : Fin 16) (k : Fin 64) (p : Fin 32) (j : Fin 160) :
    val_main_v86 (F := Ideal) x0 x1 x2 (ix5 b h k p j) = rowSm (fun j : Fin 160 => val_main_v75 (F := Ideal) x0 x1 x2 (ix5 b h k p j)) j := by
  unfold val_main_v86 val_main_v85 val_main_v84 val_main_v83 val_main_cst_15
  pointwise
  simp only [expS]
  rfl

theorem pS (x0 : X0) (x1 x2 : X1) (b : Fin 2) (h : Fin 16) (k : Fin 64) (p : Fin 32) (j : Fin 160) :
    val_main_v87 (F := Ideal) x0 x1 x2 (ix5 b h k p j) = rowP (fun j : Fin 160 => val_main_v74 (F := Ideal) x0 (ix5 b h k p j)) (fun j : Fin 160 => val_main_v75 (F := Ideal) x0 x1 x2 (ix5 b h k p j)) j := by
  unfold val_main_v87 val_main_call4_v1 val_main_call4_v0 val_main_cst_16
  pointwise
  rw [smS]
  unfold rowP
  have z : Ideal.ofBits .f32 0#32 = 0 := by simp [Ideal.ofBits, Ideal.ieee]
  exact congrArg (fun z => Scalar.select _ _ z) z

theorem wS (x0 : X0) (x1 x2 : X1) (b : Fin 2) (h : Fin 16) (k : Fin 64) (p : Fin 32) (j : Fin 160) :
    val_main_v93 (F := Ideal) x0 x1 x2 (ix5 b h k p j) = rowW (fun j : Fin 160 => val_main_v74 (F := Ideal) x0 (ix5 b h k p j)) (fun j : Fin 160 => val_main_v75 (F := Ideal) x0 x1 x2 (ix5 b h k p j)) j := by
  unfold val_main_v93 val_main_v92 val_main_v91 val_main_v90 val_main_cst_18 val_main_v89 val_main_v88 val_main_cst_17
  pointwise
  simp only [pS]
  rfl

theorem outS (x0 : X0) (x1 x2 x3 : X1) (b : Fin 2) (h : Fin 16) (k : Fin 64) (p : Fin 32) (d : Fin 64) :
    val_main_v94 (F := Ideal) x0 x1 x2 x3 (ix5 b h k p d)
      = att (fun j => val_main_v74 (F := Ideal) x0 (ix5 b h k p j)) (fun x => val_main_v57 (F := Ideal) x1 (ix5 b h k p x))
          (fun j x => val_main_v55 (F := Ideal) x0 x2 (ix5 b h k j x)) (fun j x => val_main_v56 (F := Ideal) x0 x3 (ix5 b h k j x)) d := by
  unfold val_main_v94
  pointwise
  unfold att
  simp only [wS, scS]

end Cert.AttnRefIdeal.Value

end
-- ==== Proof.Value.RefC.lean ====
/- The window branch of the reference, read at an index. -/
module

public import proofs.«01_k».proof.Proof.Gen.AttnRefIdeal.Read
public import proofs.«01_k».proof.Proof.Math.Attn
public import Idealize.ShloMosaic.Lib.Pipeline.ValueKit
public import Idealize.ShloMosaic.Lib.Pointwise
public import proofs.«01_k».proof.Proof.Value.RefA

@[expose] public section

set_option maxRecDepth 16384

noncomputable section

namespace Cert.AttnRefIdeal.Value

open Idealize.ShloMosaic Idealize.ShloMosaic.TcCoe Cert.AttnRefIdeal.Gen Cert.AttnRefIdeal Cert.AttnRefIdeal.Read Cert.Math

theorem scW (x1 x2 : X1) (b : Fin 2) (h : Fin 16) (k : Fin 32) (p : Fin 64) (j : Fin 128) :
    val_main_v139 (F := Ideal) x1 x2 (ix5 b h k p j)
      = sc (fun j => val_main_v137 (F := Ideal) (ix3 k p j)) (fun x => val_main_v96 (F := Ideal) x1 (ix5 b h k p x))
          (fun j x => val_main_v107 (F := Ideal) x2 (ix5 b h k j x)) j := by
  unfold val_main_v139 val_main_call6_v2 val_main_call6_v1 val_main_call6_v0 val_main_cst_27 val_main_v138 val_main_v111 val_main_v110 val_main_cst_21 val_main_v109
  pointwise
  rfl

theorem foldW (x1 x2 : X1) (b : Fin 2) (h : Fin 16) (k : Fin 32) (p : Fin 64) :
    val_main_v140 (F := Ideal) x1 x2 (ix4 b h k p) = Finset.univ.fold max ninf (fun j : Fin 128 => val_main_v139 (F := Ideal) x1 x2 (ix5 b h k p j)) := by
  unfold val_main_v140 val_main_cst_28
  generalize val_main_v139 (F := Ideal) x1 x2 = X
  have hr : S2x16x32x64x128.Reduces [4] S2x16x32x64 := by decide
  refine (Host.reduce_eq_fold_single (FloatOps.maximumf (F := Ideal) (φ := .f32)) (X : FVec Ideal S2x16x32x64x128 .f32) _ _ hr _ _).trans ?_
  have hf : (X ∘ hr.lift (ix4 b h k p)) = fun j : Fin 128 => X (ix5 b h k p j) := funext fun j => congrArg X (funext fun a => Fin.ext (by
    rw [hr.lift_val]
    match a with
    | ⟨0, _⟩ => rfl
    | ⟨1, _⟩ => rfl
    | ⟨2, _⟩ => rfl
    | ⟨3, _⟩ => rfl
    | ⟨4, _⟩ => rfl))
  exact congrArg (fun f => Finset.fold max ninf f (Finset.univ : Finset (Fin 128))) hf

theorem maxW (x1 x2 : X1) (b : Fin 2) (h : Fin 16) (k : Fin 32) (p : Fin 64) :
    val_main_v142 (F := Ideal) x1 x2 (ix4 b h k p) = rowMax (fun j : Fin 128 => val_main_v139 (F := Ideal) x1 x2 (ix5 b h k p j)) := by
  have c : val_main_v141 (F := Ideal) (ix4 b h k p) = Ideal.ofBits .f32 4286578688#32 := by
    rfl
  have e : val_main_v142 (F := Ideal) x1 x2 (ix4 b h k p) = max (Ideal.ofBits .f32 4286578688#32) (val_main_v140 (F := Ideal) x1 x2 (ix4 b h k p)) := by
    rw [val_main_v142_apply]
    exact congrArg (fun c : EReal => max c (val_main_v140 (F := Ideal) x1 x2 (ix4 b h k p))) c
  rw [e, foldW]
  unfold rowMax ninf
  rfl

theorem expW (x1 x2 : X1) (b : Fin 2) (h : Fin 16) (k : Fin 32) (p : Fin 64) (j : Fin 128) :
    val_main_v146 (F := Ideal) x1 x2 (ix5 b h k p j) = rowExp (fun j : Fin 128 => val_main_v139 (F := Ideal) x1 x2 (ix5 b h k p j)) j := by
  unfold val_main_v146 val_main_v145 val_main_v144 val_main_v143
  pointwise
  rw [maxW]
  rfl

theorem smW (x1 x2 : X1) (b : Fin 2) (h : Fin 16) (k : Fin 32) (p : Fin 64) (j : Fin 128) :
    val_main_v150 (F := Ideal) x1 x2 (ix5 b h k p j) = rowSm (fun j : Fin 128 => val_main_v139 (F := Ideal) x1 x2 (ix5 b h k p j)) j := by
  unfold val_main_v150 val_main_v149 val_main_v148 val_main_v147 val_main_cst_30
  pointwise
  simp only [expW]
  rfl

theorem pW (x1 x2 : X1) (b : Fin 2) (h : Fin 16) (k : Fin 32) (p : Fin 64) (j : Fin 128) :
    val_main_v151 (F := Ideal) x1 x2 (ix5 b h k p j) = rowP (fun j : Fin 128 => val_main_v137 (F := Ideal) (ix3 k p j)) (fun j : Fin 128 => val_main_v139 (F := Ideal) x1 x2 (ix5 b h k p j)) j := by
  unfold val_main_v151 val_main_call7_v2 val_main_call7_v1 val_main_call7_v0 val_main_cst_31 val_main_v138
  pointwise
  rw [smW]
  unfold rowP
  have z : Ideal.ofBits .f32 0#32 = 0 := by simp [Ideal.ofBits, Ideal.ieee]
  exact congrArg (fun z => Scalar.select _ _ z) z

theorem wW (x1 x2 : X1) (b : Fin 2) (h : Fin 16) (k : Fin 32) (p : Fin 64) (j : Fin 128) :
    val_main_v157 (F := Ideal) x1 x2 (ix5 b h k p j) = rowW (fun j : Fin 128 => val_main_v137 (F := Ideal) (ix3 k p j)) (fun j : Fin 128 => val_main_v139 (F := Ideal) x1 x2 (ix5 b h k p j)) j := by
  unfold val_main_v157 val_main_v156 val_main_v155 val_main_v154 val_main_cst_33 val_main_v153 val_main_v152 val_main_cst_32
  pointwise
  simp only [pW]
  rfl

theorem outW (x1 x2 x3 : X1) (b : Fin 2) (h : Fin 16) (k : Fin 32) (p d : Fin 64) :
    val_main_v158 (F := Ideal) x1 x2 x3 (ix5 b h k p d)
      = att (fun j => val_main_v137 (F := Ideal) (ix3 k p j)) (fun x => val_main_v96 (F := Ideal) x1 (ix5 b h k p x))
          (fun j x => val_main_v107 (F := Ideal) x2 (ix5 b h k j x)) (fun j x => val_main_v108 (F := Ideal) x3 (ix5 b h k j x)) d := by
  unfold val_main_v158
  pointwise
  unfold att
  simp only [wW, scW]

end Cert.AttnRefIdeal.Value

end
-- ==== Proof.Value.RefD.lean ====
/- The masks, keys, values and results of the reference's branches, read at an index. -/
module

public import proofs.«01_k».proof.Proof.Gen.AttnRefIdeal.Read
public import proofs.«01_k».proof.Proof.Math.Attn
public import Idealize.ShloMosaic.Lib.Pipeline.ValueKit
public import Idealize.ShloMosaic.Lib.Pointwise
public import proofs.«01_k».proof.Proof.Value.RefA

@[expose] public section

set_option maxRecDepth 16384

noncomputable section

namespace Cert.AttnRefIdeal.Value

open Idealize.ShloMosaic Idealize.ShloMosaic.TcCoe Cert.AttnRefIdeal.Gen Cert.AttnRefIdeal Cert.AttnRefIdeal.Read Cert.Math

theorem v57_at (x1 : X1) (b : Fin 2) (h : Fin 16) (k : Fin 64) (p : Fin 32) (x : Fin 64) :
    val_main_v57 (F := Ideal) x1 (ix5 b h k p x) = x1 (ix4 b h ⟨32 * k.val + p.val, by omega⟩ x) := by
  unfold val_main_v57
  pointwise
  exact congrArg (fun i => x1 (ix4 b h i x)) (Fin.ext (by show k.val * 32 + p.val = 32 * k.val + p.val; omega))

theorem v96_at (x1 : X1) (b : Fin 2) (h : Fin 16) (k : Fin 32) (p : Fin 64) (x : Fin 64) :
    val_main_v96 (F := Ideal) x1 (ix5 b h k p x) = x1 (ix4 b h ⟨64 * k.val + p.val, by omega⟩ x) := by
  unfold val_main_v96
  pointwise
  exact congrArg (fun i => x1 (ix4 b h i x)) (Fin.ext (by show k.val * 64 + p.val = 64 * k.val + p.val; omega))

theorem v40_at (x2 : X1) (b : Fin 2) (h : Fin 16) (k : Fin 64) (p : Fin 32) (x : Fin 64) :
    val_main_v40 (F := Ideal) x2 (ix5 b h k p x) = x2 (ix4 b h ⟨32 * k.val + p.val, by omega⟩ x) := by
  exact v57_at x2 b h k p x

theorem v97_at (x1 : X1) (b : Fin 2) (h : Fin 16) (k : Fin 32) (p : Fin 64) (x : Fin 64) :
    val_main_v97 (F := Ideal) x1 (ix5 b h k p x) = x1 (ix4 b h ⟨64 * k.val + p.val, by omega⟩ x) := by
  exact v96_at x1 b h k p x

theorem v48_at (x0 : X0) (b : Fin 2) (h : Fin 16) (k : Fin 64) (s : Fin 4) (n : Fin 64) :
    val_main_v48 (F := Ideal) x0 (ix5 b h k s n)
      = FloatOps.uitofp (F := Ideal) .f32 (IntOp.cmpi .eq (Scalar.select (IntOp.cmpi .sge (x0 (ix4 b h k s)) 0#32) (x0 (ix4 b h k s)) 0#32) (BitVec.ofNat 32 n.val)) := by
  unfold val_main_v48 val_main_v47 val_main_v46 val_main_v45 val_main_v44 val_main_v43 val_main_v42 val_main_v39 val_main_call2_v1 val_main_call2_v0 val_main_c_10 val_main_v38 val_main_v37 val_main_c_9
  pointwise
  rfl

theorem onehot_word : ∀ q n : Fin 64,
    IntOp.cmpi .eq (Scalar.select (IntOp.cmpi .sge (BitVec.ofNat 32 q.val) 0#32) (BitVec.ofNat 32 q.val) 0#32) (BitVec.ofNat 32 n.val)
      = if n = q then 1#1 else 0#1 := by decide +kernel

/-- A block index in range selects its own block and no other. -/
theorem v48_sel (x0 : X0) (b : Fin 2) (h : Fin 16) (k : Fin 64) (s : Fin 4) (n q : Fin 64) (hq : x0 (ix4 b h k s) = BitVec.ofNat 32 q.val) :
    val_main_v48 (F := Ideal) x0 (ix5 b h k s n) = if n = q then (1 : EReal) else 0 := by
  rw [v48_at, hq, onehot_word]
  split <;> simp [FloatOps.uitofp]

theorem v50_at (x0 : X0) (x2 : X1) (b : Fin 2) (h : Fin 16) (k : Fin 64) (s : Fin 4) (r : Fin 32) (x : Fin 64) (y : Fin 2048)
    (hy : y.val = 64 * r.val + x.val) :
    val_main_v50 (F := Ideal) x0 x2 (ix5 b h k s y)
      = ∑ n : Fin 64, val_main_v48 (F := Ideal) x0 (ix5 b h k s n) * x2 (ix4 b h ⟨32 * n.val + r.val, by omega⟩ x) := by
  unfold val_main_v50 val_main_v49
  pointwise
  refine Finset.sum_congr rfl fun n _ => congrArg (val_main_v48 (F := Ideal) x0 (ix5 b h k s n) * ·) ?_
  have hx := x.isLt
  have e1 : (⟨n.val * 32 + y.val / 64, by omega⟩ : Fin 2048) = ⟨32 * n.val + r.val, by omega⟩ := Fin.ext (by show n.val * 32 + y.val / 64 = 32 * n.val + r.val; omega)
  have e2 : (⟨y.val % 64, by omega⟩ : Fin 64) = x := Fin.ext (by show y.val % 64 = x.val; omega)
  exact (congrArg (fun i => x2 (ix4 b h i _)) e1).trans (congrArg (fun i => x2 (ix4 b h _ i)) e2)

theorem v51_at (x0 : X0) (x2 : X1) (b : Fin 2) (h : Fin 16) (k : Fin 64) (j : Fin 128) (x : Fin 64) :
    val_main_v51 (F := Ideal) x0 x2 (ix5 b h k j x)
      = val_main_v50 (F := Ideal) x0 x2 (ix5 b h k ⟨j.val / 32, by omega⟩ ⟨64 * (j.val % 32) + x.val, by omega⟩) := by
  unfold val_main_v51
  pointwise
  exact congrArg (fun i => val_main_v50 (F := Ideal) x0 x2 (ix5 b h k _ i)) (Fin.ext (by show j.val % 32 * 64 + x.val = 64 * (j.val % 32) + x.val; omega))

theorem v55_at (x0 : X0) (x2 : X1) (b : Fin 2) (h : Fin 16) (k : Fin 64) (j : Fin 160) (x : Fin 64) :
    val_main_v55 (F := Ideal) x0 x2 (ix5 b h k j x)
      = if hj : j.val < 32 then val_main_v40 (F := Ideal) x2 (ix5 b h k ⟨j.val, hj⟩ x)
        else val_main_v51 (F := Ideal) x0 x2 (ix5 b h k ⟨j.val - 32, by omega⟩ x) := by
  unfold val_main_v55
  generalize val_main_v40 (F := Ideal) x2 = Y
  generalize val_main_v51 (F := Ideal) x0 x2 = Z
  pointwise

/-- The own block's keys. -/
theorem keyS_own (x0 : X0) (x2 : X1) (b : Fin 2) (h : Fin 16) (k : Fin 64) (j : Fin 160) (x : Fin 64) (hj : j.val < 32) :
    val_main_v55 (F := Ideal) x0 x2 (ix5 b h k j x) = x2 (ix4 b h ⟨32 * k.val + j.val, by omega⟩ x) := by
  rw [v55_at, dif_pos hj, v40_at]

/-- A selected block's keys. -/
theorem keyS_sel (x0 : X0) (x2 : X1) (b : Fin 2) (h : Fin 16) (k : Fin 64) (j : Fin 160) (x q : Fin 64) (hj : ¬ j.val < 32)
    (hq : x0 (ix4 b h k ⟨(j.val - 32) / 32, by omega⟩) = BitVec.ofNat 32 q.val) :
    val_main_v55 (F := Ideal) x0 x2 (ix5 b h k j x) = x2 (ix4 b h ⟨32 * q.val + (j.val - 32) % 32, by omega⟩ x) := by
  rw [v55_at, dif_neg hj, v51_at, v50_at x0 x2 b h k _ ⟨(j.val - 32) % 32, by omega⟩ x _ rfl,
    Finset.sum_congr rfl fun n _ => by rw [v48_sel x0 b h k _ n q hq]]
  simp only [ite_mul, one_mul, zero_mul, Finset.sum_ite_eq', Finset.mem_univ, if_true]

theorem v56_eq (x0 : X0) (x3 : X1) : val_main_v56 (F := Ideal) x0 x3 = val_main_v55 (F := Ideal) x0 x3 := by
  rfl

theorem v74_at (x0 : X0) (b : Fin 2) (h : Fin 16) (k : Fin 64) (p : Fin 32) (j : Fin 160) :
    val_main_v74 (F := Ideal) x0 (ix5 b h k p j)
      = if j.val < 32 then IntOp.cmpi .sle (BitVec.ofNat 32 j.val) (BitVec.ofNat 32 p.val)
        else IntOp.cmpi .sge (x0 (ix4 b h k ⟨(j.val - 32) / 32, by omega⟩)) 0#32 := by
  unfold val_main_v74 val_main_v73 val_main_v72 val_main_v71 val_main_v70 val_main_v69 val_main_v68 val_main_v67 val_main_v66 val_main_v65 val_main_v64 val_main_v63 val_main_v62 val_main_v61 val_main_v38 val_main_v37 val_main_c_9
  pointwise
  split <;> rfl

def wword (p : Fin 64) (j : Fin 128) : BitVec 1 :=
  IntOp.andi (IntOp.cmpi .sge (IntOp.addi (IntOp.subi (BitVec.ofNat 32 p.val) (BitVec.ofNat 32 j.val)) 64#32) 0#32)
    (IntOp.cmpi .slt (IntOp.addi (IntOp.subi (BitVec.ofNat 32 p.val) (BitVec.ofNat 32 j.val)) 64#32) 64#32)

theorem wword_eq : ∀ (p : Fin 64) (j : Fin 128), wword p j = BitVec.ofBool (decide (j.val ≤ p.val + 64 ∧ p.val < j.val)) := by decide +kernel
theorem first_eq : ∀ k : Fin 32, IntOp.cmpi .eq (BitVec.ofNat 32 k.val) 0#32 = BitVec.ofBool (decide (k.val = 0)) := by decide +kernel
theorem half_eq : ∀ j : Fin 128, IntOp.cmpi .sge (BitVec.ofNat 32 j.val) 64#32 = BitVec.ofBool (decide (64 ≤ j.val)) := by decide +kernel
theorem andi_bool : ∀ p q : Bool, IntOp.andi (BitVec.ofBool p) (BitVec.ofBool q) = BitVec.ofBool (p && q) := by decide
theorem select_bool : ∀ p q r : Bool, Scalar.select (BitVec.ofBool p) (BitVec.ofBool q) (BitVec.ofBool r) = BitVec.ofBool (if p then q else r) := by decide

/-- Which of the 128 keys of a window and the window before it a query row sees. -/
theorem v137_at (k : Fin 32) (p : Fin 64) (j : Fin 128) :
    val_main_v137 (F := Ideal) (ix3 k p j)
      = BitVec.ofBool (if k.val = 0 then decide (j.val ≤ p.val + 64 ∧ p.val < j.val ∧ 64 ≤ j.val) else decide (j.val ≤ p.val + 64 ∧ p.val < j.val)) := by
  unfold val_main_v137 val_main_call5_v2 val_main_call5_v1 val_main_call5_v0 val_main_v136 val_main_v135 val_main_v134 val_main_v133 val_main_v132 val_main_c_26 val_main_v131 val_main_v130 val_main_v129 val_main_v128 val_main_v127 val_main_c_25 val_main_v126 val_main_v125 val_main_v124 val_main_v123 val_main_c_24 val_main_v122 val_main_v121 val_main_c_23 val_main_v120 val_main_v119 val_main_c_22 val_main_v118 val_main_v117 val_main_v116 val_main_v115 val_main_v114 val_main_v113 val_main_v112
  pointwise
  rw [first_eq, half_eq]
  refine (congrArg (fun z => Scalar.select _ (IntOp.andi z _) z) (wword_eq p j)).trans ?_
  rw [andi_bool, select_bool]
  congr 1
  by_cases h : k.val = 0 <;> simp [h, Bool.and_assoc]

theorem v107_at (x2 : X1) (b : Fin 2) (h : Fin 16) (k : Fin 32) (j : Fin 128) (x : Fin 64) :
    val_main_v107 (F := Ideal) x2 (ix5 b h k j x)
      = if hj : j.val < 64 then if hk : k.val < 1 then 0 else x2 (ix4 b h ⟨64 * (k.val - 1) + j.val, by omega⟩ x)
        else x2 (ix4 b h ⟨64 * k.val + (j.val - 64), by omega⟩ x) := by
  have Y := v97_at x2 b h
  revert Y
  unfold val_main_v107 val_main_v102 val_main_v101 val_main_v100 val_main_cst_19
  generalize val_main_v97 (F := Ideal) x2 = Y
  intro hY
  pointwise
  simp only [hY]

theorem v108_eq (x3 : X1) : val_main_v108 (F := Ideal) x3 = val_main_v107 (F := Ideal) x3 := by
  rfl

theorem v170_at (x0 : X0) (x1 x2 x3 : X1) (x4 x5 : X4) (x6 : X6) (b : Fin 2) (h : Fin 16) (s : Fin 2048) (d : Fin 64) :
    val_main_v170 (F := Ideal) x0 x1 x2 x3 x4 x5 x6 (ix4 b h s d)
      = gated (x6 (ix4 b h s 0)) (x6 (ix4 b h s 1)) (x6 (ix4 b h s 2)) (val_main_v36 (F := Ideal) x1 x4 x5 (ix4 b h s d))
          (val_main_v95 (F := Ideal) x0 x1 x2 x3 (ix4 b h s d)) (val_main_v159 (F := Ideal) x1 x2 x3 (ix4 b h s d)) := by
  unfold val_main_v170 val_main_v169 val_main_v168 val_main_v167 val_main_v166 val_main_v165 val_main_v164 val_main_v163 val_main_v162 val_main_v161 val_main_v160
  generalize val_main_v36 (F := Ideal) x1 x4 x5 = A
  generalize val_main_v95 (F := Ideal) x0 x1 x2 x3 = B
  generalize val_main_v159 (F := Ideal) x1 x2 x3 = C
  pointwise
  rfl

theorem v95_at (x0 : X0) (x1 x2 x3 : X1) (b : Fin 2) (h : Fin 16) (s : Fin 2048) (d : Fin 64) :
    val_main_v95 (F := Ideal) x0 x1 x2 x3 (ix4 b h s d)
      = val_main_v94 (F := Ideal) x0 x1 x2 x3 (ix5 b h ⟨s.val / 32, by omega⟩ ⟨s.val % 32, by omega⟩ d) := by
  unfold val_main_v95
  generalize val_main_v94 (F := Ideal) x0 x1 x2 x3 = A
  pointwise

theorem v159_at (x1 x2 x3 : X1) (b : Fin 2) (h : Fin 16) (s : Fin 2048) (d : Fin 64) :
    val_main_v159 (F := Ideal) x1 x2 x3 (ix4 b h s d)
      = val_main_v158 (F := Ideal) x1 x2 x3 (ix5 b h ⟨s.val / 64, by omega⟩ ⟨s.val % 64, by omega⟩ d) := by
  unfold val_main_v159
  generalize val_main_v158 (F := Ideal) x1 x2 x3 = A
  pointwise

end Cert.AttnRefIdeal.Value

end
-- ==== Proof.Value.Eq.lean ====
/- The reference's attention and the kernel's, row by row. -/
module

public import proofs.«01_k».proof.Proof.Value.Array
public import proofs.«01_k».proof.Proof.Value.RefA
public import proofs.«01_k».proof.Proof.Value.RefB
public import proofs.«01_k».proof.Proof.Value.RefC
public import proofs.«01_k».proof.Proof.Value.RefD
public import proofs.«01_k».proof.Proof.Value.Words

@[expose] public section

set_option maxRecDepth 16384

noncomputable section

namespace Cert.AttnRefIdeal.Value

open Idealize.ShloMosaic Idealize.ShloMosaic.TcCoe Cert.AttnRefIdeal.Gen Cert.AttnRefIdeal Cert.AttnRefIdeal.Read Cert.Math
open Cert.AttnIdeal.Value (cmk smk wmk pick5 pick5_eq sel5 rowAt wstart wbase headRow spec)

theorem cend_eq : ∀ n : Fin 64, IntOp.subi (IntOp.muli (IntOp.addi (BitVec.ofNat 32 n.val) 1#32) 32#32) 1#32
    = IntOp.addi (IntOp.muli (BitVec.ofNat 32 n.val) 32#32) 31#32 := by decide +kernel

theorem maskC_eq (s : Fin 2048) (n : Fin 64) : val_main_v15 (F := Ideal) (ix2 s n) = cmk s n := by
  rw [maskC, cend_eq]
  exact Cert.AttnIdeal.Value.cmk_eq s n

theorem rowAt_eq (n : ℕ) (h : n < 2048) : rowAt n = ⟨n, h⟩ := Fin.ext (Nat.mod_eq_of_lt h)

theorem sel5_succ (w : Fin 4 → BitVec 32) (k : ℕ) (X : Fin 2048 → Fin 64 → EReal) (x : Fin 64) (r : Fin 32) :
    ∀ t : Fin 4, sel5 w k X x t.succ r = X (rowAt (wstart (w t) + r.val)) x
  | 0 => rfl
  | 1 => rfl
  | 2 => rfl
  | 3 => rfl

theorem wstart_eq : ∀ q : Fin 64, wstart (BitVec.ofNat 32 q.val) = 32 * q.val := by decide +kernel

/-- The mask of the own and the selected blocks' keys. -/
theorem maskS (x0 : X0) (b : Fin 2) (h : Fin 16) (k : Fin 64) (p : Fin 32) (j : Fin 160) :
    val_main_v74 (F := Ideal) x0 (ix5 b h k p j) = smk (fun i => x0 (ix4 b h k i)) p j := by
  rw [v74_at]
  unfold smk
  split
  · exact Cert.AttnIdeal.Value.cmp_sle_row p j
  · rename_i h0
    have hj := j.isLt
    have at' : ∀ t : Fin 4, (j.val - 32) / 32 = t.val →
        IntOp.cmpi .sge (x0 (ix4 b h k ⟨(j.val - 32) / 32, by omega⟩)) 0#32 = Scalar.cmpi .sge (x0 (ix4 b h k t)) 0#32 := by
      intro t ht
      rw [show (⟨(j.val - 32) / 32, by omega⟩ : Fin 4) = t from Fin.ext ht]
      rfl
    split
    · exact at' 0 (by show _ = 0; omega)
    split
    · exact at' 1 (by show _ = 1; omega)
    split
    · exact at' 2 (by show _ = 2; omega)
    · exact at' 3 (by show _ = 3; omega)

/-- Under the mask the gathered keys are the blocks the index words name. -/
theorem keyS (x0 : X0) (x2 : X1) (b : Fin 2) (h : Fin 16) (k : Fin 64) (p : Fin 32) (j : Fin 160) (x : Fin 64)
    (hw : ∀ i, Words.Ok (x0 i)) (hm : val_main_v74 (F := Ideal) x0 (ix5 b h k p j) = 1) :
    val_main_v55 (F := Ideal) x0 x2 (ix5 b h k j x)
      = pick5 (sel5 (fun i => x0 (ix4 b h k i)) k.val (fun s x => x2 (ix4 b h s x)) x) j := by
  have hjl := j.isLt
  have hkl := k.isLt
  by_cases hj : j.val < 32
  · rw [keyS_own x0 x2 b h k j x hj, pick5_eq _ j 0 ⟨j.val, hj⟩ (by show j.val = 32 * 0 + j.val; omega)]
    show _ = x2 (ix4 b h (rowAt (32 * k.val + j.val)) x)
    rw [rowAt_eq _ (by omega)]
  · rw [v74_at, if_neg hj] at hm
    rcases hw (ix4 b h k ⟨(j.val - 32) / 32, by omega⟩) with ⟨q, hq⟩ | hq
    · have hql := q.isLt
      rw [keyS_sel x0 x2 b h k j x q hj hq, pick5_eq _ j (⟨(j.val - 32) / 32, by omega⟩ : Fin 4).succ ⟨(j.val - 32) % 32, by omega⟩
        (by show j.val = 32 * ((j.val - 32) / 32 + 1) + (j.val - 32) % 32; omega), sel5_succ, hq, wstart_eq]
      show _ = x2 (ix4 b h (rowAt (32 * q.val + (j.val - 32) % 32)) x)
      rw [rowAt_eq _ (by omega)]
    · rw [hq] at hm
      exact absurd hm (by decide)

/-- The selected branch. -/
theorem outS_eq (x0 : X0) (x1 x2 x3 : X1) (b : Fin 2) (h : Fin 16) (k : Fin 64) (p : Fin 32) (d : Fin 64) (hw : ∀ i, Words.Ok (x0 i)) :
    val_main_v94 (F := Ideal) x0 x1 x2 x3 (ix5 b h k p d)
      = att (smk (fun i => x0 (ix4 b h k i)) p) (fun x => x1 (ix4 b h (rowAt (32 * k.val + p.val)) x))
          (fun j x => pick5 (sel5 (fun i => x0 (ix4 b h k i)) k.val (fun s x => x2 (ix4 b h s x)) x) j)
          (fun j x => pick5 (sel5 (fun i => x0 (ix4 b h k i)) k.val (fun s x => x3 (ix4 b h s x)) x) j) d := by
  rw [outS, v56_eq]
  refine att_equiv (Equiv.refl _) _ _ _ _ _ _ _ _ d (funext fun x => ?_) (fun j => maskS x0 b h k p j) (fun j hm x => keyS x0 x2 b h k p j x hw hm)
    (fun j hm => keyS x0 x3 b h k p j d hw hm)
  rw [v57_at, rowAt_eq _ (by omega)]

/-- The keys of the window branch, in the order the kernel lists them. -/
def order (k : Fin 32) : Fin 128 ≃ Fin 128 := if k.val = 0 then Equiv.addRight 64 else Equiv.refl _

theorem order_val (k : Fin 32) (j : Fin 128) : (order k j).val = if k.val = 0 then (j.val + 64) % 128 else j.val := by
  unfold order
  split
  · exact Fin.val_add j 64
  · rfl

/-- The mask of the window's keys. -/
theorem maskW (k : Fin 64) (p : Fin 32) (w : Fin 32) (i : Fin 64) (hw : w.val = k.val / 2) (hi : i.val = 32 * (k.val % 2) + p.val) (j : Fin 128) :
    val_main_v137 (F := Ideal) (ix3 w i j) = wmk k p (order w j) := by
  rw [v137_at]
  unfold wmk wbase
  rw [order_val]
  congr 1
  have hj := j.isLt
  have hk := k.isLt
  have hp := p.isLt
  by_cases h0 : w.val = 0
  · rw [if_pos h0, if_pos h0]
    refine decide_eq_decide.mpr ?_
    omega
  · rw [if_neg h0, if_neg h0]
    refine decide_eq_decide.mpr ?_
    omega

/-- Under the mask the window's keys are the rows the kernel loads. -/
theorem keyW (x2 : X1) (b : Fin 2) (h : Fin 16) (k : Fin 64) (w : Fin 32) (i : Fin 64) (hw : w.val = k.val / 2) (j : Fin 128) (x : Fin 64)
    (hm : val_main_v137 (F := Ideal) (ix3 w i j) = 1) :
    val_main_v107 (F := Ideal) x2 (ix5 b h w j x) = x2 (ix4 b h (rowAt (wbase k.val + (order w j).val)) x) := by
  have hj := j.isLt
  have hk := k.isLt
  have hwl := w.isLt
  rw [v107_at, order_val]
  unfold wbase
  by_cases h0 : w.val = 0
  · have h64 : ¬ j.val < 64 := by
      intro hlt
      rw [v137_at, if_pos h0] at hm
      have : decide (j.val ≤ i.val + 64 ∧ i.val < j.val ∧ 64 ≤ j.val) = false := decide_eq_false (by omega)
      rw [this] at hm
      exact absurd hm (by decide)
    rw [dif_neg h64, if_pos h0, rowAt_eq _ (by omega)]
    exact congrArg (fun s => x2 (ix4 b h s x)) (Fin.ext (by show 64 * w.val + (j.val - 64) = k.val / 2 * 64 - 64 + (j.val + 64) % 128; omega))
  · rw [if_neg h0, rowAt_eq _ (by omega)]
    split
    · rw [dif_neg (by omega)]
      exact congrArg (fun s => x2 (ix4 b h s x)) (Fin.ext (by show 64 * (w.val - 1) + j.val = k.val / 2 * 64 - 64 + j.val; omega))
    · exact congrArg (fun s => x2 (ix4 b h s x)) (Fin.ext (by show 64 * w.val + (j.val - 64) = k.val / 2 * 64 - 64 + j.val; omega))

/-- The window branch. -/
theorem outW_eq (x1 x2 x3 : X1) (b : Fin 2) (h : Fin 16) (k : Fin 64) (p : Fin 32) (w : Fin 32) (i d : Fin 64) (hw : w.val = k.val / 2)
    (hi : i.val = 32 * (k.val % 2) + p.val) :
    val_main_v158 (F := Ideal) x1 x2 x3 (ix5 b h w i d)
      = att (wmk k p) (fun x => x1 (ix4 b h (rowAt (32 * k.val + p.val)) x))
          (fun j x => x2 (ix4 b h (rowAt (wbase k.val + j.val)) x)) (fun j x => x3 (ix4 b h (rowAt (wbase k.val + j.val)) x)) d := by
  rw [outW, v108_eq]
  refine att_equiv (order w) _ _ _ _ _ _ _ _ d (funext fun x => ?_) (fun j => maskW k p w i hw hi j) (fun j hm x => keyW x2 b h k w i hw j x hm)
    (fun j hm => keyW x3 b h k w i hw j d hm)
  rw [v96_at, rowAt_eq _ (by omega)]
  exact congrArg (fun s => x1 (ix4 b h s x)) (Fin.ext (by show 64 * w.val + i.val = 32 * k.val + p.val; omega))

/-- The reference's result at an index is the kernel's row there. -/
theorem ref_eq (x0 : X0) (x1 x2 x3 : X1) (x4 x5 : X4) (x6 : X6) (hw : ∀ i, Words.Ok (x0 i)) (b : Fin 2) (h : Fin 16) (s : Fin 2048) (d : Fin 64) :
    val_main_v170 (F := Ideal) x0 x1 x2 x3 x4 x5 x6 (ix4 b h s d) = spec x0 x1 x2 x3 x4 x5 x6 b h s d := by
  have hs := s.isLt
  have hr : rowAt (32 * (s.val / 32) + s.val % 32) = s := (rowAt_eq _ (by omega)).trans (Fin.ext (by show 32 * (s.val / 32) + s.val % 32 = s.val; omega))
  rw [v170_at, outC, v95_at, outS_eq _ _ _ _ _ _ _ _ _ hw, v159_at,
    outW_eq x1 x2 x3 b h ⟨s.val / 32, by omega⟩ ⟨s.val % 32, by omega⟩ _ _ d (by show s.val / 64 = s.val / 32 / 2; omega)
      (by show s.val % 64 = 32 * (s.val / 32 % 2) + s.val % 32; omega),
    funext fun n => maskC_eq s n]
  unfold spec headRow
  simp only [hr]

end Cert.AttnRefIdeal.Value

end
-- ==== Proof.Value.Main.lean ====
/- The attention call and its reference end with the same array. -/
module

public import proofs.«01_k».proof.Defs
public import proofs.«01_k».proof.Proof.Value.Eq
public import proofs.«01_k».proof.Proof.Value.AttnHyps
public import proofs.«01_k».proof.Proof.Gen.AttnRefIdeal.Run

@[expose] public section

set_option maxRecDepth 16384

noncomputable section

namespace Cert.AttnRefIdeal.Value

open Idealize.ShloMosaic Idealize.ShloMosaic.TcCoe Cert.AttnRefIdeal.Gen Cert.AttnRefIdeal Cert.AttnRefIdeal.Read
open Cert.AttnIdeal.Value (spec)

/-- The reference's result array. -/
theorem ref_array (x0 : X0) (x1 x2 x3 : X1) (x4 x5 : X4) (x6 : X6) (hw : ∀ i, Words.Ok (x0 i)) :
    val_main_v170 (F := Ideal) x0 x1 x2 x3 x4 x5 x6 = fun y : S2x16x2048x64.Idx => spec x0 x1 x2 x3 x4 x5 x6 (y 0) (y 1) (y 2) (y 3) := by
  funext y
  have hy : y = ix4 (y 0) (y 1) (y 2) (y 3) := funext fun a => by
    match a with
    | ⟨0, _⟩ => rfl
    | ⟨1, _⟩ => rfl
    | ⟨2, _⟩ => rfl
    | ⟨3, _⟩ => rfl
  exact (congrArg (val_main_v170 (F := Ideal) x0 x1 x2 x3 x4 x5 x6) hy).trans (ref_eq x0 x1 x2 x3 x4 x5 x6 hw (y 0) (y 1) (y 2) (y 3))

/-- From equal arguments the attention call and its reference end with equal results. -/
theorem algebraic : Cert.algebraic_AttnIdeal_AttnRefIdeal := by
  intro m g m' g' hpre hag
  have hH := Cert.AttnIdeal.Value.hyps_of_pre m hpre
  refine ⟨fun c => (fun y : S2x16x2048x64.Idx => spec (m ((c : Thread Cert.AttnIdeal.nD Cert.AttnIdeal.τ).loc Cert.AttnIdeal.main_arg0))
      (m ((c : Thread Cert.AttnIdeal.nD Cert.AttnIdeal.τ).loc Cert.AttnIdeal.main_arg1))
      (m ((c : Thread Cert.AttnIdeal.nD Cert.AttnIdeal.τ).loc Cert.AttnIdeal.main_arg2))
      (m ((c : Thread Cert.AttnIdeal.nD Cert.AttnIdeal.τ).loc Cert.AttnIdeal.main_arg3))
      (m ((c : Thread Cert.AttnIdeal.nD Cert.AttnIdeal.τ).loc Cert.AttnIdeal.main_arg4))
      (m ((c : Thread Cert.AttnIdeal.nD Cert.AttnIdeal.τ).loc Cert.AttnIdeal.main_arg5))
      (m ((c : Thread Cert.AttnIdeal.nD Cert.AttnIdeal.τ).loc Cert.AttnIdeal.main_arg6)) (y 0) (y 1) (y 2) (y 3)), ?_, ?_⟩
  · exact (θ_run _ _ _).mono (fun r h c => ⟨(h c).1.trans (Cert.AttnIdeal.Value.final m hH c), (h c).2⟩) (Cert.AttnIdeal.Value.run_blocks m g hH)
  · refine (θ_run _ _ _).mono (fun r h c => ⟨(h c).1.trans ((val_main_v170_eq (StableHlo.launchContents m' c)).trans ?_), (h c).2⟩) (Cert.AttnRefIdeal.Value.run m' g')
    obtain ⟨e0, e1, e2, e3, e4, e5, e6⟩ := hag c
    have key : val_main_v170 (F := Ideal) (m' ((c : Thread nD τ).loc main_arg0)) (m' ((c : Thread nD τ).loc main_arg1)) (m' ((c : Thread nD τ).loc main_arg2)) (m' ((c : Thread nD τ).loc main_arg3)) (m' ((c : Thread nD τ).loc main_arg4)) (m' ((c : Thread nD τ).loc main_arg5)) (m' ((c : Thread nD τ).loc main_arg6)) = _ := ref_array _ _ _ _ _ _ _ (fun i => by
      rw [e0]
      exact Cert.AttnIdeal.Value.words_of_pre m hpre c i)
    refine Eq.trans (show _ = val_main_v170 (F := Ideal) (m' ((c : Thread nD τ).loc main_arg0)) (m' ((c : Thread nD τ).loc main_arg1)) (m' ((c : Thread nD τ).loc main_arg2)) (m' ((c : Thread nD τ).loc main_arg3)) (m' ((c : Thread nD τ).loc main_arg4)) (m' ((c : Thread nD τ).loc main_arg5)) (m' ((c : Thread nD τ).loc main_arg6)) from rfl) (key.trans ?_)
    rw [e0, e1, e2, e3, e4, e5, e6]

end Cert.AttnRefIdeal.Value

end
-- ==== Proof.OutProd.Value.lean ====
/- The output product: what the call leaves, what its reference computes, and that they agree. -/
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Pointwise
public import Idealize.ShloMosaic.Lib.Tactic
public import Idealize.ShloMosaic.Lib.Pipeline.ValueKit

@[expose] public section

set_option maxRecDepth 16384

noncomputable section

namespace Cert.OutIdeal.Value

open Idealize.ShloMosaic Idealize.ShloMosaic.TcCoe Cert.OutIdeal.Gen Cert.OutIdeal
open Idealize.ShloMosaic.Pipeline (Dat)

/-- One entry of a block of the product. -/
theorem pay_apply (a : Vec Ideal S256x1024 .f32) (w : Vec Ideal S1024x1024 .f32) (p : Fin 256) (d : Fin 1024) :
    k0_pay1 (F := Ideal) a w (ix2 p d) = ∑ x : Fin 1024, a (ix2 p x) * w (ix2 x d) := by
  unfold k0_pay1
  pointwise

/-- Row `r`, column `d` of the product of the joined heads with the weights. -/
def spec (o : S2x16x2048x64.Idx → EReal) (w : S1024x1024.Idx → EReal) (r : Fin 4096) (d : Fin 1024) : EReal :=
  ∑ x : Fin 1024, o (ix4 ⟨r.val / 2048, by omega⟩ ⟨x.val / 64, by omega⟩ ⟨r.val % 2048, by omega⟩ ⟨x.val % 64, by omega⟩) * w (ix2 x d)

theorem spec_congr {o : S2x16x2048x64.Idx → EReal} {w : S1024x1024.Idx → EReal} {r : Fin 4096} {d : Fin 1024} (A B : Fin 1024 → EReal)
    (hA : ∀ x : Fin 1024, A x = o (ix4 ⟨r.val / 2048, by omega⟩ ⟨x.val / 64, by omega⟩ ⟨r.val % 2048, by omega⟩ ⟨x.val % 64, by omega⟩))
    (hB : ∀ x : Fin 1024, B x = w (ix2 x d)) : ∑ x : Fin 1024, A x * B x = spec o w r d := by
  unfold spec
  exact Finset.sum_congr rfl fun x _ => by rw [hA, hB]

variable (m : (ℓ : Loc nD τ sig) → Buf (Elt Ideal) ℓ)

/-- The joined heads, as the region finds them. -/
theorem V_joined (c : Dev nD) :
    V m c main_v1 = shapeCast _ (transpose S2x2048x16x64 [0, 2, 1, 3] (m ((c : Thread nD τ).loc main_arg0)) transposes_S2x16x2048x64_S2x2048x16x64_0_2_1_3) shapeCasts_S2x2048x16x64_S4096x1024 := by
  show StableHlo.after hostOps0 (fun b => m (c, b)) (Proc.devRef .tc main_v1) = _
  unfold hostOps0
  after_results
  rfl

theorem joined_apply (o : FVec Ideal S2x16x2048x64 .f32) (r : Fin 4096) (x : Fin 1024) :
    (shapeCast S4096x1024 (transpose S2x2048x16x64 [0, 2, 1, 3] o transposes_S2x16x2048x64_S2x2048x16x64_0_2_1_3) shapeCasts_S2x2048x16x64_S4096x1024 : FVec Ideal S4096x1024 .f32) (ix2 r x)
      = o (ix4 ⟨r.val / 2048, by omega⟩ ⟨x.val / 64, by omega⟩ ⟨r.val % 2048, by omega⟩ ⟨x.val % 64, by omega⟩) := by
  rw [shapeCast_apply (t := S4096x1024) _ shapeCasts_S2x2048x16x64_S4096x1024 (ix2 r x)
    (ix4 ⟨r.val / 2048, by omega⟩ ⟨r.val % 2048, by omega⟩ ⟨x.val / 64, by omega⟩ ⟨x.val % 64, by omega⟩)
    (by rewrite [Shape.rowMajor_val_four, Shape.rowMajor_val_two]
        show (((r.val / 2048) * 2048 + r.val % 2048) * 16 + x.val / 64) * 64 + x.val % 64 = r.val * 1024 + x.val
        omega)]
  pointwise

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] :=
  (by decide +kernel : ∀ t : Fin grid0.N, win0_1.index t = ![0, 0])
theorem index2 : ∀ t : Fin cfg0.N, win0_2.index t = ![(grid0.coords t 0).val, 0] :=
  (by decide +kernel : ∀ t : Fin grid0.N, win0_2.index t = ![(grid0.coords t 0).val, 0])

theorem read0 (t : Fin cfg0.N) (y : ((cfg0.win 2).xblock (cfg0.grid.coords t)).Idx) (x : Fin 1024) :
    ((cfg0.win 0).blk t).view.emb (ix2 (y 0) x) = ix2 ((win0_2.blk t).view.emb y 0) x := by
  blk_ext! [index0 t, index2 t]
theorem read1 (t : Fin cfg0.N) (y : ((cfg0.win 2).xblock (cfg0.grid.coords t)).Idx) (x : Fin 1024) :
    ((cfg0.win 1).blk t).view.emb (ix2 x (y 1)) = ix2 x ((win0_2.blk t).view.emb y 1) := by
  blk_ext! [index1 t, index2 t]

theorem out_apply (a : Vec Ideal S256x1024 .f32) (w : Vec Ideal S1024x1024 .f32) (y : S256x1024.Idx) :
    out0_2 (F := Ideal) a w y = ∑ x : Fin 1024, a (ix2 (y 0) x) * w (ix2 x (y 1)) := by
  have hy : y = ix2 (y 0) (y 1) := funext fun a => by
    match a with
    | ⟨0, _⟩ => rfl
    | ⟨1, _⟩ => rfl
  have e : out0_2 (F := Ideal) a w = k0_pay1 (F := Ideal) a w := by
    unfold out0_2
    rw [View.canon_cons_unit_lit, View.ld_unit_lit, View.ld_unit_lit] <;> decide
  rw [e, hy]
  exact pay_apply a w (y 0) (y 1)

/-- The array the call leaves is `spec` of its arguments. -/
theorem final (c : Dev nD) :
    (dats m 0 c).arrAt 2 cfg0.N = fun y : S4096x1024.Idx => spec (m ((c : Thread nD τ).loc main_arg0)) (m ((c : Thread nD τ).loc main_arg1)) (y 0) (y 1) := by
  refine (dats m 0 c).arrAt_eq_of_covers 2 _ (by decide +kernel) fun t hf y => ?_
  blk_simp
  rw [after0_2, out_apply]
  refine spec_congr _ _ (fun x => ?_) (fun x => ?_)
  · refine (congrArg (V m c main_v1) (read0 t y x)).trans ?_
    rw [V_joined]
    exact joined_apply _ _ _
  · refine (congrArg (V m c main_arg1) (read1 t y x)).trans ?_
    rw [V_main_arg1]
    rfl

end Cert.OutIdeal.Value

namespace Cert.OutRefIdeal.Value

open Idealize.ShloMosaic Idealize.ShloMosaic.TcCoe Cert.OutRefIdeal.Gen Cert.OutRefIdeal Cert.OutRefIdeal.Read
open Cert.OutIdeal.Value (spec)

/-- The reference's result array. -/
theorem ref_array (x0 : (⟨S2x16x2048x64, .f32⟩ : BufTy).Contents (Elt Ideal)) (x1 : (⟨S1024x1024, .f32⟩ : BufTy).Contents (Elt Ideal)) :
    val_main_v3 (F := Ideal) x0 x1 = fun y : S4096x1024.Idx => spec x0 x1 (y 0) (y 1) := by
  funext y
  have h0 : (y 0).val < 4096 := (y 0).isLt
  have h1 : (y 1).val < 1024 := (y 1).isLt
  rw [val_main_v3_apply, val_main_v2_apply]
  unfold spec
  refine Finset.sum_congr rfl fun x _ => congr (congrArg HMul.hMul ?_) ?_
  · have hx : x.val < 1024 := x.isLt
    rw [val_main_v1_apply, val_main_v0_apply]
    refine congrArg x0 (funext fun a => Fin.ext ?_)
    match a with
    | ⟨0, _⟩ =>
      show ((((y 0).val * 1024 + (y 1).val) / 2097152 * 2048 + ((y 0).val * 1024 + (y 1).val) / 1024 % 2048) * 1024 + x.val) / 2097152 = (y 0).val / 2048
      omega
    | ⟨1, _⟩ =>
      show ((((y 0).val * 1024 + (y 1).val) / 2097152 * 2048 + ((y 0).val * 1024 + (y 1).val) / 1024 % 2048) * 1024 + x.val) / 64 % 16 = x.val / 64
      omega
    | ⟨2, _⟩ =>
      show ((((y 0).val * 1024 + (y 1).val) / 2097152 * 2048 + ((y 0).val * 1024 + (y 1).val) / 1024 % 2048) * 1024 + x.val) / 1024 % 2048 = (y 0).val % 2048
      omega
    | ⟨3, _⟩ =>
      show ((((y 0).val * 1024 + (y 1).val) / 2097152 * 2048 + ((y 0).val * 1024 + (y 1).val) / 1024 % 2048) * 1024 + x.val) % 64 = x.val % 64
      omega
  · refine congrArg x1 (funext fun a => Fin.ext ?_)
    match a with
    | ⟨0, _⟩ => rfl
    | ⟨1, _⟩ => exact (show ((y 0).val * 1024 + (y 1).val) % 1024 = (y 1).val by omega)

/-- From equal arguments the output product and its reference end with equal results. -/
theorem algebraic : Cert.algebraic_OutIdeal_OutRefIdeal := by
  intro m g m' g' hpre hag
  refine ⟨fun c => (fun y : S4096x1024.Idx => spec (m ((c : Thread Cert.OutIdeal.nD Cert.OutIdeal.τ).loc Cert.OutIdeal.main_arg0))
      (m ((c : Thread Cert.OutIdeal.nD Cert.OutIdeal.τ).loc Cert.OutIdeal.main_arg1)) (y 0) (y 1)), ?_, ?_⟩
  · exact (θ_run _ _ _).mono (fun r h c => ⟨(h c).1.trans (Cert.OutIdeal.Value.final m c), (h c).2⟩) (Cert.OutIdeal.Value.run_blocks m g)
  · refine (θ_run _ _ _).mono (fun r h c => ⟨(h c).1.trans ((val_main_v3_eq _ _).trans ?_), (h c).2⟩) (Cert.OutRefIdeal.Value.run m' g')
    obtain ⟨e0, e1⟩ := hag c
    refine (ref_array (m' ((c : Thread nD τ).loc main_arg0)) (m' ((c : Thread nD τ).loc main_arg1))).trans ?_
    rw [e0, e1]

end Cert.OutRefIdeal.Value

end
-- ==== Proof.Projections.Pay.lean ====
/- The projection call: the entries of its payloads, and the arrays its host code prepares. -/
module

public import proofs.«01_k».proof.Proof.Gen.ProjIdeal.Value
public import Idealize.ShloMosaic.Lib.Pointwise
public import Idealize.ShloMosaic.Lib.Tactic
public import Idealize.ShloMosaic.Lib.Pipeline.ValueKit

@[expose] public section

set_option maxRecDepth 16384

noncomputable section

namespace Cert.ProjIdeal.Value

open Idealize.ShloMosaic Idealize.ShloMosaic.TcCoe Cert.ProjIdeal.Gen Cert.ProjIdeal

/-! ## What is computed -/

/-- Row `r` of the activations with the projected positions and the bias added. -/
def hid (x : S2x2048x1024.Idx → EReal) (pos : S2x2048x3.Idx → EReal) (Wp : S3x1024.Idx → EReal) (bp : S1024.Idx → EReal)
    (r : Fin 4096) (d : Fin 1024) : EReal :=
  (x (ix3 ⟨r.val / 2048, by omega⟩ ⟨r.val % 2048, by omega⟩ d)
    + ∑ j : Fin 3, pos (ix3 ⟨r.val / 2048, by omega⟩ ⟨r.val % 2048, by omega⟩ j) * Wp (ix2 j d)) + bp (ix1 d)

/-- A linear map of the hidden rows. -/
def lin (H : Fin 4096 → Fin 1024 → EReal) (W : S1024x1024.Idx → EReal) (r : Fin 4096) (d : Fin 1024) : EReal :=
  ∑ k : Fin 1024, H r k * W (ix2 k d)

/-- The gates of the hidden rows. -/
def gate (H : Fin 4096 → Fin 1024 → EReal) (W : S1024x48.Idx → EReal) (r : Fin 4096) (d : Fin 48) : EReal :=
  Ideal.logistic (∑ k : Fin 1024, H r k * W (ix2 k d))

/-- A block of 32 rows of the linear map, weighted and summed. -/
def pool (H : Fin 4096 → Fin 1024 → EReal) (W : S1024x1024.Idx → EReal) (p : S32.Idx → EReal) (j : Fin 128) (d : Fin 1024) : EReal :=
  ∑ k : Fin 32, lin H W ⟨j.val * 32 + k.val, by omega⟩ d * p (ix1 k)

/-! ## The payloads -/

theorem pay3_apply (v0 : Vec Ideal S256x1024 .f32) (v2 : Vec Ideal S256x3 .f32) (v4 : Vec Ideal S3x1024 .f32) (v7 : Vec Ideal S1x1024 .f32)
    (p : Fin 256) (d : Fin 1024) :
    k0_pay3 (F := Ideal) v0 v2 v4 v7 (ix2 p d) = (v0 (ix2 p d) + ∑ j : Fin 3, v2 (ix2 p j) * v4 (ix2 j d)) + v7 (ix2 0 d) := by
  unfold k0_pay3
  pointwise
theorem pay4_apply (v0 : Vec Ideal S256x1024 .f32) (v2 : Vec Ideal S256x3 .f32) (v4 : Vec Ideal S3x1024 .f32) (v7 : Vec Ideal S1x1024 .f32)
    (w : Vec Ideal S1024x1024 .f32) (p : Fin 256) (d : Fin 1024) :
    k0_pay4 (F := Ideal) v0 v2 v4 v7 w (ix2 p d) = ∑ k : Fin 1024, k0_pay3 (F := Ideal) v0 v2 v4 v7 (ix2 p k) * w (ix2 k d) := by
  unfold k0_pay4
  generalize k0_pay3 (F := Ideal) v0 v2 v4 v7 = h
  pointwise
theorem pay5_apply (v0 : Vec Ideal S256x1024 .f32) (v2 : Vec Ideal S256x3 .f32) (v4 : Vec Ideal S3x1024 .f32) (v7 : Vec Ideal S1x1024 .f32)
    (w : Vec Ideal S1024x1024 .f32) (p : Fin 256) (d : Fin 1024) :
    k0_pay5 (F := Ideal) v0 v2 v4 v7 w (ix2 p d) = ∑ k : Fin 1024, k0_pay3 (F := Ideal) v0 v2 v4 v7 (ix2 p k) * w (ix2 k d) := by
  unfold k0_pay5
  generalize k0_pay3 (F := Ideal) v0 v2 v4 v7 = h
  pointwise
theorem pay6_apply (v0 : Vec Ideal S256x1024 .f32) (v2 : Vec Ideal S256x3 .f32) (v4 : Vec Ideal S3x1024 .f32) (v7 : Vec Ideal S1x1024 .f32)
    (w : Vec Ideal S1024x1024 .f32) (p : Fin 256) (d : Fin 1024) :
    k0_pay6 (F := Ideal) v0 v2 v4 v7 w (ix2 p d) = ∑ k : Fin 1024, k0_pay3 (F := Ideal) v0 v2 v4 v7 (ix2 p k) * w (ix2 k d) := by
  unfold k0_pay6
  generalize k0_pay3 (F := Ideal) v0 v2 v4 v7 = h
  pointwise
theorem pay7_apply (v0 : Vec Ideal S256x1024 .f32) (v2 : Vec Ideal S256x3 .f32) (v4 : Vec Ideal S3x1024 .f32) (v7 : Vec Ideal S1x1024 .f32)
    (w : Vec Ideal S1024x48 .f32) (p : Fin 256) (d : Fin 48) :
    k0_pay7 (F := Ideal) v0 v2 v4 v7 w (ix2 p d) = Ideal.logistic (∑ k : Fin 1024, k0_pay3 (F := Ideal) v0 v2 v4 v7 (ix2 p k) * w (ix2 k d)) := by
  unfold k0_pay7
  generalize k0_pay3 (F := Ideal) v0 v2 v4 v7 = h
  pointwise
theorem pay1_apply (a : FVec Ideal S256x1024 .f32) (P : Vec Ideal S8x256 .f32) (i : Fin 8) (d : Fin 1024) :
    k0_pay1 (F := Ideal) a P (ix2 i d) = ∑ r : Fin 256, P (ix2 i r) * a (ix2 r d) := by
  unfold k0_pay1
  pointwise
theorem pay2_apply (a : FVec Ideal S256x1024 .f32) (P : Vec Ideal S8x256 .f32) (i : Fin 8) (d : Fin 1024) :
    k0_pay2 (F := Ideal) a P (ix2 i d) = ∑ r : Fin 256, P (ix2 i r) * a (ix2 r d) := by
  unfold k0_pay2
  pointwise

/-! ## The prepared arrays -/

/-- The identity matrix of the host code, as zeros and ones. -/
def eye : FVec Ideal S8x8 .f32 :=
  uitofp .f32 (cmpi .eq (addi (iotaInDim S8x8 32 0) (broadcastInDim S8x8 ![] bcast_S_S8x8 (constantI S_ 32 0#32))) (iotaInDim S8x8 32 1))

/-- The block-diagonal weights of the host code. -/
def diag (p : FVec Ideal S32 .f32) : FVec Ideal S8x256 .f32 :=
  shapeCast S8x256 (mulf (broadcastInDim S8x1x8x32 ![0, 1, 2, 3] bcast_S8x1x8x1_S8x1x8x32_0_1_2_3 (broadcastInDim S8x1x8x1 ![0, 2] bcast_S8x8_S8x1x8x1_0_2 eye))
    (broadcastInDim S8x1x8x32 ![0, 1, 2, 3] bcast_S1x1x1x32_S8x1x8x32_0_1_2_3 (broadcastInDim S1x1x1x32 ![1, 3] bcast_S1x32_S1x1x1x32_1_3 (broadcastInDim S1x32 ![1] bcast_S32_S1x32_1 p)))) shapeCasts_S8x1x8x32_S8x256

theorem eye_apply (a b : Fin 8) : eye (ix2 a b) = if a = b then 1 else 0 := by
  unfold eye
  pointwise
  have key : ∀ a b : Fin 8, IntOp.cmpi CmpIPredicate.eq (IntOp.addi (BitVec.ofNat 32 a.val) 0#32) (BitVec.ofNat 32 b.val) = if a = b then 1#1 else 0#1 := by
    decide +kernel
  rw [key]
  split
  · show (((1#1).toNat : ℝ) : EReal) = 1
    simp
  · show (((0#1).toNat : ℝ) : EReal) = 0
    simp

theorem diag_apply (p : FVec Ideal S32 .f32) (i : Fin 8) (r : Fin 256) :
    diag p (ix2 i r) = eye (ix2 i ⟨r.val / 32, by omega⟩) * p (ix1 ⟨r.val % 32, by omega⟩) := by
  unfold diag
  generalize eye = e
  rw [shapeCast_apply (t := S8x256) _ shapeCasts_S8x1x8x32_S8x256 (ix2 i r) (ix4 i 0 ⟨r.val / 32, by omega⟩ ⟨r.val % 32, by omega⟩)
    (by rewrite [Shape.rowMajor_val_four, Shape.rowMajor_val_two]
        show ((i.val * 1 + 0) * 8 + r.val / 32) * 32 + r.val % 32 = i.val * 256 + r.val
        omega)]
  pointwise

/-- The block-diagonal weights pick one block of 32 rows. -/
theorem diag_sum (p : FVec Ideal S32 .f32) (i : Fin 8) (f : Fin 256 → EReal) :
    (∑ r : Fin 256, diag p (ix2 i r) * f r) = ∑ k : Fin 32, f ⟨i.val * 32 + k.val, by omega⟩ * p (ix1 k) := by
  have h : ∀ r : Fin 256, diag p (ix2 i r) * f r
      = (fun q : Fin 8 × Fin 32 => (if i = q.1 then f ⟨q.1.val * 32 + q.2.val, by omega⟩ * p (ix1 q.2) else 0)) ((finProdFinEquiv (m := 8) (n := 32)).symm r) := by
    intro r
    rw [diag_apply, eye_apply]
    have e1 : ((finProdFinEquiv (m := 8) (n := 32)).symm r).1 = ⟨r.val / 32, by omega⟩ := rfl
    have e2 : ((finProdFinEquiv (m := 8) (n := 32)).symm r).2 = ⟨r.val % 32, by omega⟩ := rfl
    show _ = if i = ((finProdFinEquiv (m := 8) (n := 32)).symm r).1 then _ else _
    simp only [e1, e2]
    have e3 : (⟨r.val / 32 * 32 + r.val % 32, by omega⟩ : Fin 256) = r := Fin.ext (by show r.val / 32 * 32 + r.val % 32 = r.val; omega)
    rw [e3]
    split
    · rw [one_mul, mul_comm]
    · rw [zero_mul, zero_mul]
  refine (Finset.sum_congr rfl fun r _ => h r).trans ((Equiv.sum_comp (finProdFinEquiv (m := 8) (n := 32)).symm
    (fun q : Fin 8 × Fin 32 => (if i = q.1 then f ⟨q.1.val * 32 + q.2.val, by omega⟩ * p (ix1 q.2) else 0))).trans ?_)
  rw [Fintype.sum_prod_type, Finset.sum_eq_single i]
  · exact Finset.sum_congr rfl fun k _ => if_pos rfl
  · intro b _ hb
    exact Finset.sum_eq_zero fun k _ => if_neg (Ne.symm hb)
  · intro hi
    exact absurd (Finset.mem_univ i) hi

variable (m : (ℓ : Loc nD τ sig) → Buf (Elt Ideal) ℓ)

theorem V_x (c : Dev nD) : V m c main_v0 = shapeCast _ (m ((c : Thread nD τ).loc main_arg0)) shapeCasts_S2x2048x1024_S4096x1024 := by
  show StableHlo.after (List.flatten [hostOps0, hostOps0_1, hostOps0_2, hostOps0_3]) (fun b => m (c, b)) (Proc.devRef .tc main_v0) = _
  simp only [hostOps0, hostOps0_1, hostOps0_2, hostOps0_3, List.flatten_cons, List.flatten_nil, List.append_nil, List.cons_append, List.nil_append]
  after_results
  rfl
theorem V_pos (c : Dev nD) : V m c main_v1 = shapeCast _ (m ((c : Thread nD τ).loc main_arg1)) shapeCasts_S2x2048x3_S4096x3 := by
  show StableHlo.after (List.flatten [hostOps0, hostOps0_1, hostOps0_2, hostOps0_3]) (fun b => m (c, b)) (Proc.devRef .tc main_v1) = _
  simp only [hostOps0, hostOps0_1, hostOps0_2, hostOps0_3, List.flatten_cons, List.flatten_nil, List.append_nil, List.cons_append, List.nil_append]
  after_results
  rfl
theorem V_bp (c : Dev nD) : V m c main_v2 = shapeCast _ (m ((c : Thread nD τ).loc main_arg3)) shapeCasts_S1024_S1x1024 := by
  show StableHlo.after (List.flatten [hostOps0, hostOps0_1, hostOps0_2, hostOps0_3]) (fun b => m (c, b)) (Proc.devRef .tc main_v2) = _
  simp only [hostOps0, hostOps0_1, hostOps0_2, hostOps0_3, List.flatten_cons, List.flatten_nil, List.append_nil, List.cons_append, List.nil_append]
  after_results
  rfl
theorem V_PK (c : Dev nD) : V m c main_v10 = diag (m ((c : Thread nD τ).loc main_arg8)) := by
  show StableHlo.after (List.flatten [hostOps0, hostOps0_1, hostOps0_2, hostOps0_3]) (fun b => m (c, b)) (Proc.devRef .tc main_v10) = _
  simp only [hostOps0, hostOps0_1, hostOps0_2, hostOps0_3, List.flatten_cons, List.flatten_nil, List.append_nil, List.cons_append, List.nil_append]
  after_results
  rfl
theorem V_PV (c : Dev nD) : V m c main_v12 = diag (m ((c : Thread nD τ).loc main_arg9)) := by
  show StableHlo.after (List.flatten [hostOps0, hostOps0_1, hostOps0_2, hostOps0_3]) (fun b => m (c, b)) (Proc.devRef .tc main_v12) = _
  simp only [hostOps0, hostOps0_1, hostOps0_2, hostOps0_3, List.flatten_cons, List.flatten_nil, List.append_nil, List.cons_append, List.nil_append]
  after_results
  rfl

theorem x_apply (x : FVec Ideal S2x2048x1024 .f32) (r : Fin 4096) (d : Fin 1024) :
    (shapeCast S4096x1024 x shapeCasts_S2x2048x1024_S4096x1024 : FVec Ideal S4096x1024 .f32) (ix2 r d) = x (ix3 ⟨r.val / 2048, by omega⟩ ⟨r.val % 2048, by omega⟩ d) :=
  shapeCast_apply (t := S4096x1024) x shapeCasts_S2x2048x1024_S4096x1024 (ix2 r d) _
    (by rewrite [Shape.rowMajor_val_three, Shape.rowMajor_val_two]
        show ((r.val / 2048) * 2048 + r.val % 2048) * 1024 + d.val = r.val * 1024 + d.val
        omega)
theorem pos_apply (x : FVec Ideal S2x2048x3 .f32) (r : Fin 4096) (d : Fin 3) :
    (shapeCast S4096x3 x shapeCasts_S2x2048x3_S4096x3 : FVec Ideal S4096x3 .f32) (ix2 r d) = x (ix3 ⟨r.val / 2048, by omega⟩ ⟨r.val % 2048, by omega⟩ d) :=
  shapeCast_apply (t := S4096x3) x shapeCasts_S2x2048x3_S4096x3 (ix2 r d) _
    (by rewrite [Shape.rowMajor_val_three, Shape.rowMajor_val_two]
        show ((r.val / 2048) * 2048 + r.val % 2048) * 3 + d.val = r.val * 3 + d.val
        omega)
theorem bp_apply (x : FVec Ideal S1024 .f32) (d : Fin 1024) :
    (shapeCast S1x1024 x shapeCasts_S1024_S1x1024 : FVec Ideal S1x1024 .f32) (ix2 0 d) = x (ix1 d) :=
  shapeCast_apply (t := S1x1024) x shapeCasts_S1024_S1x1024 (ix2 0 d) _
    (by rewrite [Shape.rowMajor_val_one, Shape.rowMajor_val_two]
        show d.val = 0 * 1024 + d.val
        omega)

end Cert.ProjIdeal.Value

end
-- ==== Proof.Projections.Array.lean ====
/- The projection call: the six arrays it leaves. -/
module

public import proofs.«01_k».proof.Proof.Projections.Pay

@[expose] public section

set_option maxRecDepth 16384

noncomputable section

namespace Cert.ProjIdeal.Value

open Idealize.ShloMosaic Idealize.ShloMosaic.TcCoe Cert.ProjIdeal.Gen Cert.ProjIdeal
open Idealize.ShloMosaic.Pipeline (Dat)

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![(grid0.coords t 0).val, 0] :=
  (by decide +kernel : ∀ t : Fin grid0.N, win0_10.index t = ![(grid0.coords t 0).val, 0])
theorem index11 : ∀ t : Fin cfg0.N, win0_11.index t = ![(grid0.coords t 0).val, 0] :=
  (by decide +kernel : ∀ t : Fin grid0.N, win0_11.index t = ![(grid0.coords t 0).val, 0])
theorem index12 : ∀ t : Fin cfg0.N, win0_12.index t = ![(grid0.coords t 0).val, 0] :=
  (by decide +kernel : ∀ t : Fin grid0.N, win0_12.index t = ![(grid0.coords t 0).val, 0])
theorem index13 : ∀ t : Fin cfg0.N, win0_13.index t = ![(grid0.coords t 0).val, 0] :=
  (by decide +kernel : ∀ t : Fin grid0.N, win0_13.index t = ![(grid0.coords t 0).val, 0])
theorem index14 : ∀ t : Fin cfg0.N, win0_14.index t = ![(grid0.coords t 0).val, 0] :=
  (by decide +kernel : ∀ t : Fin grid0.N, win0_14.index t = ![(grid0.coords t 0).val, 0])
theorem index15 : ∀ t : Fin cfg0.N, win0_15.index t = ![(grid0.coords t 0).val, 0] :=
  (by decide +kernel : ∀ t : Fin grid0.N, win0_15.index t = ![(grid0.coords t 0).val, 0])

theorem coord_lt (t : Fin cfg0.N) : (grid0.coords t 0).val < 16 := (grid0.coords t 0).isLt

/-- The array row of row `p` of the blocks at a grid point. -/
def row (t : Fin cfg0.N) (p : Fin 256) : Fin 4096 :=
  ⟨(grid0.coords t 0).val * 256 + p.val, by have := coord_lt t; omega⟩
/-- The array row of row `i` of the pooled blocks at a grid point. -/
def prow (t : Fin cfg0.N) (i : Fin 8) : Fin 128 :=
  ⟨(grid0.coords t 0).val * 8 + i.val, by have := coord_lt t; omega⟩

theorem read0 (t : Fin cfg0.N) (p : Fin 256) (d : Fin 1024) : ((cfg0.win 0).blk t).view.emb (ix2 p d) = ix2 (row t p) d := by
  blk_ext! [index0 t, row]
theorem read1 (t : Fin cfg0.N) (p : Fin 256) (d : Fin 3) : ((cfg0.win 1).blk t).view.emb (ix2 p d) = ix2 (row t p) d := by
  blk_ext! [index1 t, row]
theorem read2 (t : Fin cfg0.N) (p : Fin 3) (d : Fin 1024) : ((cfg0.win 2).blk t).view.emb (ix2 p d) = ix2 p d := by
  blk_ext! [index2 t]
theorem read3 (t : Fin cfg0.N) (p : Fin 1) (d : Fin 1024) : ((cfg0.win 3).blk t).view.emb (ix2 p d) = ix2 p d := by
  blk_ext! [index3 t]
theorem read4 (t : Fin cfg0.N) (p : Fin 1024) (d : Fin 1024) : ((cfg0.win 4).blk t).view.emb (ix2 p d) = ix2 p d := by
  blk_ext! [index4 t]
theorem read5 (t : Fin cfg0.N) (p : Fin 1024) (d : Fin 1024) : ((cfg0.win 5).blk t).view.emb (ix2 p d) = ix2 p d := by
  blk_ext! [index5 t]
theorem read6 (t : Fin cfg0.N) (p : Fin 1024) (d : Fin 1024) : ((cfg0.win 6).blk t).view.emb (ix2 p d) = ix2 p d := by
  blk_ext! [index6 t]
theorem read7 (t : Fin cfg0.N) (p : Fin 1024) (d : Fin 48) : ((cfg0.win 7).blk t).view.emb (ix2 p d) = ix2 p d := by
  blk_ext! [index7 t]
theorem read8 (t : Fin cfg0.N) (p : Fin 8) (d : Fin 256) : ((cfg0.win 8).blk t).view.emb (ix2 p d) = ix2 p d := by
  blk_ext! [index8 t]
theorem read9 (t : Fin cfg0.N) (p : Fin 8) (d : Fin 256) : ((cfg0.win 9).blk t).view.emb (ix2 p d) = ix2 p d := by
  blk_ext! [index9 t]
theorem read10 (t : Fin cfg0.N) (p : Fin 256) (d : Fin 1024) : ((cfg0.win 10).blk t).view.emb (ix2 p d) = ix2 (row t p) d := by
  blk_ext! [index10 t, row]
theorem read11 (t : Fin cfg0.N) (p : Fin 256) (d : Fin 1024) : ((cfg0.win 11).blk t).view.emb (ix2 p d) = ix2 (row t p) d := by
  blk_ext! [index11 t, row]
theorem read12 (t : Fin cfg0.N) (p : Fin 256) (d : Fin 1024) : ((cfg0.win 12).blk t).view.emb (ix2 p d) = ix2 (row t p) d := by
  blk_ext! [index12 t, row]
theorem read13 (t : Fin cfg0.N) (p : Fin 256) (d : Fin 48) : ((cfg0.win 13).blk t).view.emb (ix2 p d) = ix2 (row t p) d := by
  blk_ext! [index13 t, row]
theorem read14 (t : Fin cfg0.N) (p : Fin 8) (d : Fin 1024) : ((cfg0.win 14).blk t).view.emb (ix2 p d) = ix2 (prow t p) d := by
  blk_ext! [index14 t, prow]
theorem read15 (t : Fin cfg0.N) (p : Fin 8) (d : Fin 1024) : ((cfg0.win 15).blk t).view.emb (ix2 p d) = ix2 (prow t p) d := by
  blk_ext! [index15 t, prow]

variable (m : (ℓ : Loc nD τ sig) → Buf (Elt Ideal) ℓ)

/-- The hidden rows of the arguments. -/
abbrev hidden (c : Dev nD) : Fin 4096 → Fin 1024 → EReal :=
  hid (m ((c : Thread nD τ).loc main_arg0)) (m ((c : Thread nD τ).loc main_arg1)) (m ((c : Thread nD τ).loc main_arg2)) (m ((c : Thread nD τ).loc main_arg3))

theorem hidden_block (c : Dev nD) (t : Fin cfg0.N) (p : Fin 256) (d : Fin 1024) :
    k0_pay3 (F := Ideal) (iblk m c 0 t) (iblk m c 1 t) (iblk m c 2 t) (iblk m c 3 t) (ix2 p d) = hidden m c (row t p) d := by
  rw [pay3_apply]
  have h0 : (iblk m c 0 t : Vec Ideal S256x1024 .f32) (ix2 p d) = (m ((c : Thread nD τ).loc main_arg0) : S2x2048x1024.Idx → EReal) (ix3 ⟨(row t p).val / 2048, by omega⟩ ⟨(row t p).val % 2048, by omega⟩ d) := by
    refine (congrArg (V m c main_v0) (read0 t p d)).trans ?_
    rw [V_x]
    exact x_apply _ _ _
  have h1 : ∀ j : Fin 3, (iblk m c 1 t : Vec Ideal S256x3 .f32) (ix2 p j) = (m ((c : Thread nD τ).loc main_arg1) : S2x2048x3.Idx → EReal) (ix3 ⟨(row t p).val / 2048, by omega⟩ ⟨(row t p).val % 2048, by omega⟩ j) := by
    intro j
    refine (congrArg (V m c main_v1) (read1 t p j)).trans ?_
    rw [V_pos]
    exact pos_apply _ _ _
  have h2 : ∀ j : Fin 3, (iblk m c 2 t : Vec Ideal S3x1024 .f32) (ix2 j d) = (m ((c : Thread nD τ).loc main_arg2) : S3x1024.Idx → EReal) (ix2 j d) := by
    intro j
    refine (congrArg (V m c main_arg2) (read2 t j d)).trans ?_
    rw [V_main_arg2]
  have h3 : (iblk m c 3 t : Vec Ideal S1x1024 .f32) (ix2 0 d) = (m ((c : Thread nD τ).loc main_arg3) : S1024.Idx → EReal) (ix1 d) := by
    refine (congrArg (V m c main_v2) (read3 t 0 d)).trans ?_
    rw [V_bp]
    exact bp_apply _ _
  unfold hidden hid
  exact congr (congrArg HAdd.hAdd (congr (congrArg HAdd.hAdd h0) (Finset.sum_congr rfl fun j _ => congr (congrArg HMul.hMul (h1 j)) (h2 j)))) h3

theorem lin_congr {H : Fin 4096 → Fin 1024 → EReal} {W : S1024x1024.Idx → EReal} {r : Fin 4096} {d : Fin 1024} (A B : Fin 1024 → EReal)
    (hA : ∀ k, A k = H r k) (hB : ∀ k, B k = W (ix2 k d)) : ∑ k : Fin 1024, A k * B k = lin H W r d := by
  unfold lin
  exact Finset.sum_congr rfl fun x _ => by rw [hA, hB]
theorem gate_congr {H : Fin 4096 → Fin 1024 → EReal} {W : S1024x48.Idx → EReal} {r : Fin 4096} {d : Fin 48} (A B : Fin 1024 → EReal)
    (hA : ∀ k, A k = H r k) (hB : ∀ k, B k = W (ix2 k d)) : Ideal.logistic (∑ k : Fin 1024, A k * B k) = gate H W r d := by
  unfold gate
  exact congrArg Ideal.logistic (Finset.sum_congr rfl fun x _ => by rw [hA, hB])

theorem sum_congr_mul {A B A' B' : Fin 256 → EReal} (hA : ∀ r, A r = A' r) (hB : ∀ r, B r = B' r) :
    ∑ r : Fin 256, A r * B r = ∑ r : Fin 256, A' r * B' r :=
  Finset.sum_congr rfl fun x _ => by rw [hA, hB]

theorem eta2 {a b : ℕ} (y : (⟨2, ![a, b]⟩ : Shape).Idx) : y = ix2 (y 0) (y 1) := funext fun a => by
  match a with
  | ⟨0, _⟩ => rfl
  | ⟨1, _⟩ => rfl

theorem lin_block4 (c : Dev nD) (t : Fin cfg0.N) (p : Fin 256) (d : Fin 1024) :
    k0_pay4 (F := Ideal) (iblk m c 0 t) (iblk m c 1 t) (iblk m c 2 t) (iblk m c 3 t) (iblk m c 4 t) (ix2 p d)
      = lin (hidden m c) (m ((c : Thread nD τ).loc main_arg4)) (row t p) d := by
  rw [pay4_apply]
  refine lin_congr _ _ (fun k => hidden_block m c t p k) (fun k => ?_)
  refine (congrArg (V m c main_arg4) (read4 t k d)).trans ?_
  rw [V_main_arg4]
theorem lin_block5 (c : Dev nD) (t : Fin cfg0.N) (p : Fin 256) (d : Fin 1024) :
    k0_pay5 (F := Ideal) (iblk m c 0 t) (iblk m c 1 t) (iblk m c 2 t) (iblk m c 3 t) (iblk m c 5 t) (ix2 p d)
      = lin (hidden m c) (m ((c : Thread nD τ).loc main_arg5)) (row t p) d := by
  rw [pay5_apply]
  refine lin_congr _ _ (fun k => hidden_block m c t p k) (fun k => ?_)
  refine (congrArg (V m c main_arg5) (read5 t k d)).trans ?_
  rw [V_main_arg5]
theorem lin_block6 (c : Dev nD) (t : Fin cfg0.N) (p : Fin 256) (d : Fin 1024) :
    k0_pay6 (F := Ideal) (iblk m c 0 t) (iblk m c 1 t) (iblk m c 2 t) (iblk m c 3 t) (iblk m c 6 t) (ix2 p d)
      = lin (hidden m c) (m ((c : Thread nD τ).loc main_arg6)) (row t p) d := by
  rw [pay6_apply]
  refine lin_congr _ _ (fun k => hidden_block m c t p k) (fun k => ?_)
  refine (congrArg (V m c main_arg6) (read6 t k d)).trans ?_
  rw [V_main_arg6]
theorem gate_block (c : Dev nD) (t : Fin cfg0.N) (p : Fin 256) (d : Fin 48) :
    k0_pay7 (F := Ideal) (iblk m c 0 t) (iblk m c 1 t) (iblk m c 2 t) (iblk m c 3 t) (iblk m c 7 t) (ix2 p d)
      = gate (hidden m c) (m ((c : Thread nD τ).loc main_arg7)) (row t p) d := by
  rw [pay7_apply]
  refine gate_congr _ _ (fun k => hidden_block m c t p k) (fun k => ?_)
  refine (congrArg (V m c main_arg7) (read7 t k d)).trans ?_
  rw [V_main_arg7]
theorem pool_block1 (c : Dev nD) (t : Fin cfg0.N) (i : Fin 8) (d : Fin 1024) :
    k0_pay1 (F := Ideal) (k0_pay5 (F := Ideal) (iblk m c 0 t) (iblk m c 1 t) (iblk m c 2 t) (iblk m c 3 t) (iblk m c 5 t)) (iblk m c 8 t) (ix2 i d)
      = pool (hidden m c) (m ((c : Thread nD τ).loc main_arg5)) (m ((c : Thread nD τ).loc main_arg8)) (prow t i) d := by
  rw [pay1_apply]
  have h : ∀ r : Fin 256, (iblk m c 8 t : Vec Ideal S8x256 .f32) (ix2 i r) = diag (m ((c : Thread nD τ).loc main_arg8)) (ix2 i r) := by
    intro r
    refine (congrArg (V m c main_v10) (read8 t i r)).trans ?_
    rw [V_PK]
  refine (sum_congr_mul (A' := fun r => diag (m ((c : Thread nD τ).loc main_arg8)) (ix2 i r))
    (B' := fun r => lin (hidden m c) (m ((c : Thread nD τ).loc main_arg5)) (row t r) d) h (fun r => lin_block5 m c t r d)).trans ?_
  refine (diag_sum (m ((c : Thread nD τ).loc main_arg8)) i _).trans ?_
  unfold pool
  refine Finset.sum_congr rfl fun k _ => congrArg (fun r => lin (hidden m c) (m ((c : Thread nD τ).loc main_arg5)) r d * _) (Fin.ext ?_)
  show (grid0.coords t 0).val * 256 + (i.val * 32 + k.val) = ((grid0.coords t 0).val * 8 + i.val) * 32 + k.val
  omega
theorem pool_block2 (c : Dev nD) (t : Fin cfg0.N) (i : Fin 8) (d : Fin 1024) :
    k0_pay2 (F := Ideal) (k0_pay6 (F := Ideal) (iblk m c 0 t) (iblk m c 1 t) (iblk m c 2 t) (iblk m c 3 t) (iblk m c 6 t)) (iblk m c 9 t) (ix2 i d)
      = pool (hidden m c) (m ((c : Thread nD τ).loc main_arg6)) (m ((c : Thread nD τ).loc main_arg9)) (prow t i) d := by
  rw [pay2_apply]
  have h : ∀ r : Fin 256, (iblk m c 9 t : Vec Ideal S8x256 .f32) (ix2 i r) = diag (m ((c : Thread nD τ).loc main_arg9)) (ix2 i r) := by
    intro r
    refine (congrArg (V m c main_v12) (read9 t i r)).trans ?_
    rw [V_PV]
  refine (sum_congr_mul (A' := fun r => diag (m ((c : Thread nD τ).loc main_arg9)) (ix2 i r))
    (B' := fun r => lin (hidden m c) (m ((c : Thread nD τ).loc main_arg6)) (row t r) d) h (fun r => lin_block6 m c t r d)).trans ?_
  refine (diag_sum (m ((c : Thread nD τ).loc main_arg9)) i _).trans ?_
  unfold pool
  refine Finset.sum_congr rfl fun k _ => congrArg (fun r => lin (hidden m c) (m ((c : Thread nD τ).loc main_arg6)) r d * _) (Fin.ext ?_)
  show (grid0.coords t 0).val * 256 + (i.val * 32 + k.val) = ((grid0.coords t 0).val * 8 + i.val) * 32 + k.val
  omega
theorem out10_eq (x0 : Vec Ideal S256x1024 .f32) (x1 : Vec Ideal S256x3 .f32) (x2 : Vec Ideal S3x1024 .f32) (x3 : Vec Ideal S1x1024 .f32) (x4 : Vec Ideal S1024x1024 .f32) (x5 : Vec Ideal S1024x1024 .f32) (x6 : Vec Ideal S1024x1024 .f32) (x7 : Vec Ideal S1024x48 .f32) (x8 : Vec Ideal S8x256 .f32) (x9 : Vec Ideal S8x256 .f32) :
    out0_10 (F := Ideal) x0 x1 x2 x3 x4 x5 x6 x7 x8 x9 = k0_pay4 (F := Ideal) x0 x1 x2 x3 x4 := by
  unfold out0_10
  rw [View.canon_cons_unit_lit, View.ld_unit_lit, View.ld_unit_lit, View.ld_unit_lit, View.ld_unit_lit, View.ld_unit_lit] <;> decide
theorem out11_eq (x0 : Vec Ideal S256x1024 .f32) (x1 : Vec Ideal S256x3 .f32) (x2 : Vec Ideal S3x1024 .f32) (x3 : Vec Ideal S1x1024 .f32) (x4 : Vec Ideal S1024x1024 .f32) (x5 : Vec Ideal S1024x1024 .f32) (x6 : Vec Ideal S1024x1024 .f32) (x7 : Vec Ideal S1024x48 .f32) (x8 : Vec Ideal S8x256 .f32) (x9 : Vec Ideal S8x256 .f32) :
    out0_11 (F := Ideal) x0 x1 x2 x3 x4 x5 x6 x7 x8 x9 = k0_pay5 (F := Ideal) x0 x1 x2 x3 x5 := by
  unfold out0_11
  rw [View.canon_cons_unit_lit, View.ld_unit_lit, View.ld_unit_lit, View.ld_unit_lit, View.ld_unit_lit, View.ld_unit_lit] <;> decide
theorem out12_eq (x0 : Vec Ideal S256x1024 .f32) (x1 : Vec Ideal S256x3 .f32) (x2 : Vec Ideal S3x1024 .f32) (x3 : Vec Ideal S1x1024 .f32) (x4 : Vec Ideal S1024x1024 .f32) (x5 : Vec Ideal S1024x1024 .f32) (x6 : Vec Ideal S1024x1024 .f32) (x7 : Vec Ideal S1024x48 .f32) (x8 : Vec Ideal S8x256 .f32) (x9 : Vec Ideal S8x256 .f32) :
    out0_12 (F := Ideal) x0 x1 x2 x3 x4 x5 x6 x7 x8 x9 = k0_pay6 (F := Ideal) x0 x1 x2 x3 x6 := by
  unfold out0_12
  rw [View.canon_cons_unit_lit, View.ld_unit_lit, View.ld_unit_lit, View.ld_unit_lit, View.ld_unit_lit, View.ld_unit_lit] <;> decide
theorem out13_eq (x0 : Vec Ideal S256x1024 .f32) (x1 : Vec Ideal S256x3 .f32) (x2 : Vec Ideal S3x1024 .f32) (x3 : Vec Ideal S1x1024 .f32) (x4 : Vec Ideal S1024x1024 .f32) (x5 : Vec Ideal S1024x1024 .f32) (x6 : Vec Ideal S1024x1024 .f32) (x7 : Vec Ideal S1024x48 .f32) (x8 : Vec Ideal S8x256 .f32) (x9 : Vec Ideal S8x256 .f32) :
    out0_13 (F := Ideal) x0 x1 x2 x3 x4 x5 x6 x7 x8 x9 = k0_pay7 (F := Ideal) x0 x1 x2 x3 x7 := by
  unfold out0_13
  rw [View.canon_cons_unit_lit, View.ld_unit_lit, View.ld_unit_lit, View.ld_unit_lit, View.ld_unit_lit, View.ld_unit_lit] <;> decide
theorem out14_eq (x0 : Vec Ideal S256x1024 .f32) (x1 : Vec Ideal S256x3 .f32) (x2 : Vec Ideal S3x1024 .f32) (x3 : Vec Ideal S1x1024 .f32) (x4 : Vec Ideal S1024x1024 .f32) (x5 : Vec Ideal S1024x1024 .f32) (x6 : Vec Ideal S1024x1024 .f32) (x7 : Vec Ideal S1024x48 .f32) (x8 : Vec Ideal S8x256 .f32) (x9 : Vec Ideal S8x256 .f32) :
    out0_14 (F := Ideal) x0 x1 x2 x3 x4 x5 x6 x7 x8 x9 = k0_pay1 (F := Ideal) (k0_pay5 (F := Ideal) x0 x1 x2 x3 x5) x8 := by
  unfold out0_14
  rw [View.canon_cons_unit_lit, View.ld_unit_lit, View.ld_unit_lit, View.ld_unit_lit, View.ld_unit_lit, View.ld_unit_lit, View.ld_unit_lit] <;> decide
theorem out15_eq (x0 : Vec Ideal S256x1024 .f32) (x1 : Vec Ideal S256x3 .f32) (x2 : Vec Ideal S3x1024 .f32) (x3 : Vec Ideal S1x1024 .f32) (x4 : Vec Ideal S1024x1024 .f32) (x5 : Vec Ideal S1024x1024 .f32) (x6 : Vec Ideal S1024x1024 .f32) (x7 : Vec Ideal S1024x48 .f32) (x8 : Vec Ideal S8x256 .f32) (x9 : Vec Ideal S8x256 .f32) :
    out0_15 (F := Ideal) x0 x1 x2 x3 x4 x5 x6 x7 x8 x9 = k0_pay2 (F := Ideal) (k0_pay6 (F := Ideal) x0 x1 x2 x3 x6) x9 := by
  unfold out0_15
  rw [View.canon_cons_unit_lit, View.ld_unit_lit, View.ld_unit_lit, View.ld_unit_lit, View.ld_unit_lit, View.ld_unit_lit, View.ld_unit_lit] <;> decide
theorem final10 (c : Dev nD) :
    (dats m 0 c).arrAt 10 cfg0.N = fun y : S4096x1024.Idx => lin (hidden m c) (m ((c : Thread nD τ).loc main_arg4)) (y 0) (y 1) := by
  refine (dats m 0 c).arrAt_eq_of_covers 10 _ (by decide +kernel) fun t hf y => ?_
  have hy : y = ix2 (y 0) (y 1) := eta2 y
  have he : ((cfg0.win 10).blk t).view.emb y = ix2 (row t (y 0)) (y 1) := (congrArg ((cfg0.win 10).blk t).view.emb hy).trans (read10 t (y 0) (y 1))
  blk_simp
  rw [after0_10, out10_eq]
  refine (congrArg _ hy).trans ((lin_block4 m c t (y 0) (y 1)).trans ?_)
  exact (congrArg (fun y : S4096x1024.Idx => lin (hidden m c) (m ((c : Thread nD τ).loc main_arg4)) (y 0) (y 1)) he).symm
theorem final11 (c : Dev nD) :
    (dats m 0 c).arrAt 11 cfg0.N = fun y : S4096x1024.Idx => lin (hidden m c) (m ((c : Thread nD τ).loc main_arg5)) (y 0) (y 1) := by
  refine (dats m 0 c).arrAt_eq_of_covers 11 _ (by decide +kernel) fun t hf y => ?_
  have hy : y = ix2 (y 0) (y 1) := eta2 y
  have he : ((cfg0.win 11).blk t).view.emb y = ix2 (row t (y 0)) (y 1) := (congrArg ((cfg0.win 11).blk t).view.emb hy).trans (read11 t (y 0) (y 1))
  blk_simp
  rw [after0_11, out11_eq]
  refine (congrArg _ hy).trans ((lin_block5 m c t (y 0) (y 1)).trans ?_)
  exact (congrArg (fun y : S4096x1024.Idx => lin (hidden m c) (m ((c : Thread nD τ).loc main_arg5)) (y 0) (y 1)) he).symm
theorem final12 (c : Dev nD) :
    (dats m 0 c).arrAt 12 cfg0.N = fun y : S4096x1024.Idx => lin (hidden m c) (m ((c : Thread nD τ).loc main_arg6)) (y 0) (y 1) := by
  refine (dats m 0 c).arrAt_eq_of_covers 12 _ (by decide +kernel) fun t hf y => ?_
  have hy : y = ix2 (y 0) (y 1) := eta2 y
  have he : ((cfg0.win 12).blk t).view.emb y = ix2 (row t (y 0)) (y 1) := (congrArg ((cfg0.win 12).blk t).view.emb hy).trans (read12 t (y 0) (y 1))
  blk_simp
  rw [after0_12, out12_eq]
  refine (congrArg _ hy).trans ((lin_block6 m c t (y 0) (y 1)).trans ?_)
  exact (congrArg (fun y : S4096x1024.Idx => lin (hidden m c) (m ((c : Thread nD τ).loc main_arg6)) (y 0) (y 1)) he).symm
theorem final13 (c : Dev nD) :
    (dats m 0 c).arrAt 13 cfg0.N = fun y : S4096x48.Idx => gate (hidden m c) (m ((c : Thread nD τ).loc main_arg7)) (y 0) (y 1) := by
  refine (dats m 0 c).arrAt_eq_of_covers 13 _ (by decide +kernel) fun t hf y => ?_
  have hy : y = ix2 (y 0) (y 1) := eta2 y
  have he : ((cfg0.win 13).blk t).view.emb y = ix2 (row t (y 0)) (y 1) := (congrArg ((cfg0.win 13).blk t).view.emb hy).trans (read13 t (y 0) (y 1))
  blk_simp
  rw [after0_13, out13_eq]
  refine (congrArg _ hy).trans ((gate_block m c t (y 0) (y 1)).trans ?_)
  exact (congrArg (fun y : S4096x48.Idx => gate (hidden m c) (m ((c : Thread nD τ).loc main_arg7)) (y 0) (y 1)) he).symm
theorem final14 (c : Dev nD) :
    (dats m 0 c).arrAt 14 cfg0.N = fun y : S128x1024.Idx => pool (hidden m c) (m ((c : Thread nD τ).loc main_arg5)) (m ((c : Thread nD τ).loc main_arg8)) (y 0) (y 1) := by
  refine (dats m 0 c).arrAt_eq_of_covers 14 _ (by decide +kernel) fun t hf y => ?_
  have hy : y = ix2 (y 0) (y 1) := eta2 y
  have he : ((cfg0.win 14).blk t).view.emb y = ix2 (prow t (y 0)) (y 1) := (congrArg ((cfg0.win 14).blk t).view.emb hy).trans (read14 t (y 0) (y 1))
  blk_simp
  rw [after0_14, out14_eq]
  refine (congrArg _ hy).trans ((pool_block1 m c t (y 0) (y 1)).trans ?_)
  exact (congrArg (fun y : S128x1024.Idx => pool (hidden m c) (m ((c : Thread nD τ).loc main_arg5)) (m ((c : Thread nD τ).loc main_arg8)) (y 0) (y 1)) he).symm
theorem final15 (c : Dev nD) :
    (dats m 0 c).arrAt 15 cfg0.N = fun y : S128x1024.Idx => pool (hidden m c) (m ((c : Thread nD τ).loc main_arg6)) (m ((c : Thread nD τ).loc main_arg9)) (y 0) (y 1) := by
  refine (dats m 0 c).arrAt_eq_of_covers 15 _ (by decide +kernel) fun t hf y => ?_
  have hy : y = ix2 (y 0) (y 1) := eta2 y
  have he : ((cfg0.win 15).blk t).view.emb y = ix2 (prow t (y 0)) (y 1) := (congrArg ((cfg0.win 15).blk t).view.emb hy).trans (read15 t (y 0) (y 1))
  blk_simp
  rw [after0_15, out15_eq]
  refine (congrArg _ hy).trans ((pool_block2 m c t (y 0) (y 1)).trans ?_)
  exact (congrArg (fun y : S128x1024.Idx => pool (hidden m c) (m ((c : Thread nD τ).loc main_arg6)) (m ((c : Thread nD τ).loc main_arg9)) (y 0) (y 1)) he).symm

end Cert.ProjIdeal.Value

end
-- ==== Proof.Projections.Ref.lean ====
/- The projections' reference: the same six arrays. -/
module

public import proofs.«01_k».proof.Proof.Projections.Pay
public import proofs.«01_k».proof.Proof.Gen.ProjRefIdeal.Read

@[expose] public section

set_option maxRecDepth 16384

noncomputable section

namespace Cert.ProjRefIdeal.Value

open Idealize.ShloMosaic Idealize.ShloMosaic.TcCoe Cert.ProjRefIdeal.Gen Cert.ProjRefIdeal Cert.ProjRefIdeal.Read
open Cert.ProjIdeal.Value (hid lin gate)

theorem hid_eq (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (r : Fin 4096) (d : Fin 1024) (i : S2x2048x1024.Idx)
    (h0 : (i 0).val = r.val / 2048) (h1 : (i 1).val = r.val % 2048) (h2 : (i 2).val = d.val) :
    val_main_v4 (F := Ideal) x0 x1 x2 x3 i = hid x0 x1 x2 x3 r d := by
  have hi : i = ix3 ⟨r.val / 2048, by omega⟩ ⟨r.val % 2048, by omega⟩ d := funext fun a => Fin.ext (by
    match a with
    | ⟨0, _⟩ => exact h0
    | ⟨1, _⟩ => exact h1
    | ⟨2, _⟩ => exact h2)
  rw [hi]
  unfold val_main_v4 val_main_v3 val_main_v2 val_main_v1 val_main_v0 hid
  pointwise

theorem lin_eq5 (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x4 : (⟨S1024x1024, .f32⟩ : BufTy).Contents (Elt Ideal)) (r : Fin 4096) (d : Fin 1024) (i : S2x2048x1024.Idx)
    (h0 : (i 0).val = r.val / 2048) (h1 : (i 1).val = r.val % 2048) (h2 : (i 2).val = d.val) :
    val_main_v5 (F := Ideal) x0 x1 x2 x3 x4 i = lin (hid x0 x1 x2 x3) x4 r d := by
  rw [val_main_v5_apply]
  unfold lin
  refine Finset.sum_congr rfl fun k _ => congr (congrArg HMul.hMul (hid_eq x0 x1 x2 x3 r k _ h0 h1 rfl)) (congrArg x4 (funext fun a => Fin.ext ?_))
  match a with
  | ⟨0, _⟩ => rfl
  | ⟨1, _⟩ => exact h2

theorem lin_eq6 (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x5 : (⟨S1024x1024, .f32⟩ : BufTy).Contents (Elt Ideal)) (r : Fin 4096) (d : Fin 1024) (i : S2x2048x1024.Idx)
    (h0 : (i 0).val = r.val / 2048) (h1 : (i 1).val = r.val % 2048) (h2 : (i 2).val = d.val) :
    val_main_v6 (F := Ideal) x0 x1 x2 x3 x5 i = lin (hid x0 x1 x2 x3) x5 r d := by
  rw [val_main_v6_apply]
  unfold lin
  refine Finset.sum_congr rfl fun k _ => congr (congrArg HMul.hMul (hid_eq x0 x1 x2 x3 r k _ h0 h1 rfl)) (congrArg x5 (funext fun a => Fin.ext ?_))
  match a with
  | ⟨0, _⟩ => rfl
  | ⟨1, _⟩ => exact h2

theorem lin_eq7 (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x6 : (⟨S1024x1024, .f32⟩ : BufTy).Contents (Elt Ideal)) (r : Fin 4096) (d : Fin 1024) (i : S2x2048x1024.Idx)
    (h0 : (i 0).val = r.val / 2048) (h1 : (i 1).val = r.val % 2048) (h2 : (i 2).val = d.val) :
    val_main_v7 (F := Ideal) x0 x1 x2 x3 x6 i = lin (hid x0 x1 x2 x3) x6 r d := by
  rw [val_main_v7_apply]
  unfold lin
  refine Finset.sum_congr rfl fun k _ => congr (congrArg HMul.hMul (hid_eq x0 x1 x2 x3 r k _ h0 h1 rfl)) (congrArg x6 (funext fun a => Fin.ext ?_))
  match a with
  | ⟨0, _⟩ => rfl
  | ⟨1, _⟩ => exact h2

theorem gate_eq (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x7 : (⟨S1024x48, .f32⟩ : BufTy).Contents (Elt Ideal)) (r : Fin 4096) (d : Fin 48) (i : S2x2048x48.Idx)
    (h0 : (i 0).val = r.val / 2048) (h1 : (i 1).val = r.val % 2048) (h2 : (i 2).val = d.val) :
    val_main_v14 (F := Ideal) x0 x1 x2 x3 x7 i = gate (hid x0 x1 x2 x3) x7 r d := by
  have e : val_main_v8 (F := Ideal) x0 x1 x2 x3 x7 i = ∑ k : Fin 1024, hid x0 x1 x2 x3 r k * x7 (ix2 k d) := by
    rw [val_main_v8_apply]
    refine Finset.sum_congr rfl fun k _ => congr (congrArg HMul.hMul (hid_eq x0 x1 x2 x3 r k _ h0 h1 rfl)) (congrArg x7 (funext fun a => Fin.ext ?_))
    match a with
    | ⟨0, _⟩ => rfl
    | ⟨1, _⟩ => exact h2
  have one : Ideal.ofBits .f32 0x3F800000#32 = 1 := by
    simp [Ideal.ofBits, Ideal.ieee]
    rw [← EReal.coe_mul]
    norm_num
  rw [val_main_v14_apply, val_main_v13_apply, val_main_cst_0_apply, val_main_v12_apply, val_main_v11_apply, val_main_cst_apply, val_main_v10_apply, val_main_v9_apply, e]
  unfold gate
  show Ideal.div (Ideal.ofBits .f32 0x3F800000#32) (Ideal.ofBits .f32 0x3F800000#32 + Ideal.exp (-(∑ k : Fin 1024, hid x0 x1 x2 x3 r k * x7 (ix2 k d)))) = _
  rw [one]
  rfl

theorem pool_eq16 (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x5 : (⟨S1024x1024, .f32⟩ : BufTy).Contents (Elt Ideal)) (x8 : (⟨S32, .f32⟩ : BufTy).Contents (Elt Ideal)) (j : Fin 128) (d : Fin 1024) (i : S2x64x1024.Idx)
    (h0 : (i 0).val = j.val / 64) (h1 : (i 1).val = j.val % 64) (h2 : (i 2).val = d.val) :
    val_main_v16 (F := Ideal) x0 x1 x2 x3 x5 x8 i = Cert.ProjIdeal.Value.pool (hid x0 x1 x2 x3) x5 x8 j d := by
  rw [val_main_v16_apply]
  unfold Cert.ProjIdeal.Value.pool
  refine Finset.sum_congr rfl fun k _ => congr (congrArg HMul.hMul ?_) (congrArg x8 (funext fun a => Fin.ext ?_))
  · have hj : j.val < 128 := j.isLt
    have hk : k.val < 32 := k.isLt
    have hd : d.val < 1024 := d.isLt
    rw [val_main_v15_apply]
    refine lin_eq6 x0 x1 x2 x3 x5 ⟨j.val * 32 + k.val, by omega⟩ d _ ?_ ?_ ?_
    · show ((((i 0).val * 64 + (i 1).val) * 32 + k.val) * 1024 + (i 2).val) / 2097152 = (j.val * 32 + k.val) / 2048
      omega
    · show ((((i 0).val * 64 + (i 1).val) * 32 + k.val) * 1024 + (i 2).val) / 1024 % 2048 = (j.val * 32 + k.val) % 2048
      omega
    · show ((((i 0).val * 64 + (i 1).val) * 32 + k.val) * 1024 + (i 2).val) % 1024 = d.val
      omega
  · match a with
    | ⟨0, _⟩ => rfl

theorem pool_eq18 (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x6 : (⟨S1024x1024, .f32⟩ : BufTy).Contents (Elt Ideal)) (x9 : (⟨S32, .f32⟩ : BufTy).Contents (Elt Ideal)) (j : Fin 128) (d : Fin 1024) (i : S2x64x1024.Idx)
    (h0 : (i 0).val = j.val / 64) (h1 : (i 1).val = j.val % 64) (h2 : (i 2).val = d.val) :
    val_main_v18 (F := Ideal) x0 x1 x2 x3 x6 x9 i = Cert.ProjIdeal.Value.pool (hid x0 x1 x2 x3) x6 x9 j d := by
  rw [val_main_v18_apply]
  unfold Cert.ProjIdeal.Value.pool
  refine Finset.sum_congr rfl fun k _ => congr (congrArg HMul.hMul ?_) (congrArg x9 (funext fun a => Fin.ext ?_))
  · have hj : j.val < 128 := j.isLt
    have hk : k.val < 32 := k.isLt
    have hd : d.val < 1024 := d.isLt
    rw [val_main_v17_apply]
    refine lin_eq7 x0 x1 x2 x3 x6 ⟨j.val * 32 + k.val, by omega⟩ d _ ?_ ?_ ?_
    · show ((((i 0).val * 64 + (i 1).val) * 32 + k.val) * 1024 + (i 2).val) / 2097152 = (j.val * 32 + k.val) / 2048
      omega
    · show ((((i 0).val * 64 + (i 1).val) * 32 + k.val) * 1024 + (i 2).val) / 1024 % 2048 = (j.val * 32 + k.val) % 2048
      omega
    · show ((((i 0).val * 64 + (i 1).val) * 32 + k.val) * 1024 + (i 2).val) % 1024 = d.val
      omega
  · match a with
    | ⟨0, _⟩ => rfl

theorem array19 (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x4 : (⟨S1024x1024, .f32⟩ : BufTy).Contents (Elt Ideal)) :
    val_main_v19 (F := Ideal) x0 x1 x2 x3 x4 = fun y : S4096x1024.Idx => lin (hid x0 x1 x2 x3) x4 (y 0) (y 1) := by
  funext y
  have h0 : (y 0).val < 4096 := (y 0).isLt
  have h1 : (y 1).val < 1024 := (y 1).isLt
  rw [val_main_v19_apply]
  refine lin_eq5 x0 x1 x2 x3 x4 (y 0) (y 1) _ ?_ ?_ ?_
  · show ((y 0).val * 1024 + (y 1).val) / 2097152 = (y 0).val / 2048
    omega
  · show ((y 0).val * 1024 + (y 1).val) / 1024 % 2048 = (y 0).val % 2048
    omega
  · show ((y 0).val * 1024 + (y 1).val) % 1024 = (y 1).val
    omega

theorem array20 (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x5 : (⟨S1024x1024, .f32⟩ : BufTy).Contents (Elt Ideal)) :
    val_main_v20 (F := Ideal) x0 x1 x2 x3 x5 = fun y : S4096x1024.Idx => lin (hid x0 x1 x2 x3) x5 (y 0) (y 1) := by
  funext y
  have h0 : (y 0).val < 4096 := (y 0).isLt
  have h1 : (y 1).val < 1024 := (y 1).isLt
  rw [val_main_v20_apply]
  refine lin_eq6 x0 x1 x2 x3 x5 (y 0) (y 1) _ ?_ ?_ ?_
  · show ((y 0).val * 1024 + (y 1).val) / 2097152 = (y 0).val / 2048
    omega
  · show ((y 0).val * 1024 + (y 1).val) / 1024 % 2048 = (y 0).val % 2048
    omega
  · show ((y 0).val * 1024 + (y 1).val) % 1024 = (y 1).val
    omega

theorem array21 (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x6 : (⟨S1024x1024, .f32⟩ : BufTy).Contents (Elt Ideal)) :
    val_main_v21 (F := Ideal) x0 x1 x2 x3 x6 = fun y : S4096x1024.Idx => lin (hid x0 x1 x2 x3) x6 (y 0) (y 1) := by
  funext y
  have h0 : (y 0).val < 4096 := (y 0).isLt
  have h1 : (y 1).val < 1024 := (y 1).isLt
  rw [val_main_v21_apply]
  refine lin_eq7 x0 x1 x2 x3 x6 (y 0) (y 1) _ ?_ ?_ ?_
  · show ((y 0).val * 1024 + (y 1).val) / 2097152 = (y 0).val / 2048
    omega
  · show ((y 0).val * 1024 + (y 1).val) / 1024 % 2048 = (y 0).val % 2048
    omega
  · show ((y 0).val * 1024 + (y 1).val) % 1024 = (y 1).val
    omega

theorem array22 (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x7 : (⟨S1024x48, .f32⟩ : BufTy).Contents (Elt Ideal)) :
    val_main_v22 (F := Ideal) x0 x1 x2 x3 x7 = fun y : S4096x48.Idx => gate (hid x0 x1 x2 x3) x7 (y 0) (y 1) := by
  funext y
  have h0 : (y 0).val < 4096 := (y 0).isLt
  have h1 : (y 1).val < 48 := (y 1).isLt
  rw [val_main_v22_apply]
  refine gate_eq x0 x1 x2 x3 x7 (y 0) (y 1) _ ?_ ?_ ?_
  · show ((y 0).val * 48 + (y 1).val) / 98304 = (y 0).val / 2048
    omega
  · show ((y 0).val * 48 + (y 1).val) / 48 % 2048 = (y 0).val % 2048
    omega
  · show ((y 0).val * 48 + (y 1).val) % 48 = (y 1).val
    omega

theorem array23 (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x5 : (⟨S1024x1024, .f32⟩ : BufTy).Contents (Elt Ideal)) (x8 : (⟨S32, .f32⟩ : BufTy).Contents (Elt Ideal)) :
    val_main_v23 (F := Ideal) x0 x1 x2 x3 x5 x8 = fun y : S128x1024.Idx => Cert.ProjIdeal.Value.pool (hid x0 x1 x2 x3) x5 x8 (y 0) (y 1) := by
  funext y
  have h0 : (y 0).val < 128 := (y 0).isLt
  have h1 : (y 1).val < 1024 := (y 1).isLt
  rw [val_main_v23_apply]
  refine pool_eq16 x0 x1 x2 x3 x5 x8 (y 0) (y 1) _ ?_ ?_ ?_
  · show ((y 0).val * 1024 + (y 1).val) / 65536 = (y 0).val / 64
    omega
  · show ((y 0).val * 1024 + (y 1).val) / 1024 % 64 = (y 0).val % 64
    omega
  · show ((y 0).val * 1024 + (y 1).val) % 1024 = (y 1).val
    omega

theorem array24 (x0 : (⟨S2x2048x1024, .f32⟩ : BufTy).Contents (Elt Ideal)) (x1 : (⟨S2x2048x3, .f32⟩ : BufTy).Contents (Elt Ideal)) (x2 : (⟨S3x1024, .f32⟩ : BufTy).Contents (Elt Ideal)) (x3 : (⟨S1024, .f32⟩ : BufTy).Contents (Elt Ideal)) (x6 : (⟨S1024x1024, .f32⟩ : BufTy).Contents (Elt Ideal)) (x9 : (⟨S32, .f32⟩ : BufTy).Contents (Elt Ideal)) :
    val_main_v24 (F := Ideal) x0 x1 x2 x3 x6 x9 = fun y : S128x1024.Idx => Cert.ProjIdeal.Value.pool (hid x0 x1 x2 x3) x6 x9 (y 0) (y 1) := by
  funext y
  have h0 : (y 0).val < 128 := (y 0).isLt
  have h1 : (y 1).val < 1024 := (y 1).isLt
  rw [val_main_v24_apply]
  refine pool_eq18 x0 x1 x2 x3 x6 x9 (y 0) (y 1) _ ?_ ?_ ?_
  · show ((y 0).val * 1024 + (y 1).val) / 65536 = (y 0).val / 64
    omega
  · show ((y 0).val * 1024 + (y 1).val) / 1024 % 64 = (y 0).val % 64
    omega
  · show ((y 0).val * 1024 + (y 1).val) % 1024 = (y 1).val
    omega

end Cert.ProjRefIdeal.Value

end
-- ==== Proof.Projections.Main.lean ====
/- The projection call and its reference end with the same six arrays. -/
module

public import proofs.«01_k».proof.Defs
public import proofs.«01_k».proof.Proof.Projections.Array
public import proofs.«01_k».proof.Proof.Projections.Ref
public import proofs.«01_k».proof.Proof.Gen.ProjRefIdeal.Run

@[expose] public section

set_option maxRecDepth 16384

noncomputable section

namespace Cert.ProjRefIdeal.Value

open Idealize.ShloMosaic Idealize.ShloMosaic.TcCoe Cert.ProjRefIdeal.Gen Cert.ProjRefIdeal Cert.ProjRefIdeal.Read
open Cert.ProjIdeal.Value (hid lin gate)

/-- From equal arguments the projection call and its reference end with equal results. -/
theorem algebraic : Cert.algebraic_ProjIdeal_ProjRefIdeal := by
  intro m g m' g' hpre hag
  refine ⟨fun c => (fun y : S4096x1024.Idx => lin (Cert.ProjIdeal.Value.hidden m c) (m ((c : Thread Cert.ProjIdeal.nD Cert.ProjIdeal.τ).loc Cert.ProjIdeal.main_arg4)) (y 0) (y 1)),
    fun c => (fun y : S4096x1024.Idx => lin (Cert.ProjIdeal.Value.hidden m c) (m ((c : Thread Cert.ProjIdeal.nD Cert.ProjIdeal.τ).loc Cert.ProjIdeal.main_arg5)) (y 0) (y 1)),
    fun c => (fun y : S4096x1024.Idx => lin (Cert.ProjIdeal.Value.hidden m c) (m ((c : Thread Cert.ProjIdeal.nD Cert.ProjIdeal.τ).loc Cert.ProjIdeal.main_arg6)) (y 0) (y 1)),
    fun c => (fun y : S4096x48.Idx => gate (Cert.ProjIdeal.Value.hidden m c) (m ((c : Thread Cert.ProjIdeal.nD Cert.ProjIdeal.τ).loc Cert.ProjIdeal.main_arg7)) (y 0) (y 1)),
    fun c => (fun y : S128x1024.Idx => Cert.ProjIdeal.Value.pool (Cert.ProjIdeal.Value.hidden m c) (m ((c : Thread Cert.ProjIdeal.nD Cert.ProjIdeal.τ).loc Cert.ProjIdeal.main_arg5)) (m ((c : Thread Cert.ProjIdeal.nD Cert.ProjIdeal.τ).loc Cert.ProjIdeal.main_arg8)) (y 0) (y 1)),
    fun c => (fun y : S128x1024.Idx => Cert.ProjIdeal.Value.pool (Cert.ProjIdeal.Value.hidden m c) (m ((c : Thread Cert.ProjIdeal.nD Cert.ProjIdeal.τ).loc Cert.ProjIdeal.main_arg6)) (m ((c : Thread Cert.ProjIdeal.nD Cert.ProjIdeal.τ).loc Cert.ProjIdeal.main_arg9)) (y 0) (y 1)), ?_, ?_⟩
  · exact (θ_run _ _ _).mono (fun r h c => ⟨(h c).1.trans (Cert.ProjIdeal.Value.final10 m c), (h c).2.1.trans (Cert.ProjIdeal.Value.final11 m c), (h c).2.2.1.trans (Cert.ProjIdeal.Value.final12 m c), (h c).2.2.2.1.trans (Cert.ProjIdeal.Value.final13 m c), (h c).2.2.2.2.1.trans (Cert.ProjIdeal.Value.final14 m c), (h c).2.2.2.2.2.1.trans (Cert.ProjIdeal.Value.final15 m c), (h c).2.2.2.2.2.2⟩) (Cert.ProjIdeal.Value.run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.ProjRefIdeal.Value.run m' g')
    all_goals obtain ⟨e0, e1, e2, e3, e4, e5, e6, e7, e8, e9⟩ := hag c
    · refine Eq.trans (show _ = val_main_v19 (F := Ideal) (m' ((c : Thread nD τ).loc main_arg0)) (m' ((c : Thread nD τ).loc main_arg1)) (m' ((c : Thread nD τ).loc main_arg2)) (m' ((c : Thread nD τ).loc main_arg3)) (m' ((c : Thread nD τ).loc main_arg4)) from rfl) ?_
      rw [array19, e0, e1, e2, e3, e4]
    · refine Eq.trans (show _ = val_main_v20 (F := Ideal) (m' ((c : Thread nD τ).loc main_arg0)) (m' ((c : Thread nD τ).loc main_arg1)) (m' ((c : Thread nD τ).loc main_arg2)) (m' ((c : Thread nD τ).loc main_arg3)) (m' ((c : Thread nD τ).loc main_arg5)) from rfl) ?_
      rw [array20, e0, e1, e2, e3, e5]
    · refine Eq.trans (show _ = val_main_v21 (F := Ideal) (m' ((c : Thread nD τ).loc main_arg0)) (m' ((c : Thread nD τ).loc main_arg1)) (m' ((c : Thread nD τ).loc main_arg2)) (m' ((c : Thread nD τ).loc main_arg3)) (m' ((c : Thread nD τ).loc main_arg6)) from rfl) ?_
      rw [array21, e0, e1, e2, e3, e6]
    · refine Eq.trans (show _ = val_main_v22 (F := Ideal) (m' ((c : Thread nD τ).loc main_arg0)) (m' ((c : Thread nD τ).loc main_arg1)) (m' ((c : Thread nD τ).loc main_arg2)) (m' ((c : Thread nD τ).loc main_arg3)) (m' ((c : Thread nD τ).loc main_arg7)) from rfl) ?_
      rw [array22, e0, e1, e2, e3, e7]
    · refine Eq.trans (show _ = val_main_v23 (F := Ideal) (m' ((c : Thread nD τ).loc main_arg0)) (m' ((c : Thread nD τ).loc main_arg1)) (m' ((c : Thread nD τ).loc main_arg2)) (m' ((c : Thread nD τ).loc main_arg3)) (m' ((c : Thread nD τ).loc main_arg5)) (m' ((c : Thread nD τ).loc main_arg8)) from rfl) ?_
      rw [array23, e0, e1, e2, e3, e5, e8]
    · refine Eq.trans (show _ = val_main_v24 (F := Ideal) (m' ((c : Thread nD τ).loc main_arg0)) (m' ((c : Thread nD τ).loc main_arg1)) (m' ((c : Thread nD τ).loc main_arg2)) (m' ((c : Thread nD τ).loc main_arg3)) (m' ((c : Thread nD τ).loc main_arg6)) (m' ((c : Thread nD τ).loc main_arg9)) from rfl) ?_
      rw [array24, e0, e1, e2, e3, e6, e9]

end Cert.ProjRefIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Ideal.Main
public import proofs.«01_k».proof.Proof.Gen.Attn.Frame
public import proofs.«01_k».proof.Proof.Gen.AttnIdeal.Value
public import proofs.«01_k».proof.Proof.Gen.Pre_topi_range
public import proofs.«01_k».proof.Proof.Gen.AttnRefIdeal.Run
public import proofs.«01_k».proof.Proof.Gen.AttnRefIdeal.Read
public import proofs.«01_k».proof.Proof.Gen.OutIdeal.Value
public import proofs.«01_k».proof.Proof.Gen.ProjIdeal.Value
public import proofs.«01_k».proof.Proof.Gen.OutRefIdeal.Run
public import proofs.«01_k».proof.Proof.Gen.OutRefIdeal.Read
public import proofs.«01_k».proof.Proof.Gen.ProjRefIdeal.Run
public import proofs.«01_k».proof.Proof.Gen.ProjRefIdeal.Read
public import proofs.«01_k».proof.Proof.Gen.Out.Frame
public import proofs.«01_k».proof.Proof.Gen.Proj.Frame
public import proofs.«01_k».proof.Proof.Bits.Main
public import proofs.«01_k».proof.Proof.Value.AttnBits
public import proofs.«01_k».proof.Proof.Value.AttnHyps
public import proofs.«01_k».proof.Proof.Value.Main
public import proofs.«01_k».proof.Proof.OutProd.Value
public import proofs.«01_k».proof.Proof.Projections.Main
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The certificate's claims. -/
theorem claim : Cert.Claim := ⟨Cert.Kernel.Gen.facts, Cert.KernelIdeal.Gen.facts, Cert.ReferenceIdeal.Gen.facts,
  Cert.Attn.Gen.facts, Cert.AttnIdeal.Gen.facts, Cert.AttnRefIdeal.Gen.facts, Cert.Out.Gen.facts, Cert.OutIdeal.Gen.facts,
  Cert.OutRefIdeal.Gen.facts, Cert.Proj.Gen.facts, Cert.ProjIdeal.Gen.facts, Cert.ProjRefIdeal.Gen.facts, Cert.Pre_topi_range.Gen.facts,
  fun m g _ => Cert.Kernel.Gen.frame m g, fun m g _ => Cert.KernelIdeal.Gen.frame m g,
  fun m g _ => (θ_run _ _ _).mono
    (fun r h => ⟨fun c => (h c).2, sem_eq_zero_of_no_sems (by decide) r.2⟩) (Cert.ReferenceIdeal.Value.run m g),
  fun m g h => Cert.Attn.Gen.frame m g (Cert.Attn.Value.hyps_of_pre m h),
  fun m g h => Cert.AttnIdeal.Gen.frame m g (Cert.AttnIdeal.Value.hyps_of_pre m h),
  fun m g _ => (θ_run _ _ _).mono
    (fun r h => ⟨fun c => (h c).2, sem_eq_zero_of_no_sems (by decide) r.2⟩) (Cert.AttnRefIdeal.Value.run m g),
  fun m g _ => Cert.Out.Gen.frame m g, fun m g _ => Cert.OutIdeal.Gen.frame m g,
  fun m g _ => (θ_run _ _ _).mono
    (fun r h => ⟨fun c => (h c).2, sem_eq_zero_of_no_sems (by decide) r.2⟩) (Cert.OutRefIdeal.Value.run m g),
  fun m g _ => Cert.Proj.Gen.frame m g, fun m g _ => Cert.ProjIdeal.Gen.frame m g,
  fun m g _ => (θ_run _ _ _).mono
    (fun r h => ⟨fun c => (h c).2.2.2.2.2.2, sem_eq_zero_of_no_sems (by decide) r.2⟩) (Cert.ProjRefIdeal.Value.run m g),
  trivial, trivial, Cert.AttnRefIdeal.Value.algebraic, trivial, Cert.OutRefIdeal.Value.algebraic, trivial,
  Cert.ProjRefIdeal.Value.algebraic⟩

end Cert.Proof

end
